-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unclipped_KernelIdeal [hPre_unclipped_KernelIdeal : Cert.Pre_unclipped_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_unclipped_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unclipped_ReferenceIdeal [hPre_unclipped_ReferenceIdeal : Cert.Pre_unclipped_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unclipped_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_unclipped_KernelIdeal [hKernelIdeal : Cert.KernelIdeal.Facts] [hPre_unclipped_KernelIdeal : Cert.Pre_unclipped_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unclipped_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_unclipped_ReferenceIdeal [hReferenceIdeal : Cert.ReferenceIdeal.Facts] [hPre_unclipped_ReferenceIdeal : Cert.Pre_unclipped_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unclipped_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_unclipped_KernelIdeal [hKernelIdeal : Cert.KernelIdeal.Facts] [hReferenceIdeal : Cert.ReferenceIdeal.Facts] [hPre_unclipped_KernelIdeal : Cert.Pre_unclipped_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unclipped_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 8192]⟩ ⟨2, ![4096, 8192]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_on_linear [hKernelIdeal : Cert.KernelIdeal.Facts] [hReferenceIdeal : Cert.ReferenceIdeal.Facts] [hOn_linear : Cert.On_linear.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 8192]⟩ ⟨2, ![4096, 8192]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![128, 8192]⟩ : Shape).Idx, (Layout.block ⟨2, ![128, 8192]⟩ ⟨2, ![4096, 8192]⟩ 0 32 c ((Cert.On_linear.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![128, 8192]⟩ : Shape).Idx → _) i = 1#1 → r.2.mem ((c.tc : Thread Cert.KernelIdeal.nD Cert.KernelIdeal.τ).loc Cert.KernelIdeal.main_v12) i = (Layout.block ⟨2, ![128, 8192]⟩ ⟨2, ![4096, 8192]⟩ 0 32 c v0 : (⟨2, ![128, 8192]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![4096, 8192]⟩ : Shape).Idx, (Cert.On_linear.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v6) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_unclipped_KernelIdeal : Cert.Pre_unclipped_KernelIdeal.Facts) (hPre_unclipped_ReferenceIdeal : Cert.Pre_unclipped_ReferenceIdeal.Facts) (hOn_linear : Cert.On_linear.Facts),
    quiescent_Kernel (hKernel := hKernel)
    ∧ quiescent_KernelIdeal (hKernelIdeal := hKernelIdeal)
    ∧ quiescent_KernelIdeal_pre_unclipped_KernelIdeal (hKernelIdeal := hKernelIdeal) (hPre_unclipped_KernelIdeal := hPre_unclipped_KernelIdeal)
    ∧ quiescent_ReferenceIdeal (hReferenceIdeal := hReferenceIdeal)
    ∧ quiescent_ReferenceIdeal_pre_unclipped_ReferenceIdeal (hReferenceIdeal := hReferenceIdeal) (hPre_unclipped_ReferenceIdeal := hPre_unclipped_ReferenceIdeal)
    ∧ preserves_Kernel_KernelIdeal
    ∧ algebraic_KernelIdeal_ReferenceIdeal_pre_unclipped_KernelIdeal (hKernelIdeal := hKernelIdeal) (hReferenceIdeal := hReferenceIdeal) (hPre_unclipped_KernelIdeal := hPre_unclipped_KernelIdeal)
    ∧ algebraic_KernelIdeal_ReferenceIdeal_on_linear (hKernelIdeal := hKernelIdeal) (hReferenceIdeal := hReferenceIdeal) (hOn_linear := hOn_linear)
-- ==== On_linear.lean ====
abbrev S4096x4096 : Shape := ⟨2, ![4096, 4096]⟩
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : FVec F S4096x4096 .f32) (main_arg1 : FVec F S4096x8192 .f32) : IVec S4096x8192 1 :=
  let main_v0 : FVec F S4096x8192 .f32 := (fun l r => Host.dotGeneral dot_S4096x4096_S4096x8192_S4096x8192_1_0_0_1_n_n none l r) main_arg0 main_arg1
  let main_v1 : FVec F S4096x8192 .f32 := Host.absf main_v0
  let main_cst : FVec F S_ .f32 := constant S_ .f32 0x42700000#32
  let main_v2 : FVec F S4096x8192 .f32 := broadcastInDim S4096x8192 ![] bcast_S_S4096x8192 main_cst
  let main_v3 : IVec S4096x8192 1 := cmpf .ole main_v1 main_v2
  main_v3
-- ==== Pre_unclipped_KernelIdeal.lean ====
abbrev S4096x128 : Shape := ⟨2, ![4096, 128]⟩
abbrev S128x8192 : Shape := ⟨2, ![128, 8192]⟩
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  dot_S4096x128_S128x8192_S4096x8192_1_0_0_1_n_n_wf : DotDims.WF S4096x128 S128x8192 S4096x8192 [1] [0] [0] [1] [] []

variable [Facts]

def dot_S4096x128_S128x8192_S4096x8192_1_0_0_1_n_n : DotDims S4096x128 S128x8192 S4096x8192 where
  lhsContracting := [1]
  rhsContracting := [0]
  lhsNonContracting := [0]
  rhsNonContracting := [1]
  lhsBatch := []
  rhsBatch := []
  wf := dot_S4096x128_S128x8192_S4096x8192_1_0_0_1_n_n_wf
def fn {F : FTy → Type} [FloatOps F] (main_arg0 : FVec F S4096x128 .f32) (main_arg1 : FVec F S128x8192 .f32) : IVec S4096x8192 1 :=
  let main_v0 : FVec F S4096x8192 .f32 := (fun l r => Host.dotGeneral dot_S4096x128_S128x8192_S4096x8192_1_0_0_1_n_n none l r) main_arg0 main_arg1
  let main_v1 : FVec F S4096x8192 .f32 := Host.absf main_v0
  let main_cst : FVec F S_ .f32 := constant S_ .f32 0x3FF00000#32
  let main_v2 : FVec F S4096x8192 .f32 := broadcastInDim S4096x8192 ![] bcast_S_S4096x8192 main_cst
  let main_v3 : IVec S4096x8192 1 := cmpf .ole main_v1 main_v2
  main_v3
-- ==== Pre_unclipped_ReferenceIdeal.lean ====
abbrev S4096x4096 : Shape := ⟨2, ![4096, 4096]⟩
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : FVec F S4096x4096 .f32) (main_arg1 : FVec F S4096x8192 .f32) : IVec S4096x8192 1 :=
  let main_v0 : FVec F S4096x8192 .f32 := (fun l r => Host.dotGeneral dot_S4096x4096_S4096x8192_S4096x8192_1_0_0_1_n_n none l r) main_arg0 main_arg1
  let main_v1 : FVec F S4096x8192 .f32 := Host.absf main_v0
  let main_cst : FVec F S_ .f32 := constant S_ .f32 0x3FF00000#32
  let main_v2 : FVec F S4096x8192 .f32 := broadcastInDim S4096x8192 ![] bcast_S_S4096x8192 main_cst
  let main_v3 : IVec S4096x8192 1 := cmpf .ole main_v1 main_v2
  main_v3
-- ==== Kernel.lean ====
abbrev S4096x128 : Shape := ⟨2, ![4096, 128]⟩
abbrev S128x8192 : Shape := ⟨2, ![128, 8192]⟩
abbrev S32 : Shape := ⟨1, ![32]⟩
abbrev S1x32 : Shape := ⟨2, ![1, 32]⟩
abbrev S_ : Shape := ⟨0, ![]⟩
abbrev S32x1 : Shape := ⟨2, ![32, 1]⟩
abbrev S2x128x4096 : Shape := ⟨3, ![2, 128, 4096]⟩
abbrev S2 : Shape := ⟨1, ![2]⟩
abbrev S1x1 : Shape := ⟨2, ![1, 1]⟩
abbrev S128x128 : Shape := ⟨2, ![128, 128]⟩
abbrev S128x4096 : Shape := ⟨2, ![128, 4096]⟩
abbrev S1x128x4096 : Shape := ⟨3, ![1, 128, 4096]⟩
abbrev S1 : Shape := ⟨1, ![1]⟩

abbrev nBuf : Space → Nat
  | .hbm => 19
  | .vmem => 5
  | .smem => 2
  | _ => 0

abbrev bufTy : (tb : Table) → Fin (tcTables nBuf tb) → BufTy
  | .hbm, ⟨0, _⟩ => ⟨S4096x128, .f32⟩
  | .hbm, ⟨1, _⟩ => ⟨S128x8192, .f32⟩
  | .hbm, ⟨2, _⟩ => ⟨S32, .i32⟩
  | .hbm, ⟨3, _⟩ => ⟨S32, .i32⟩
  | .hbm, ⟨4, _⟩ => ⟨S1x32, .i32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i1⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S32, .i32⟩
  | .hbm, ⟨15, _⟩ => ⟨S32x1, .i32⟩
  | .hbm, ⟨16, _⟩ => ⟨S32, .i32⟩
  | .hbm, ⟨17, _⟩ => ⟨S1x32, .i32⟩
  | .hbm, ⟨18, _⟩ => ⟨S128x8192, .f32⟩
  | .local _ .vmem, ⟨0, _⟩ => ⟨S4096x128, .f32⟩
  | .local _ .vmem, ⟨1, _⟩ => ⟨S128x8192, .f32⟩
  | .local _ .vmem, ⟨2, _⟩ => ⟨S128x8192, .f32⟩
  | .local _ .vmem, ⟨3, _⟩ => ⟨S2x128x4096, .f32⟩
  | .local _ .vmem, ⟨4, _⟩ => ⟨S2x128x4096, .f32⟩
  | .local _ .smem, ⟨0, _⟩ => ⟨S1x32, .i32⟩
  | .local _ .smem, ⟨1, _⟩ => ⟨S1x32, .i32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 3 → Bool
  | ⟨0, _⟩ => true
  | ⟨1, _⟩ => true
  | ⟨2, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 3 13 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_c_1 : Ref sig .tc := ⟨.hbm, 5, rfl⟩
abbrev main_v2 : Ref sig .tc := ⟨.hbm, 6, rfl⟩
abbrev main_v3 : Ref sig .tc := ⟨.hbm, 7, rfl⟩
abbrev main_c_2 : Ref sig .tc := ⟨.hbm, 8, rfl⟩
abbrev main_v4 : Ref sig .tc := ⟨.hbm, 9, rfl⟩
abbrev main_v5 : Ref sig .tc := ⟨.hbm, 10, rfl⟩
abbrev main_c_3 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 2

abbrev nD : Nat := 32
abbrev τ : Topo := Topo.v7x

variable {F : FTy → Type} [FloatOps F]

abbrev grid0 : Pipeline.Grid := .none

def k0_off1 (d0 : Dev nD) : Fin 2 → Nat :=
  let c0 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : Index := Scalar.indexCast v2
  ![0, v3.toNat]
def k0_off2 (v4 : BitVec 32) : Fin 2 → Nat :=
  let c0_3 : Index := 0#32
  let c32_i32_0 : BitVec 32 := 32#32
  let v5 : BitVec 32 := Scalar.addi v4 c32_i32_0
  let c1_i32_1 : BitVec 32 := 1#32
  let v6 : BitVec 32 := Scalar.subi v5 c1_i32_1
  let c32_i32_2 : BitVec 32 := 32#32
  let v7 : BitVec 32 := Scalar.remsi v6 c32_i32_2
  let v8 : Index := Scalar.indexCast v7
  ![0, v8.toNat]

def k0_off3 (v4 : BitVec 32) : Fin 2 → Nat :=
  let c0_6 : Index := 0#32
  let c1_i32_4 : BitVec 32 := 1#32
  let v10 : BitVec 32 := Scalar.addi v4 c1_i32_4
  let c32_i32_5 : BitVec 32 := 32#32
  let v11 : BitVec 32 := Scalar.remsi v10 c32_i32_5
  let v12 : Index := Scalar.indexCast v11
  ![0, v12.toNat]
def k0_dev1 (v9 : BitVec 32) : Nat :=
  let c0_i32 : BitVec 32 := 0#32
  let c1_i32_8 : BitVec 32 := 1#32
  let v15 : BitVec 32 := Scalar.muli v9 c1_i32_8
  let v16 : BitVec 32 := Scalar.addi c0_i32 v15
  v16.toNat

def k0_dev2 (v13 : BitVec 32) : Nat :=
  let c0_i32_11 : BitVec 32 := 0#32
  let c1_i32_10 : BitVec 32 := 1#32
  let v17 : BitVec 32 := Scalar.muli v13 c1_i32_10
  let v18 : BitVec 32 := Scalar.addi c0_i32_11 v17
  v18.toNat

def k0_off4 (v9 : BitVec 32) : Fin 2 → Nat :=
  let c128_i32 : BitVec 32 := 128#32
  let v19 : BitVec 32 := Scalar.muli v9 c128_i32
  let v20 : Index := Scalar.indexCast v19
  let c0_12 : Index := 0#32
  ![v20.toNat, 0]
def k0_off5 (v13 : BitVec 32) : Fin 2 → Nat :=
  let c128_i32_18 : BitVec 32 := 128#32
  let v29 : BitVec 32 := Scalar.muli v13 c128_i32_18
  let v30 : Index := Scalar.indexCast v29
  let c0_19 : Index := 0#32
  ![v30.toNat, 0]
def k0_dev3 (v13 : BitVec 32) : Nat :=
  let c0_i32_30 : BitVec 32 := 0#32
  let c1_i32_29 : BitVec 32 := 1#32
  let v39 : BitVec 32 := Scalar.muli v13 c1_i32_29
  let v40 : BitVec 32 := Scalar.addi c0_i32_30 v39
  v40.toNat
def k0_dev4 (v9 : BitVec 32) : Nat :=
  let c0_i32_40 : BitVec 32 := 0#32
  let c1_i32_39 : BitVec 32 := 1#32
  let v49 : BitVec 32 := Scalar.muli v9 c1_i32_39
  let v50 : BitVec 32 := Scalar.addi c0_i32_40 v49
  v50.toNat
def k0_off6 (v4 : BitVec 32) : Fin 2 → Nat :=
  let c0_48 : Index := 0#32
  let c64_i32 : BitVec 32 := 64#32
  let v59 : BitVec 32 := Scalar.addi v4 c64_i32
  let c2_i32_45 : BitVec 32 := 2#32
  let v60 : BitVec 32 := Scalar.subi v59 c2_i32_45
  let c0_i32_46 : BitVec 32 := 0#32
  let v61 : BitVec 32 := Scalar.subi v60 c0_i32_46
  let c32_i32_47 : BitVec 32 := 32#32
  let v62 : BitVec 32 := Scalar.remsi v61 c32_i32_47
  let v63 : Index := Scalar.indexCast v62
  ![0, v63.toNat]
def k0_off7 (v64 : BitVec 32) : Fin 2 → Nat :=
  let c128_i32_49 : BitVec 32 := 128#32
  let v65 : BitVec 32 := Scalar.muli v64 c128_i32_49
  let v66 : Index := Scalar.indexCast v65
  let c0_50 : Index := 0#32
  ![v66.toNat, 0]

def k0_chk4 (v64 : BitVec 32) : Prop :=
  (∀ a, (k0_off7 v64) a + S128x128.size a ≤ S4096x128.size a)
theorem k0_off7_inb : ∀ (v64 : BitVec 32) (k0_hw4 : k0_chk4 v64), ∀ a, (k0_off7 v64) a + S128x128.size a ≤ S4096x128.size a := fun v64 k0_hw4 => k0_hw4

def k0_off8 (v4 : BitVec 32) : Fin 2 → Nat :=
  let c0_57 : Index := 0#32
  let c2_i32_54 : BitVec 32 := 2#32
  let v72 : BitVec 32 := Scalar.addi v4 c2_i32_54
  let c0_i32_55 : BitVec 32 := 0#32
  let v73 : BitVec 32 := Scalar.addi v72 c0_i32_55
  let c32_i32_56 : BitVec 32 := 32#32
  let v74 : BitVec 32 := Scalar.remsi v73 c32_i32_56
  let v75 : Index := Scalar.indexCast v74
  ![0, v75.toNat]
def k0_off9 (v76 : BitVec 32) : Fin 2 → Nat :=
  let c128_i32_58 : BitVec 32 := 128#32
  let v77 : BitVec 32 := Scalar.muli v76 c128_i32_58
  let v78 : Index := Scalar.indexCast v77
  let c0_59 : Index := 0#32
  ![v78.toNat, 0]

def k0_chk5 (v76 : BitVec 32) : Prop :=
  (∀ a, (k0_off9 v76) a + S128x128.size a ≤ S4096x128.size a)
theorem k0_off9_inb : ∀ (v76 : BitVec 32) (k0_hw5 : k0_chk5 v76), ∀ a, (k0_off9 v76) a + S128x128.size a ≤ S4096x128.size a := fun v76 k0_hw5 => k0_hw5

def k0_dev5 (v9 : BitVec 32) : Nat :=
  let c0_i32_83 : BitVec 32 := 0#32
  let c1_i32_82 : BitVec 32 := 1#32
  let v96 : BitVec 32 := Scalar.muli v9 c1_i32_82
  let v97 : BitVec 32 := Scalar.addi c0_i32_83 v96
  v97.toNat
def k0_dev6 (v13 : BitVec 32) : Nat :=
  let c0_i32_86 : BitVec 32 := 0#32
  let c1_i32_85 : BitVec 32 := 1#32
  let v98 : BitVec 32 := Scalar.muli v13 c1_i32_85
  let v99 : BitVec 32 := Scalar.addi c0_i32_86 v98
  v99.toNat
def k0_dev7 (v13 : BitVec 32) : Nat :=
  let c0_i32_125 : BitVec 32 := 0#32
  let c1_i32_124 : BitVec 32 := 1#32
  let v128 : BitVec 32 := Scalar.muli v13 c1_i32_124
  let v129 : BitVec 32 := Scalar.addi c0_i32_125 v128
  v129.toNat
def k0_dev8 (v9 : BitVec 32) : Nat :=
  let c0_i32_137 : BitVec 32 := 0#32
  let c1_i32_136 : BitVec 32 := 1#32
  let v138 : BitVec 32 := Scalar.muli v9 c1_i32_136
  let v139 : BitVec 32 := Scalar.addi c0_i32_137 v138
  v139.toNat
def k0_off10 (v4 : BitVec 32) : Fin 2 → Nat :=
  let c0_146 : Index := 0#32
  let c64_i32_142 : BitVec 32 := 64#32
  let v148 : BitVec 32 := Scalar.addi v4 c64_i32_142
  let c2_i32_143 : BitVec 32 := 2#32
  let v149 : BitVec 32 := Scalar.subi v148 c2_i32_143
  let c1_i32_144 : BitVec 32 := 1#32
  let v150 : BitVec 32 := Scalar.subi v149 c1_i32_144
  let c32_i32_145 : BitVec 32 := 32#32
  let v151 : BitVec 32 := Scalar.remsi v150 c32_i32_145
  let v152 : Index := Scalar.indexCast v151
  ![0, v152.toNat]
def k0_off11 (v153 : BitVec 32) : Fin 2 → Nat :=
  let c128_i32_147 : BitVec 32 := 128#32
  let v154 : BitVec 32 := Scalar.muli v153 c128_i32_147
  let v155 : Index := Scalar.indexCast v154
  let c0_148 : Index := 0#32
  ![v155.toNat, 0]

def k0_chk6 (v153 : BitVec 32) : Prop :=
  (∀ a, (k0_off11 v153) a + S128x128.size a ≤ S4096x128.size a)
theorem k0_off11_inb : ∀ (v153 : BitVec 32) (k0_hw6 : k0_chk6 v153), ∀ a, (k0_off11 v153) a + S128x128.size a ≤ S4096x128.size a := fun v153 k0_hw6 => k0_hw6

def k0_off12 (v4 : BitVec 32) : Fin 2 → Nat :=
  let c0_155 : Index := 0#32
  let c2_i32_152 : BitVec 32 := 2#32
  let v161 : BitVec 32 := Scalar.addi v4 c2_i32_152
  let c1_i32_153 : BitVec 32 := 1#32
  let v162 : BitVec 32 := Scalar.addi v161 c1_i32_153
  let c32_i32_154 : BitVec 32 := 32#32
  let v163 : BitVec 32 := Scalar.remsi v162 c32_i32_154
  let v164 : Index := Scalar.indexCast v163
  ![0, v164.toNat]
def k0_off13 (v165 : BitVec 32) : Fin 2 → Nat :=
  let c128_i32_156 : BitVec 32 := 128#32
  let v166 : BitVec 32 := Scalar.muli v165 c128_i32_156
  let v167 : Index := Scalar.indexCast v166
  let c0_157 : Index := 0#32
  ![v167.toNat, 0]

def k0_chk7 (v165 : BitVec 32) : Prop :=
  (∀ a, (k0_off13 v165) a + S128x128.size a ≤ S4096x128.size a)
theorem k0_off13_inb : ∀ (v165 : BitVec 32) (k0_hw7 : k0_chk7 v165), ∀ a, (k0_off13 v165) a + S128x128.size a ≤ S4096x128.size a := fun v165 k0_hw7 => k0_hw7

def k0_dev9 (v9 : BitVec 32) : Nat :=
  let c0_i32_181 : BitVec 32 := 0#32
  let c1_i32_180 : BitVec 32 := 1#32
  let v185 : BitVec 32 := Scalar.muli v9 c1_i32_180
  let v186 : BitVec 32 := Scalar.addi c0_i32_181 v185
  v186.toNat
def k0_dev10 (v13 : BitVec 32) : Nat :=
  let c0_i32_184 : BitVec 32 := 0#32
  let c1_i32_183 : BitVec 32 := 1#32
  let v187 : BitVec 32 := Scalar.muli v13 c1_i32_183
  let v188 : BitVec 32 := Scalar.addi c0_i32_184 v187
  v188.toNat
def k0_dev11 (v13 : BitVec 32) : Nat :=
  let c0_i32_224 : BitVec 32 := 0#32
  let c1_i32_223 : BitVec 32 := 1#32
  let v217 : BitVec 32 := Scalar.muli v13 c1_i32_223
  let v218 : BitVec 32 := Scalar.addi c0_i32_224 v217
  v218.toNat
def k0_dev12 (v9 : BitVec 32) : Nat :=
  let c0_i32_236 : BitVec 32 := 0#32
  let c1_i32_235 : BitVec 32 := 1#32
  let v227 : BitVec 32 := Scalar.muli v9 c1_i32_235
  let v228 : BitVec 32 := Scalar.addi c0_i32_236 v227
  v228.toNat
def k0_off14 (v4 : BitVec 32) : Fin 2 → Nat :=
  let c0_245 : Index := 0#32
  let c64_i32_241 : BitVec 32 := 64#32
  let v237 : BitVec 32 := Scalar.addi v4 c64_i32_241
  let c2_i32_242 : BitVec 32 := 2#32
  let v238 : BitVec 32 := Scalar.subi v237 c2_i32_242
  let c2_i32_243 : BitVec 32 := 2#32
  let v239 : BitVec 32 := Scalar.subi v238 c2_i32_243
  let c32_i32_244 : BitVec 32 := 32#32
  let v240 : BitVec 32 := Scalar.remsi v239 c32_i32_244
  let v241 : Index := Scalar.indexCast v240
  ![0, v241.toNat]
def k0_off15 (v242 : BitVec 32) : Fin 2 → Nat :=
  let c128_i32_246 : BitVec 32 := 128#32
  let v243 : BitVec 32 := Scalar.muli v242 c128_i32_246
  let v244 : Index := Scalar.indexCast v243
  let c0_247 : Index := 0#32
  ![v244.toNat, 0]

def k0_chk8 (v242 : BitVec 32) : Prop :=
  (∀ a, (k0_off15 v242) a + S128x128.size a ≤ S4096x128.size a)
theorem k0_off15_inb : ∀ (v242 : BitVec 32) (k0_hw8 : k0_chk8 v242), ∀ a, (k0_off15 v242) a + S128x128.size a ≤ S4096x128.size a := fun v242 k0_hw8 => k0_hw8

def k0_off16 (v4 : BitVec 32) : Fin 2 → Nat :=
  let c0_254 : Index := 0#32
  let c2_i32_251 : BitVec 32 := 2#32
  let v250 : BitVec 32 := Scalar.addi v4 c2_i32_251
  let c2_i32_252 : BitVec 32 := 2#32
  let v251 : BitVec 32 := Scalar.addi v250 c2_i32_252
  let c32_i32_253 : BitVec 32 := 32#32
  let v252 : BitVec 32 := Scalar.remsi v251 c32_i32_253
  let v253 : Index := Scalar.indexCast v252
  ![0, v253.toNat]
def k0_off17 (v254 : BitVec 32) : Fin 2 → Nat :=
  let c128_i32_255 : BitVec 32 := 128#32
  let v255 : BitVec 32 := Scalar.muli v254 c128_i32_255
  let v256 : Index := Scalar.indexCast v255
  let c0_256 : Index := 0#32
  ![v256.toNat, 0]

def k0_chk9 (v254 : BitVec 32) : Prop :=
  (∀ a, (k0_off17 v254) a + S128x128.size a ≤ S4096x128.size a)
theorem k0_off17_inb : ∀ (v254 : BitVec 32) (k0_hw9 : k0_chk9 v254), ∀ a, (k0_off17 v254) a + S128x128.size a ≤ S4096x128.size a := fun v254 k0_hw9 => k0_hw9

def k0_dev13 (v9 : BitVec 32) : Nat :=
  let c0_i32_280 : BitVec 32 := 0#32
  let c1_i32_279 : BitVec 32 := 1#32
  let v274 : BitVec 32 := Scalar.muli v9 c1_i32_279
  let v275 : BitVec 32 := Scalar.addi c0_i32_280 v274
  v275.toNat
def k0_dev14 (v13 : BitVec 32) : Nat :=
  let c0_i32_283 : BitVec 32 := 0#32
  let c1_i32_282 : BitVec 32 := 1#32
  let v276 : BitVec 32 := Scalar.muli v13 c1_i32_282
  let v277 : BitVec 32 := Scalar.addi c0_i32_283 v276
  v277.toNat
def k0_dev15 (v13 : BitVec 32) : Nat :=
  let c0_i32_323 : BitVec 32 := 0#32
  let c1_i32_322 : BitVec 32 := 1#32
  let v306 : BitVec 32 := Scalar.muli v13 c1_i32_322
  let v307 : BitVec 32 := Scalar.addi c0_i32_323 v306
  v307.toNat
def k0_dev16 (v9 : BitVec 32) : Nat :=
  let c0_i32_335 : BitVec 32 := 0#32
  let c1_i32_334 : BitVec 32 := 1#32
  let v316 : BitVec 32 := Scalar.muli v9 c1_i32_334
  let v317 : BitVec 32 := Scalar.addi c0_i32_335 v316
  v317.toNat
def k0_off18 (v4 : BitVec 32) : Fin 2 → Nat :=
  let c0_343 : Index := 0#32
  let c64_i32_340 : BitVec 32 := 64#32
  let v326 : BitVec 32 := Scalar.addi v4 c64_i32_340
  let c2_i32_341 : BitVec 32 := 2#32
  let v327 : BitVec 32 := Scalar.subi v326 c2_i32_341
  let c3_i32 : BitVec 32 := 3#32
  let v328 : BitVec 32 := Scalar.subi v327 c3_i32
  let c32_i32_342 : BitVec 32 := 32#32
  let v329 : BitVec 32 := Scalar.remsi v328 c32_i32_342
  let v330 : Index := Scalar.indexCast v329
  ![0, v330.toNat]
def k0_off19 (v331 : BitVec 32) : Fin 2 → Nat :=
  let c128_i32_344 : BitVec 32 := 128#32
  let v332 : BitVec 32 := Scalar.muli v331 c128_i32_344
  let v333 : Index := Scalar.indexCast v332
  let c0_345 : Index := 0#32
  ![v333.toNat, 0]

def k0_chk10 (v331 : BitVec 32) : Prop :=
  (∀ a, (k0_off19 v331) a + S128x128.size a ≤ S4096x128.size a)
theorem k0_off19_inb : ∀ (v331 : BitVec 32) (k0_hw10 : k0_chk10 v331), ∀ a, (k0_off19 v331) a + S128x128.size a ≤ S4096x128.size a := fun v331 k0_hw10 => k0_hw10

def k0_off20 (v4 : BitVec 32) : Fin 2 → Nat :=
  let c0_352 : Index := 0#32
  let c2_i32_349 : BitVec 32 := 2#32
  let v339 : BitVec 32 := Scalar.addi v4 c2_i32_349
  let c3_i32_350 : BitVec 32 := 3#32
  let v340 : BitVec 32 := Scalar.addi v339 c3_i32_350
  let c32_i32_351 : BitVec 32 := 32#32
  let v341 : BitVec 32 := Scalar.remsi v340 c32_i32_351
  let v342 : Index := Scalar.indexCast v341
  ![0, v342.toNat]
def k0_off21 (v343 : BitVec 32) : Fin 2 → Nat :=
  let c128_i32_353 : BitVec 32 := 128#32
  let v344 : BitVec 32 := Scalar.muli v343 c128_i32_353
  let v345 : Index := Scalar.indexCast v344
  let c0_354 : Index := 0#32
  ![v345.toNat, 0]

def k0_chk11 (v343 : BitVec 32) : Prop :=
  (∀ a, (k0_off21 v343) a + S128x128.size a ≤ S4096x128.size a)
theorem k0_off21_inb : ∀ (v343 : BitVec 32) (k0_hw11 : k0_chk11 v343), ∀ a, (k0_off21 v343) a + S128x128.size a ≤ S4096x128.size a := fun v343 k0_hw11 => k0_hw11

def k0_dev17 (v9 : BitVec 32) : Nat :=
  let c0_i32_378 : BitVec 32 := 0#32
  let c1_i32_377 : BitVec 32 := 1#32
  let v363 : BitVec 32 := Scalar.muli v9 c1_i32_377
  let v364 : BitVec 32 := Scalar.addi c0_i32_378 v363
  v364.toNat
def k0_dev18 (v13 : BitVec 32) : Nat :=
  let c0_i32_381 : BitVec 32 := 0#32
  let c1_i32_380 : BitVec 32 := 1#32
  let v365 : BitVec 32 := Scalar.muli v13 c1_i32_380
  let v366 : BitVec 32 := Scalar.addi c0_i32_381 v365
  v366.toNat
def k0_dev19 (v13 : BitVec 32) : Nat :=
  let c0_i32_421 : BitVec 32 := 0#32
  let c1_i32_420 : BitVec 32 := 1#32
  let v395 : BitVec 32 := Scalar.muli v13 c1_i32_420
  let v396 : BitVec 32 := Scalar.addi c0_i32_421 v395
  v396.toNat
def k0_dev20 (v9 : BitVec 32) : Nat :=
  let c0_i32_433 : BitVec 32 := 0#32
  let c1_i32_432 : BitVec 32 := 1#32
  let v405 : BitVec 32 := Scalar.muli v9 c1_i32_432
  let v406 : BitVec 32 := Scalar.addi c0_i32_433 v405
  v406.toNat
def k0_off22 (v4 : BitVec 32) : Fin 2 → Nat :=
  let c0_441 : Index := 0#32
  let c64_i32_438 : BitVec 32 := 64#32
  let v415 : BitVec 32 := Scalar.addi v4 c64_i32_438
  let c2_i32_439 : BitVec 32 := 2#32
  let v416 : BitVec 32 := Scalar.subi v415 c2_i32_439
  let c4_i32 : BitVec 32 := 4#32
  let v417 : BitVec 32 := Scalar.subi v416 c4_i32
  let c32_i32_440 : BitVec 32 := 32#32
  let v418 : BitVec 32 := Scalar.remsi v417 c32_i32_440
  let v419 : Index := Scalar.indexCast v418
  ![0, v419.toNat]
def k0_off23 (v420 : BitVec 32) : Fin 2 → Nat :=
  let c128_i32_442 : BitVec 32 := 128#32
  let v421 : BitVec 32 := Scalar.muli v420 c128_i32_442
  let v422 : Index := Scalar.indexCast v421
  let c0_443 : Index := 0#32
  ![v422.toNat, 0]

def k0_chk12 (v420 : BitVec 32) : Prop :=
  (∀ a, (k0_off23 v420) a + S128x128.size a ≤ S4096x128.size a)
theorem k0_off23_inb : ∀ (v420 : BitVec 32) (k0_hw12 : k0_chk12 v420), ∀ a, (k0_off23 v420) a + S128x128.size a ≤ S4096x128.size a := fun v420 k0_hw12 => k0_hw12

def k0_off24 (v4 : BitVec 32) : Fin 2 → Nat :=
  let c0_450 : Index := 0#32
  let c2_i32_447 : BitVec 32 := 2#32
  let v428 : BitVec 32 := Scalar.addi v4 c2_i32_447
  let c4_i32_448 : BitVec 32 := 4#32
  let v429 : BitVec 32 := Scalar.addi v428 c4_i32_448
  let c32_i32_449 : BitVec 32 := 32#32
  let v430 : BitVec 32 := Scalar.remsi v429 c32_i32_449
  let v431 : Index := Scalar.indexCast v430
  ![0, v431.toNat]
def k0_off25 (v432 : BitVec 32) : Fin 2 → Nat :=
  let c128_i32_451 : BitVec 32 := 128#32
  let v433 : BitVec 32 := Scalar.muli v432 c128_i32_451
  let v434 : Index := Scalar.indexCast v433
  let c0_452 : Index := 0#32
  ![v434.toNat, 0]

def k0_chk13 (v432 : BitVec 32) : Prop :=
  (∀ a, (k0_off25 v432) a + S128x128.size a ≤ S4096x128.size a)
theorem k0_off25_inb : ∀ (v432 : BitVec 32) (k0_hw13 : k0_chk13 v432), ∀ a, (k0_off25 v432) a + S128x128.size a ≤ S4096x128.size a := fun v432 k0_hw13 => k0_hw13

def k0_dev21 (v9 : BitVec 32) : Nat :=
  let c0_i32_476 : BitVec 32 := 0#32
  let c1_i32_475 : BitVec 32 := 1#32
  let v452 : BitVec 32 := Scalar.muli v9 c1_i32_475
  let v453 : BitVec 32 := Scalar.addi c0_i32_476 v452
  v453.toNat
def k0_dev22 (v13 : BitVec 32) : Nat :=
  let c0_i32_479 : BitVec 32 := 0#32
  let c1_i32_478 : BitVec 32 := 1#32
  let v454 : BitVec 32 := Scalar.muli v13 c1_i32_478
  let v455 : BitVec 32 := Scalar.addi c0_i32_479 v454
  v455.toNat
def k0_dev23 (v13 : BitVec 32) : Nat :=
  let c0_i32_519 : BitVec 32 := 0#32
  let c1_i32_518 : BitVec 32 := 1#32
  let v484 : BitVec 32 := Scalar.muli v13 c1_i32_518
  let v485 : BitVec 32 := Scalar.addi c0_i32_519 v484
  v485.toNat
def k0_dev24 (v9 : BitVec 32) : Nat :=
  let c0_i32_531 : BitVec 32 := 0#32
  let c1_i32_530 : BitVec 32 := 1#32
  let v494 : BitVec 32 := Scalar.muli v9 c1_i32_530
  let v495 : BitVec 32 := Scalar.addi c0_i32_531 v494
  v495.toNat
def k0_off26 (v4 : BitVec 32) : Fin 2 → Nat :=
  let c0_539 : Index := 0#32
  let c64_i32_536 : BitVec 32 := 64#32
  let v504 : BitVec 32 := Scalar.addi v4 c64_i32_536
  let c2_i32_537 : BitVec 32 := 2#32
  let v505 : BitVec 32 := Scalar.subi v504 c2_i32_537
  let c5_i32 : BitVec 32 := 5#32
  let v506 : BitVec 32 := Scalar.subi v505 c5_i32
  let c32_i32_538 : BitVec 32 := 32#32
  let v507 : BitVec 32 := Scalar.remsi v506 c32_i32_538
  let v508 : Index := Scalar.indexCast v507
  ![0, v508.toNat]
def k0_off27 (v509 : BitVec 32) : Fin 2 → Nat :=
  let c128_i32_540 : BitVec 32 := 128#32
  let v510 : BitVec 32 := Scalar.muli v509 c128_i32_540
  let v511 : Index := Scalar.indexCast v510
  let c0_541 : Index := 0#32
  ![v511.toNat, 0]

def k0_chk14 (v509 : BitVec 32) : Prop :=
  (∀ a, (k0_off27 v509) a + S128x128.size a ≤ S4096x128.size a)
theorem k0_off27_inb : ∀ (v509 : BitVec 32) (k0_hw14 : k0_chk14 v509), ∀ a, (k0_off27 v509) a + S128x128.size a ≤ S4096x128.size a := fun v509 k0_hw14 => k0_hw14

def k0_off28 (v4 : BitVec 32) : Fin 2 → Nat :=
  let c0_548 : Index := 0#32
  let c2_i32_545 : BitVec 32 := 2#32
  let v517 : BitVec 32 := Scalar.addi v4 c2_i32_545
  let c5_i32_546 : BitVec 32 := 5#32
  let v518 : BitVec 32 := Scalar.addi v517 c5_i32_546
  let c32_i32_547 : BitVec 32 := 32#32
  let v519 : BitVec 32 := Scalar.remsi v518 c32_i32_547
  let v520 : Index := Scalar.indexCast v519
  ![0, v520.toNat]
def k0_off29 (v521 : BitVec 32) : Fin 2 → Nat :=
  let c128_i32_549 : BitVec 32 := 128#32
  let v522 : BitVec 32 := Scalar.muli v521 c128_i32_549
  let v523 : Index := Scalar.indexCast v522
  let c0_550 : Index := 0#32
  ![v523.toNat, 0]

def k0_chk15 (v521 : BitVec 32) : Prop :=
  (∀ a, (k0_off29 v521) a + S128x128.size a ≤ S4096x128.size a)
theorem k0_off29_inb : ∀ (v521 : BitVec 32) (k0_hw15 : k0_chk15 v521), ∀ a, (k0_off29 v521) a + S128x128.size a ≤ S4096x128.size a := fun v521 k0_hw15 => k0_hw15

def k0_dev25 (v9 : BitVec 32) : Nat :=
  let c0_i32_574 : BitVec 32 := 0#32
  let c1_i32_573 : BitVec 32 := 1#32
  let v541 : BitVec 32 := Scalar.muli v9 c1_i32_573
  let v542 : BitVec 32 := Scalar.addi c0_i32_574 v541
  v542.toNat
def k0_dev26 (v13 : BitVec 32) : Nat :=
  let c0_i32_577 : BitVec 32 := 0#32
  let c1_i32_576 : BitVec 32 := 1#32
  let v543 : BitVec 32 := Scalar.muli v13 c1_i32_576
  let v544 : BitVec 32 := Scalar.addi c0_i32_577 v543
  v544.toNat
def k0_dev27 (v13 : BitVec 32) : Nat :=
  let c0_i32_617 : BitVec 32 := 0#32
  let c1_i32_616 : BitVec 32 := 1#32
  let v573 : BitVec 32 := Scalar.muli v13 c1_i32_616
  let v574 : BitVec 32 := Scalar.addi c0_i32_617 v573
  v574.toNat
def k0_dev28 (v9 : BitVec 32) : Nat :=
  let c0_i32_629 : BitVec 32 := 0#32
  let c1_i32_628 : BitVec 32 := 1#32
  let v583 : BitVec 32 := Scalar.muli v9 c1_i32_628
  let v584 : BitVec 32 := Scalar.addi c0_i32_629 v583
  v584.toNat
def k0_off30 (v4 : BitVec 32) : Fin 2 → Nat :=
  let c0_637 : Index := 0#32
  let c64_i32_634 : BitVec 32 := 64#32
  let v593 : BitVec 32 := Scalar.addi v4 c64_i32_634
  let c2_i32_635 : BitVec 32 := 2#32
  let v594 : BitVec 32 := Scalar.subi v593 c2_i32_635
  let c6_i32 : BitVec 32 := 6#32
  let v595 : BitVec 32 := Scalar.subi v594 c6_i32
  let c32_i32_636 : BitVec 32 := 32#32
  let v596 : BitVec 32 := Scalar.remsi v595 c32_i32_636
  let v597 : Index := Scalar.indexCast v596
  ![0, v597.toNat]
def k0_off31 (v598 : BitVec 32) : Fin 2 → Nat :=
  let c128_i32_638 : BitVec 32 := 128#32
  let v599 : BitVec 32 := Scalar.muli v598 c128_i32_638
  let v600 : Index := Scalar.indexCast v599
  let c0_639 : Index := 0#32
  ![v600.toNat, 0]

def k0_chk16 (v598 : BitVec 32) : Prop :=
  (∀ a, (k0_off31 v598) a + S128x128.size a ≤ S4096x128.size a)
theorem k0_off31_inb : ∀ (v598 : BitVec 32) (k0_hw16 : k0_chk16 v598), ∀ a, (k0_off31 v598) a + S128x128.size a ≤ S4096x128.size a := fun v598 k0_hw16 => k0_hw16

def k0_off32 (v4 : BitVec 32) : Fin 2 → Nat :=
  let c0_646 : Index := 0#32
  let c2_i32_643 : BitVec 32 := 2#32
  let v606 : BitVec 32 := Scalar.addi v4 c2_i32_643
  let c6_i32_644 : BitVec 32 := 6#32
  let v607 : BitVec 32 := Scalar.addi v606 c6_i32_644
  let c32_i32_645 : BitVec 32 := 32#32
  let v608 : BitVec 32 := Scalar.remsi v607 c32_i32_645
  let v609 : Index := Scalar.indexCast v608
  ![0, v609.toNat]
def k0_off33 (v610 : BitVec 32) : Fin 2 → Nat :=
  let c128_i32_647 : BitVec 32 := 128#32
  let v611 : BitVec 32 := Scalar.muli v610 c128_i32_647
  let v612 : Index := Scalar.indexCast v611
  let c0_648 : Index := 0#32
  ![v612.toNat, 0]

def k0_chk17 (v610 : BitVec 32) : Prop :=
  (∀ a, (k0_off33 v610) a + S128x128.size a ≤ S4096x128.size a)
theorem k0_off33_inb : ∀ (v610 : BitVec 32) (k0_hw17 : k0_chk17 v610), ∀ a, (k0_off33 v610) a + S128x128.size a ≤ S4096x128.size a := fun v610 k0_hw17 => k0_hw17

def k0_dev29 (v9 : BitVec 32) : Nat :=
  let c0_i32_672 : BitVec 32 := 0#32
  let c1_i32_671 : BitVec 32 := 1#32
  let v630 : BitVec 32 := Scalar.muli v9 c1_i32_671
  let v631 : BitVec 32 := Scalar.addi c0_i32_672 v630
  v631.toNat
def k0_dev30 (v13 : BitVec 32) : Nat :=
  let c0_i32_675 : BitVec 32 := 0#32
  let c1_i32_674 : BitVec 32 := 1#32
  let v632 : BitVec 32 := Scalar.muli v13 c1_i32_674
  let v633 : BitVec 32 := Scalar.addi c0_i32_675 v632
  v633.toNat
def k0_dev31 (v13 : BitVec 32) : Nat :=
  let c0_i32_715 : BitVec 32 := 0#32
  let c1_i32_714 : BitVec 32 := 1#32
  let v662 : BitVec 32 := Scalar.muli v13 c1_i32_714
  let v663 : BitVec 32 := Scalar.addi c0_i32_715 v662
  v663.toNat
def k0_dev32 (v9 : BitVec 32) : Nat :=
  let c0_i32_727 : BitVec 32 := 0#32
  let c1_i32_726 : BitVec 32 := 1#32
  let v672 : BitVec 32 := Scalar.muli v9 c1_i32_726
  let v673 : BitVec 32 := Scalar.addi c0_i32_727 v672
  v673.toNat
def k0_off34 (v4 : BitVec 32) : Fin 2 → Nat :=
  let c0_735 : Index := 0#32
  let c64_i32_732 : BitVec 32 := 64#32
  let v682 : BitVec 32 := Scalar.addi v4 c64_i32_732
  let c2_i32_733 : BitVec 32 := 2#32
  let v683 : BitVec 32 := Scalar.subi v682 c2_i32_733
  let c7_i32 : BitVec 32 := 7#32
  let v684 : BitVec 32 := Scalar.subi v683 c7_i32
  let c32_i32_734 : BitVec 32 := 32#32
  let v685 : BitVec 32 := Scalar.remsi v684 c32_i32_734
  let v686 : Index := Scalar.indexCast v685
  ![0, v686.toNat]
def k0_off35 (v687 : BitVec 32) : Fin 2 → Nat :=
  let c128_i32_736 : BitVec 32 := 128#32
  let v688 : BitVec 32 := Scalar.muli v687 c128_i32_736
  let v689 : Index := Scalar.indexCast v688
  let c0_737 : Index := 0#32
  ![v689.toNat, 0]

def k0_chk18 (v687 : BitVec 32) : Prop :=
  (∀ a, (k0_off35 v687) a + S128x128.size a ≤ S4096x128.size a)
theorem k0_off35_inb : ∀ (v687 : BitVec 32) (k0_hw18 : k0_chk18 v687), ∀ a, (k0_off35 v687) a + S128x128.size a ≤ S4096x128.size a := fun v687 k0_hw18 => k0_hw18

def k0_off36 (v4 : BitVec 32) : Fin 2 → Nat :=
  let c0_744 : Index := 0#32
  let c2_i32_741 : BitVec 32 := 2#32
  let v695 : BitVec 32 := Scalar.addi v4 c2_i32_741
  let c7_i32_742 : BitVec 32 := 7#32
  let v696 : BitVec 32 := Scalar.addi v695 c7_i32_742
  let c32_i32_743 : BitVec 32 := 32#32
  let v697 : BitVec 32 := Scalar.remsi v696 c32_i32_743
  let v698 : Index := Scalar.indexCast v697
  ![0, v698.toNat]
def k0_off37 (v699 : BitVec 32) : Fin 2 → Nat :=
  let c128_i32_745 : BitVec 32 := 128#32
  let v700 : BitVec 32 := Scalar.muli v699 c128_i32_745
  let v701 : Index := Scalar.indexCast v700
  let c0_746 : Index := 0#32
  ![v701.toNat, 0]

def k0_chk19 (v699 : BitVec 32) : Prop :=
  (∀ a, (k0_off37 v699) a + S128x128.size a ≤ S4096x128.size a)
theorem k0_off37_inb : ∀ (v699 : BitVec 32) (k0_hw19 : k0_chk19 v699), ∀ a, (k0_off37 v699) a + S128x128.size a ≤ S4096x128.size a := fun v699 k0_hw19 => k0_hw19

def k0_dev33 (v9 : BitVec 32) : Nat :=
  let c0_i32_770 : BitVec 32 := 0#32
  let c1_i32_769 : BitVec 32 := 1#32
  let v719 : BitVec 32 := Scalar.muli v9 c1_i32_769
  let v720 : BitVec 32 := Scalar.addi c0_i32_770 v719
  v720.toNat
def k0_dev34 (v13 : BitVec 32) : Nat :=
  let c0_i32_773 : BitVec 32 := 0#32
  let c1_i32_772 : BitVec 32 := 1#32
  let v721 : BitVec 32 := Scalar.muli v13 c1_i32_772
  let v722 : BitVec 32 := Scalar.addi c0_i32_773 v721
  v722.toNat
def k0_dev35 (v13 : BitVec 32) : Nat :=
  let c0_i32_813 : BitVec 32 := 0#32
  let c1_i32_812 : BitVec 32 := 1#32
  let v751 : BitVec 32 := Scalar.muli v13 c1_i32_812
  let v752 : BitVec 32 := Scalar.addi c0_i32_813 v751
  v752.toNat
def k0_dev36 (v9 : BitVec 32) : Nat :=
  let c0_i32_825 : BitVec 32 := 0#32
  let c1_i32_824 : BitVec 32 := 1#32
  let v761 : BitVec 32 := Scalar.muli v9 c1_i32_824
  let v762 : BitVec 32 := Scalar.addi c0_i32_825 v761
  v762.toNat
def k0_off38 (v4 : BitVec 32) : Fin 2 → Nat :=
  let c0_833 : Index := 0#32
  let c64_i32_830 : BitVec 32 := 64#32
  let v771 : BitVec 32 := Scalar.addi v4 c64_i32_830
  let c2_i32_831 : BitVec 32 := 2#32
  let v772 : BitVec 32 := Scalar.subi v771 c2_i32_831
  let c8_i32 : BitVec 32 := 8#32
  let v773 : BitVec 32 := Scalar.subi v772 c8_i32
  let c32_i32_832 : BitVec 32 := 32#32
  let v774 : BitVec 32 := Scalar.remsi v773 c32_i32_832
  let v775 : Index := Scalar.indexCast v774
  ![0, v775.toNat]
def k0_off39 (v776 : BitVec 32) : Fin 2 → Nat :=
  let c128_i32_834 : BitVec 32 := 128#32
  let v777 : BitVec 32 := Scalar.muli v776 c128_i32_834
  let v778 : Index := Scalar.indexCast v777
  let c0_835 : Index := 0#32
  ![v778.toNat, 0]

def k0_chk20 (v776 : BitVec 32) : Prop :=
  (∀ a, (k0_off39 v776) a + S128x128.size a ≤ S4096x128.size a)
theorem k0_off39_inb : ∀ (v776 : BitVec 32) (k0_hw20 : k0_chk20 v776), ∀ a, (k0_off39 v776) a + S128x128.size a ≤ S4096x128.size a := fun v776 k0_hw20 => k0_hw20

def k0_off40 (v4 : BitVec 32) : Fin 2 → Nat :=
  let c0_842 : Index := 0#32
  let c2_i32_839 : BitVec 32 := 2#32
  let v784 : BitVec 32 := Scalar.addi v4 c2_i32_839
  let c8_i32_840 : BitVec 32 := 8#32
  let v785 : BitVec 32 := Scalar.addi v784 c8_i32_840
  let c32_i32_841 : BitVec 32 := 32#32
  let v786 : BitVec 32 := Scalar.remsi v785 c32_i32_841
  let v787 : Index := Scalar.indexCast v786
  ![0, v787.toNat]
def k0_off41 (v788 : BitVec 32) : Fin 2 → Nat :=
  let c128_i32_843 : BitVec 32 := 128#32
  let v789 : BitVec 32 := Scalar.muli v788 c128_i32_843
  let v790 : Index := Scalar.indexCast v789
  let c0_844 : Index := 0#32
  ![v790.toNat, 0]

def k0_chk21 (v788 : BitVec 32) : Prop :=
  (∀ a, (k0_off41 v788) a + S128x128.size a ≤ S4096x128.size a)
theorem k0_off41_inb : ∀ (v788 : BitVec 32) (k0_hw21 : k0_chk21 v788), ∀ a, (k0_off41 v788) a + S128x128.size a ≤ S4096x128.size a := fun v788 k0_hw21 => k0_hw21

def k0_dev37 (v9 : BitVec 32) : Nat :=
  let c0_i32_868 : BitVec 32 := 0#32
  let c1_i32_867 : BitVec 32 := 1#32
  let v808 : BitVec 32 := Scalar.muli v9 c1_i32_867
  let v809 : BitVec 32 := Scalar.addi c0_i32_868 v808
  v809.toNat
def k0_dev38 (v13 : BitVec 32) : Nat :=
  let c0_i32_871 : BitVec 32 := 0#32
  let c1_i32_870 : BitVec 32 := 1#32
  let v810 : BitVec 32 := Scalar.muli v13 c1_i32_870
  let v811 : BitVec 32 := Scalar.addi c0_i32_871 v810
  v811.toNat
def k0_dev39 (v13 : BitVec 32) : Nat :=
  let c0_i32_911 : BitVec 32 := 0#32
  let c1_i32_910 : BitVec 32 := 1#32
  let v840 : BitVec 32 := Scalar.muli v13 c1_i32_910
  let v841 : BitVec 32 := Scalar.addi c0_i32_911 v840
  v841.toNat
def k0_dev40 (v9 : BitVec 32) : Nat :=
  let c0_i32_923 : BitVec 32 := 0#32
  let c1_i32_922 : BitVec 32 := 1#32
  let v850 : BitVec 32 := Scalar.muli v9 c1_i32_922
  let v851 : BitVec 32 := Scalar.addi c0_i32_923 v850
  v851.toNat
def k0_off42 (v4 : BitVec 32) : Fin 2 → Nat :=
  let c0_931 : Index := 0#32
  let c64_i32_928 : BitVec 32 := 64#32
  let v860 : BitVec 32 := Scalar.addi v4 c64_i32_928
  let c2_i32_929 : BitVec 32 := 2#32
  let v861 : BitVec 32 := Scalar.subi v860 c2_i32_929
  let c9_i32 : BitVec 32 := 9#32
  let v862 : BitVec 32 := Scalar.subi v861 c9_i32
  let c32_i32_930 : BitVec 32 := 32#32
  let v863 : BitVec 32 := Scalar.remsi v862 c32_i32_930
  let v864 : Index := Scalar.indexCast v863
  ![0, v864.toNat]
def k0_off43 (v865 : BitVec 32) : Fin 2 → Nat :=
  let c128_i32_932 : BitVec 32 := 128#32
  let v866 : BitVec 32 := Scalar.muli v865 c128_i32_932
  let v867 : Index := Scalar.indexCast v866
  let c0_933 : Index := 0#32
  ![v867.toNat, 0]

def k0_chk22 (v865 : BitVec 32) : Prop :=
  (∀ a, (k0_off43 v865) a + S128x128.size a ≤ S4096x128.size a)
theorem k0_off43_inb : ∀ (v865 : BitVec 32) (k0_hw22 : k0_chk22 v865), ∀ a, (k0_off43 v865) a + S128x128.size a ≤ S4096x128.size a := fun v865 k0_hw22 => k0_hw22

def k0_off44 (v4 : BitVec 32) : Fin 2 → Nat :=
  let c0_940 : Index := 0#32
  let c2_i32_937 : BitVec 32 := 2#32
  let v873 : BitVec 32 := Scalar.addi v4 c2_i32_937
  let c9_i32_938 : BitVec 32 := 9#32
  let v874 : BitVec 32 := Scalar.addi v873 c9_i32_938
  let c32_i32_939 : BitVec 32 := 32#32
  let v875 : BitVec 32 := Scalar.remsi v874 c32_i32_939
  let v876 : Index := Scalar.indexCast v875
  ![0, v876.toNat]
def k0_off45 (v877 : BitVec 32) : Fin 2 → Nat :=
  let c128_i32_941 : BitVec 32 := 128#32
  let v878 : BitVec 32 := Scalar.muli v877 c128_i32_941
  let v879 : Index := Scalar.indexCast v878
  let c0_942 : Index := 0#32
  ![v879.toNat, 0]

def k0_chk23 (v877 : BitVec 32) : Prop :=
  (∀ a, (k0_off45 v877) a + S128x128.size a ≤ S4096x128.size a)
theorem k0_off45_inb : ∀ (v877 : BitVec 32) (k0_hw23 : k0_chk23 v877), ∀ a, (k0_off45 v877) a + S128x128.size a ≤ S4096x128.size a := fun v877 k0_hw23 => k0_hw23

def k0_dev41 (v9 : BitVec 32) : Nat :=
  let c0_i32_966 : BitVec 32 := 0#32
  let c1_i32_965 : BitVec 32 := 1#32
  let v897 : BitVec 32 := Scalar.muli v9 c1_i32_965
  let v898 : BitVec 32 := Scalar.addi c0_i32_966 v897
  v898.toNat
def k0_dev42 (v13 : BitVec 32) : Nat :=
  let c0_i32_969 : BitVec 32 := 0#32
  let c1_i32_968 : BitVec 32 := 1#32
  let v899 : BitVec 32 := Scalar.muli v13 c1_i32_968
  let v900 : BitVec 32 := Scalar.addi c0_i32_969 v899
  v900.toNat
def k0_dev43 (v13 : BitVec 32) : Nat :=
  let c0_i32_1009 : BitVec 32 := 0#32
  let c1_i32_1008 : BitVec 32 := 1#32
  let v929 : BitVec 32 := Scalar.muli v13 c1_i32_1008
  let v930 : BitVec 32 := Scalar.addi c0_i32_1009 v929
  v930.toNat
def k0_dev44 (v9 : BitVec 32) : Nat :=
  let c0_i32_1021 : BitVec 32 := 0#32
  let c1_i32_1020 : BitVec 32 := 1#32
  let v939 : BitVec 32 := Scalar.muli v9 c1_i32_1020
  let v940 : BitVec 32 := Scalar.addi c0_i32_1021 v939
  v940.toNat
def k0_off46 (v4 : BitVec 32) : Fin 2 → Nat :=
  let c0_1029 : Index := 0#32
  let c64_i32_1026 : BitVec 32 := 64#32
  let v949 : BitVec 32 := Scalar.addi v4 c64_i32_1026
  let c2_i32_1027 : BitVec 32 := 2#32
  let v950 : BitVec 32 := Scalar.subi v949 c2_i32_1027
  let c10_i32 : BitVec 32 := 10#32
  let v951 : BitVec 32 := Scalar.subi v950 c10_i32
  let c32_i32_1028 : BitVec 32 := 32#32
  let v952 : BitVec 32 := Scalar.remsi v951 c32_i32_1028
  let v953 : Index := Scalar.indexCast v952
  ![0, v953.toNat]
def k0_off47 (v954 : BitVec 32) : Fin 2 → Nat :=
  let c128_i32_1030 : BitVec 32 := 128#32
  let v955 : BitVec 32 := Scalar.muli v954 c128_i32_1030
  let v956 : Index := Scalar.indexCast v955
  let c0_1031 : Index := 0#32
  ![v956.toNat, 0]

def k0_chk24 (v954 : BitVec 32) : Prop :=
  (∀ a, (k0_off47 v954) a + S128x128.size a ≤ S4096x128.size a)
theorem k0_off47_inb : ∀ (v954 : BitVec 32) (k0_hw24 : k0_chk24 v954), ∀ a, (k0_off47 v954) a + S128x128.size a ≤ S4096x128.size a := fun v954 k0_hw24 => k0_hw24

def k0_off48 (v4 : BitVec 32) : Fin 2 → Nat :=
  let c0_1038 : Index := 0#32
  let c2_i32_1035 : BitVec 32 := 2#32
  let v962 : BitVec 32 := Scalar.addi v4 c2_i32_1035
  let c10_i32_1036 : BitVec 32 := 10#32
  let v963 : BitVec 32 := Scalar.addi v962 c10_i32_1036
  let c32_i32_1037 : BitVec 32 := 32#32
  let v964 : BitVec 32 := Scalar.remsi v963 c32_i32_1037
  let v965 : Index := Scalar.indexCast v964
  ![0, v965.toNat]
def k0_off49 (v966 : BitVec 32) : Fin 2 → Nat :=
  let c128_i32_1039 : BitVec 32 := 128#32
  let v967 : BitVec 32 := Scalar.muli v966 c128_i32_1039
  let v968 : Index := Scalar.indexCast v967
  let c0_1040 : Index := 0#32
  ![v968.toNat, 0]

def k0_chk25 (v966 : BitVec 32) : Prop :=
  (∀ a, (k0_off49 v966) a + S128x128.size a ≤ S4096x128.size a)
theorem k0_off49_inb : ∀ (v966 : BitVec 32) (k0_hw25 : k0_chk25 v966), ∀ a, (k0_off49 v966) a + S128x128.size a ≤ S4096x128.size a := fun v966 k0_hw25 => k0_hw25

def k0_dev45 (v9 : BitVec 32) : Nat :=
  let c0_i32_1064 : BitVec 32 := 0#32
  let c1_i32_1063 : BitVec 32 := 1#32
  let v986 : BitVec 32 := Scalar.muli v9 c1_i32_1063
  let v987 : BitVec 32 := Scalar.addi c0_i32_1064 v986
  v987.toNat
def k0_dev46 (v13 : BitVec 32) : Nat :=
  let c0_i32_1067 : BitVec 32 := 0#32
  let c1_i32_1066 : BitVec 32 := 1#32
  let v988 : BitVec 32 := Scalar.muli v13 c1_i32_1066
  let v989 : BitVec 32 := Scalar.addi c0_i32_1067 v988
  v989.toNat
def k0_dev47 (v13 : BitVec 32) : Nat :=
  let c0_i32_1107 : BitVec 32 := 0#32
  let c1_i32_1106 : BitVec 32 := 1#32
  let v1018 : BitVec 32 := Scalar.muli v13 c1_i32_1106
  let v1019 : BitVec 32 := Scalar.addi c0_i32_1107 v1018
  v1019.toNat
def k0_dev48 (v9 : BitVec 32) : Nat :=
  let c0_i32_1119 : BitVec 32 := 0#32
  let c1_i32_1118 : BitVec 32 := 1#32
  let v1028 : BitVec 32 := Scalar.muli v9 c1_i32_1118
  let v1029 : BitVec 32 := Scalar.addi c0_i32_1119 v1028
  v1029.toNat
def k0_off50 (v4 : BitVec 32) : Fin 2 → Nat :=
  let c0_1127 : Index := 0#32
  let c64_i32_1124 : BitVec 32 := 64#32
  let v1038 : BitVec 32 := Scalar.addi v4 c64_i32_1124
  let c2_i32_1125 : BitVec 32 := 2#32
  let v1039 : BitVec 32 := Scalar.subi v1038 c2_i32_1125
  let c11_i32 : BitVec 32 := 11#32
  let v1040 : BitVec 32 := Scalar.subi v1039 c11_i32
  let c32_i32_1126 : BitVec 32 := 32#32
  let v1041 : BitVec 32 := Scalar.remsi v1040 c32_i32_1126
  let v1042 : Index := Scalar.indexCast v1041
  ![0, v1042.toNat]
def k0_off51 (v1043 : BitVec 32) : Fin 2 → Nat :=
  let c128_i32_1128 : BitVec 32 := 128#32
  let v1044 : BitVec 32 := Scalar.muli v1043 c128_i32_1128
  let v1045 : Index := Scalar.indexCast v1044
  let c0_1129 : Index := 0#32
  ![v1045.toNat, 0]

def k0_chk26 (v1043 : BitVec 32) : Prop :=
  (∀ a, (k0_off51 v1043) a + S128x128.size a ≤ S4096x128.size a)
theorem k0_off51_inb : ∀ (v1043 : BitVec 32) (k0_hw26 : k0_chk26 v1043), ∀ a, (k0_off51 v1043) a + S128x128.size a ≤ S4096x128.size a := fun v1043 k0_hw26 => k0_hw26

def k0_off52 (v4 : BitVec 32) : Fin 2 → Nat :=
  let c0_1136 : Index := 0#32
  let c2_i32_1133 : BitVec 32 := 2#32
  let v1051 : BitVec 32 := Scalar.addi v4 c2_i32_1133
  let c11_i32_1134 : BitVec 32 := 11#32
  let v1052 : BitVec 32 := Scalar.addi v1051 c11_i32_1134
  let c32_i32_1135 : BitVec 32 := 32#32
  let v1053 : BitVec 32 := Scalar.remsi v1052 c32_i32_1135
  let v1054 : Index := Scalar.indexCast v1053
  ![0, v1054.toNat]
def k0_off53 (v1055 : BitVec 32) : Fin 2 → Nat :=
  let c128_i32_1137 : BitVec 32 := 128#32
  let v1056 : BitVec 32 := Scalar.muli v1055 c128_i32_1137
  let v1057 : Index := Scalar.indexCast v1056
  let c0_1138 : Index := 0#32
  ![v1057.toNat, 0]

def k0_chk27 (v1055 : BitVec 32) : Prop :=
  (∀ a, (k0_off53 v1055) a + S128x128.size a ≤ S4096x128.size a)
theorem k0_off53_inb : ∀ (v1055 : BitVec 32) (k0_hw27 : k0_chk27 v1055), ∀ a, (k0_off53 v1055) a + S128x128.size a ≤ S4096x128.size a := fun v1055 k0_hw27 => k0_hw27

def k0_dev49 (v9 : BitVec 32) : Nat :=
  let c0_i32_1162 : BitVec 32 := 0#32
  let c1_i32_1161 : BitVec 32 := 1#32
  let v1075 : BitVec 32 := Scalar.muli v9 c1_i32_1161
  let v1076 : BitVec 32 := Scalar.addi c0_i32_1162 v1075
  v1076.toNat
def k0_dev50 (v13 : BitVec 32) : Nat :=
  let c0_i32_1165 : BitVec 32 := 0#32
  let c1_i32_1164 : BitVec 32 := 1#32
  let v1077 : BitVec 32 := Scalar.muli v13 c1_i32_1164
  let v1078 : BitVec 32 := Scalar.addi c0_i32_1165 v1077
  v1078.toNat
def k0_dev51 (v13 : BitVec 32) : Nat :=
  let c0_i32_1205 : BitVec 32 := 0#32
  let c1_i32_1204 : BitVec 32 := 1#32
  let v1107 : BitVec 32 := Scalar.muli v13 c1_i32_1204
  let v1108 : BitVec 32 := Scalar.addi c0_i32_1205 v1107
  v1108.toNat
def k0_dev52 (v9 : BitVec 32) : Nat :=
  let c0_i32_1217 : BitVec 32 := 0#32
  let c1_i32_1216 : BitVec 32 := 1#32
  let v1117 : BitVec 32 := Scalar.muli v9 c1_i32_1216
  let v1118 : BitVec 32 := Scalar.addi c0_i32_1217 v1117
  v1118.toNat
def k0_off54 (v4 : BitVec 32) : Fin 2 → Nat :=
  let c0_1225 : Index := 0#32
  let c64_i32_1222 : BitVec 32 := 64#32
  let v1127 : BitVec 32 := Scalar.addi v4 c64_i32_1222
  let c2_i32_1223 : BitVec 32 := 2#32
  let v1128 : BitVec 32 := Scalar.subi v1127 c2_i32_1223
  let c12_i32 : BitVec 32 := 12#32
  let v1129 : BitVec 32 := Scalar.subi v1128 c12_i32
  let c32_i32_1224 : BitVec 32 := 32#32
  let v1130 : BitVec 32 := Scalar.remsi v1129 c32_i32_1224
  let v1131 : Index := Scalar.indexCast v1130
  ![0, v1131.toNat]
def k0_off55 (v1132 : BitVec 32) : Fin 2 → Nat :=
  let c128_i32_1226 : BitVec 32 := 128#32
  let v1133 : BitVec 32 := Scalar.muli v1132 c128_i32_1226
  let v1134 : Index := Scalar.indexCast v1133
  let c0_1227 : Index := 0#32
  ![v1134.toNat, 0]

def k0_chk28 (v1132 : BitVec 32) : Prop :=
  (∀ a, (k0_off55 v1132) a + S128x128.size a ≤ S4096x128.size a)
theorem k0_off55_inb : ∀ (v1132 : BitVec 32) (k0_hw28 : k0_chk28 v1132), ∀ a, (k0_off55 v1132) a + S128x128.size a ≤ S4096x128.size a := fun v1132 k0_hw28 => k0_hw28

def k0_off56 (v4 : BitVec 32) : Fin 2 → Nat :=
  let c0_1234 : Index := 0#32
  let c2_i32_1231 : BitVec 32 := 2#32
  let v1140 : BitVec 32 := Scalar.addi v4 c2_i32_1231
  let c12_i32_1232 : BitVec 32 := 12#32
  let v1141 : BitVec 32 := Scalar.addi v1140 c12_i32_1232
  let c32_i32_1233 : BitVec 32 := 32#32
  let v1142 : BitVec 32 := Scalar.remsi v1141 c32_i32_1233
  let v1143 : Index := Scalar.indexCast v1142
  ![0, v1143.toNat]
def k0_off57 (v1144 : BitVec 32) : Fin 2 → Nat :=
  let c128_i32_1235 : BitVec 32 := 128#32
  let v1145 : BitVec 32 := Scalar.muli v1144 c128_i32_1235
  let v1146 : Index := Scalar.indexCast v1145
  let c0_1236 : Index := 0#32
  ![v1146.toNat, 0]

def k0_chk29 (v1144 : BitVec 32) : Prop :=
  (∀ a, (k0_off57 v1144) a + S128x128.size a ≤ S4096x128.size a)
theorem k0_off57_inb : ∀ (v1144 : BitVec 32) (k0_hw29 : k0_chk29 v1144), ∀ a, (k0_off57 v1144) a + S128x128.size a ≤ S4096x128.size a := fun v1144 k0_hw29 => k0_hw29

def k0_dev53 (v9 : BitVec 32) : Nat :=
  let c0_i32_1260 : BitVec 32 := 0#32
  let c1_i32_1259 : BitVec 32 := 1#32
  let v1164 : BitVec 32 := Scalar.muli v9 c1_i32_1259
  let v1165 : BitVec 32 := Scalar.addi c0_i32_1260 v1164
  v1165.toNat
def k0_dev54 (v13 : BitVec 32) : Nat :=
  let c0_i32_1263 : BitVec 32 := 0#32
  let c1_i32_1262 : BitVec 32 := 1#32
  let v1166 : BitVec 32 := Scalar.muli v13 c1_i32_1262
  let v1167 : BitVec 32 := Scalar.addi c0_i32_1263 v1166
  v1167.toNat
def k0_dev55 (v13 : BitVec 32) : Nat :=
  let c0_i32_1303 : BitVec 32 := 0#32
  let c1_i32_1302 : BitVec 32 := 1#32
  let v1196 : BitVec 32 := Scalar.muli v13 c1_i32_1302
  let v1197 : BitVec 32 := Scalar.addi c0_i32_1303 v1196
  v1197.toNat
def k0_dev56 (v9 : BitVec 32) : Nat :=
  let c0_i32_1315 : BitVec 32 := 0#32
  let c1_i32_1314 : BitVec 32 := 1#32
  let v1206 : BitVec 32 := Scalar.muli v9 c1_i32_1314
  let v1207 : BitVec 32 := Scalar.addi c0_i32_1315 v1206
  v1207.toNat
def k0_off58 (v4 : BitVec 32) : Fin 2 → Nat :=
  let c0_1323 : Index := 0#32
  let c64_i32_1320 : BitVec 32 := 64#32
  let v1216 : BitVec 32 := Scalar.addi v4 c64_i32_1320
  let c2_i32_1321 : BitVec 32 := 2#32
  let v1217 : BitVec 32 := Scalar.subi v1216 c2_i32_1321
  let c13_i32 : BitVec 32 := 13#32
  let v1218 : BitVec 32 := Scalar.subi v1217 c13_i32
  let c32_i32_1322 : BitVec 32 := 32#32
  let v1219 : BitVec 32 := Scalar.remsi v1218 c32_i32_1322
  let v1220 : Index := Scalar.indexCast v1219
  ![0, v1220.toNat]
def k0_off59 (v1221 : BitVec 32) : Fin 2 → Nat :=
  let c128_i32_1324 : BitVec 32 := 128#32
  let v1222 : BitVec 32 := Scalar.muli v1221 c128_i32_1324
  let v1223 : Index := Scalar.indexCast v1222
  let c0_1325 : Index := 0#32
  ![v1223.toNat, 0]

def k0_chk30 (v1221 : BitVec 32) : Prop :=
  (∀ a, (k0_off59 v1221) a + S128x128.size a ≤ S4096x128.size a)
theorem k0_off59_inb : ∀ (v1221 : BitVec 32) (k0_hw30 : k0_chk30 v1221), ∀ a, (k0_off59 v1221) a + S128x128.size a ≤ S4096x128.size a := fun v1221 k0_hw30 => k0_hw30

def k0_off60 (v4 : BitVec 32) : Fin 2 → Nat :=
  let c0_1332 : Index := 0#32
  let c2_i32_1329 : BitVec 32 := 2#32
  let v1229 : BitVec 32 := Scalar.addi v4 c2_i32_1329
  let c13_i32_1330 : BitVec 32 := 13#32
  let v1230 : BitVec 32 := Scalar.addi v1229 c13_i32_1330
  let c32_i32_1331 : BitVec 32 := 32#32
  let v1231 : BitVec 32 := Scalar.remsi v1230 c32_i32_1331
  let v1232 : Index := Scalar.indexCast v1231
  ![0, v1232.toNat]
def k0_off61 (v1233 : BitVec 32) : Fin 2 → Nat :=
  let c128_i32_1333 : BitVec 32 := 128#32
  let v1234 : BitVec 32 := Scalar.muli v1233 c128_i32_1333
  let v1235 : Index := Scalar.indexCast v1234
  let c0_1334 : Index := 0#32
  ![v1235.toNat, 0]

def k0_chk31 (v1233 : BitVec 32) : Prop :=
  (∀ a, (k0_off61 v1233) a + S128x128.size a ≤ S4096x128.size a)
theorem k0_off61_inb : ∀ (v1233 : BitVec 32) (k0_hw31 : k0_chk31 v1233), ∀ a, (k0_off61 v1233) a + S128x128.size a ≤ S4096x128.size a := fun v1233 k0_hw31 => k0_hw31

def k0_dev57 (v9 : BitVec 32) : Nat :=
  let c0_i32_1358 : BitVec 32 := 0#32
  let c1_i32_1357 : BitVec 32 := 1#32
  let v1253 : BitVec 32 := Scalar.muli v9 c1_i32_1357
  let v1254 : BitVec 32 := Scalar.addi c0_i32_1358 v1253
  v1254.toNat
def k0_dev58 (v13 : BitVec 32) : Nat :=
  let c0_i32_1361 : BitVec 32 := 0#32
  let c1_i32_1360 : BitVec 32 := 1#32
  let v1255 : BitVec 32 := Scalar.muli v13 c1_i32_1360
  let v1256 : BitVec 32 := Scalar.addi c0_i32_1361 v1255
  v1256.toNat
def k0_dev59 (v13 : BitVec 32) : Nat :=
  let c0_i32_1401 : BitVec 32 := 0#32
  let c1_i32_1400 : BitVec 32 := 1#32
  let v1285 : BitVec 32 := Scalar.muli v13 c1_i32_1400
  let v1286 : BitVec 32 := Scalar.addi c0_i32_1401 v1285
  v1286.toNat
def k0_dev60 (v9 : BitVec 32) : Nat :=
  let c0_i32_1413 : BitVec 32 := 0#32
  let c1_i32_1412 : BitVec 32 := 1#32
  let v1295 : BitVec 32 := Scalar.muli v9 c1_i32_1412
  let v1296 : BitVec 32 := Scalar.addi c0_i32_1413 v1295
  v1296.toNat
def k0_off62 (v4 : BitVec 32) : Fin 2 → Nat :=
  let c0_1421 : Index := 0#32
  let c64_i32_1418 : BitVec 32 := 64#32
  let v1305 : BitVec 32 := Scalar.addi v4 c64_i32_1418
  let c2_i32_1419 : BitVec 32 := 2#32
  let v1306 : BitVec 32 := Scalar.subi v1305 c2_i32_1419
  let c14_i32 : BitVec 32 := 14#32
  let v1307 : BitVec 32 := Scalar.subi v1306 c14_i32
  let c32_i32_1420 : BitVec 32 := 32#32
  let v1308 : BitVec 32 := Scalar.remsi v1307 c32_i32_1420
  let v1309 : Index := Scalar.indexCast v1308
  ![0, v1309.toNat]
def k0_off63 (v1310 : BitVec 32) : Fin 2 → Nat :=
  let c128_i32_1422 : BitVec 32 := 128#32
  let v1311 : BitVec 32 := Scalar.muli v1310 c128_i32_1422
  let v1312 : Index := Scalar.indexCast v1311
  let c0_1423 : Index := 0#32
  ![v1312.toNat, 0]

def k0_chk32 (v1310 : BitVec 32) : Prop :=
  (∀ a, (k0_off63 v1310) a + S128x128.size a ≤ S4096x128.size a)
theorem k0_off63_inb : ∀ (v1310 : BitVec 32) (k0_hw32 : k0_chk32 v1310), ∀ a, (k0_off63 v1310) a + S128x128.size a ≤ S4096x128.size a := fun v1310 k0_hw32 => k0_hw32

def k0_off64 (v4 : BitVec 32) : Fin 2 → Nat :=
  let c0_1430 : Index := 0#32
  let c2_i32_1427 : BitVec 32 := 2#32
  let v1318 : BitVec 32 := Scalar.addi v4 c2_i32_1427
  let c14_i32_1428 : BitVec 32 := 14#32
  let v1319 : BitVec 32 := Scalar.addi v1318 c14_i32_1428
  let c32_i32_1429 : BitVec 32 := 32#32
  let v1320 : BitVec 32 := Scalar.remsi v1319 c32_i32_1429
  let v1321 : Index := Scalar.indexCast v1320
  ![0, v1321.toNat]
def k0_off65 (v1322 : BitVec 32) : Fin 2 → Nat :=
  let c128_i32_1431 : BitVec 32 := 128#32
  let v1323 : BitVec 32 := Scalar.muli v1322 c128_i32_1431
  let v1324 : Index := Scalar.indexCast v1323
  let c0_1432 : Index := 0#32
  ![v1324.toNat, 0]

def k0_chk33 (v1322 : BitVec 32) : Prop :=
  (∀ a, (k0_off65 v1322) a + S128x128.size a ≤ S4096x128.size a)
theorem k0_off65_inb : ∀ (v1322 : BitVec 32) (k0_hw33 : k0_chk33 v1322), ∀ a, (k0_off65 v1322) a + S128x128.size a ≤ S4096x128.size a := fun v1322 k0_hw33 => k0_hw33

def k0_dev61 (v9 : BitVec 32) : Nat :=
  let c0_i32_1456 : BitVec 32 := 0#32
  let c1_i32_1455 : BitVec 32 := 1#32
  let v1342 : BitVec 32 := Scalar.muli v9 c1_i32_1455
  let v1343 : BitVec 32 := Scalar.addi c0_i32_1456 v1342
  v1343.toNat
def k0_dev62 (v13 : BitVec 32) : Nat :=
  let c0_i32_1459 : BitVec 32 := 0#32
  let c1_i32_1458 : BitVec 32 := 1#32
  let v1344 : BitVec 32 := Scalar.muli v13 c1_i32_1458
  let v1345 : BitVec 32 := Scalar.addi c0_i32_1459 v1344
  v1345.toNat
def k0_dev63 (v13 : BitVec 32) : Nat :=
  let c0_i32_1499 : BitVec 32 := 0#32
  let c1_i32_1498 : BitVec 32 := 1#32
  let v1374 : BitVec 32 := Scalar.muli v13 c1_i32_1498
  let v1375 : BitVec 32 := Scalar.addi c0_i32_1499 v1374
  v1375.toNat
def k0_dev64 (v9 : BitVec 32) : Nat :=
  let c0_i32_1511 : BitVec 32 := 0#32
  let c1_i32_1510 : BitVec 32 := 1#32
  let v1384 : BitVec 32 := Scalar.muli v9 c1_i32_1510
  let v1385 : BitVec 32 := Scalar.addi c0_i32_1511 v1384
  v1385.toNat
def k0_off66 (v4 : BitVec 32) : Fin 2 → Nat :=
  let c0_1519 : Index := 0#32
  let c64_i32_1516 : BitVec 32 := 64#32
  let v1394 : BitVec 32 := Scalar.addi v4 c64_i32_1516
  let c2_i32_1517 : BitVec 32 := 2#32
  let v1395 : BitVec 32 := Scalar.subi v1394 c2_i32_1517
  let c15_i32 : BitVec 32 := 15#32
  let v1396 : BitVec 32 := Scalar.subi v1395 c15_i32
  let c32_i32_1518 : BitVec 32 := 32#32
  let v1397 : BitVec 32 := Scalar.remsi v1396 c32_i32_1518
  let v1398 : Index := Scalar.indexCast v1397
  ![0, v1398.toNat]
def k0_off67 (v1399 : BitVec 32) : Fin 2 → Nat :=
  let c128_i32_1520 : BitVec 32 := 128#32
  let v1400 : BitVec 32 := Scalar.muli v1399 c128_i32_1520
  let v1401 : Index := Scalar.indexCast v1400
  let c0_1521 : Index := 0#32
  ![v1401.toNat, 0]

def k0_chk34 (v1399 : BitVec 32) : Prop :=
  (∀ a, (k0_off67 v1399) a + S128x128.size a ≤ S4096x128.size a)
theorem k0_off67_inb : ∀ (v1399 : BitVec 32) (k0_hw34 : k0_chk34 v1399), ∀ a, (k0_off67 v1399) a + S128x128.size a ≤ S4096x128.size a := fun v1399 k0_hw34 => k0_hw34

def k0_off68 (v4 : BitVec 32) : Fin 2 → Nat :=
  let c0_1528 : Index := 0#32
  let c2_i32_1525 : BitVec 32 := 2#32
  let v1407 : BitVec 32 := Scalar.addi v4 c2_i32_1525
  let c15_i32_1526 : BitVec 32 := 15#32
  let v1408 : BitVec 32 := Scalar.addi v1407 c15_i32_1526
  let c32_i32_1527 : BitVec 32 := 32#32
  let v1409 : BitVec 32 := Scalar.remsi v1408 c32_i32_1527
  let v1410 : Index := Scalar.indexCast v1409
  ![0, v1410.toNat]
def k0_off69 (v1411 : BitVec 32) : Fin 2 → Nat :=
  let c128_i32_1529 : BitVec 32 := 128#32
  let v1412 : BitVec 32 := Scalar.muli v1411 c128_i32_1529
  let v1413 : Index := Scalar.indexCast v1412
  let c0_1530 : Index := 0#32
  ![v1413.toNat, 0]

def k0_chk35 (v1411 : BitVec 32) : Prop :=
  (∀ a, (k0_off69 v1411) a + S128x128.size a ≤ S4096x128.size a)
theorem k0_off69_inb : ∀ (v1411 : BitVec 32) (k0_hw35 : k0_chk35 v1411), ∀ a, (k0_off69 v1411) a + S128x128.size a ≤ S4096x128.size a := fun v1411 k0_hw35 => k0_hw35

def k0_dev65 (v9 : BitVec 32) : Nat :=
  let c0_i32_1554 : BitVec 32 := 0#32
  let c1_i32_1553 : BitVec 32 := 1#32
  let v1431 : BitVec 32 := Scalar.muli v9 c1_i32_1553
  let v1432 : BitVec 32 := Scalar.addi c0_i32_1554 v1431
  v1432.toNat
def k0_dev66 (v13 : BitVec 32) : Nat :=
  let c0_i32_1557 : BitVec 32 := 0#32
  let c1_i32_1556 : BitVec 32 := 1#32
  let v1433 : BitVec 32 := Scalar.muli v13 c1_i32_1556
  let v1434 : BitVec 32 := Scalar.addi c0_i32_1557 v1433
  v1434.toNat
def k0_dev67 (v13 : BitVec 32) : Nat :=
  let c0_i32_1597 : BitVec 32 := 0#32
  let c1_i32_1596 : BitVec 32 := 1#32
  let v1463 : BitVec 32 := Scalar.muli v13 c1_i32_1596
  let v1464 : BitVec 32 := Scalar.addi c0_i32_1597 v1463
  v1464.toNat
def k0_dev68 (v9 : BitVec 32) : Nat :=
  let c0_i32_1609 : BitVec 32 := 0#32
  let c1_i32_1608 : BitVec 32 := 1#32
  let v1473 : BitVec 32 := Scalar.muli v9 c1_i32_1608
  let v1474 : BitVec 32 := Scalar.addi c0_i32_1609 v1473
  v1474.toNat
def k0_off70 (v4 : BitVec 32) : Fin 2 → Nat :=
  let c0_1617 : Index := 0#32
  let c64_i32_1614 : BitVec 32 := 64#32
  let v1483 : BitVec 32 := Scalar.addi v4 c64_i32_1614
  let c2_i32_1615 : BitVec 32 := 2#32
  let v1484 : BitVec 32 := Scalar.subi v1483 c2_i32_1615
  let c16_i32 : BitVec 32 := 16#32
  let v1485 : BitVec 32 := Scalar.subi v1484 c16_i32
  let c32_i32_1616 : BitVec 32 := 32#32
  let v1486 : BitVec 32 := Scalar.remsi v1485 c32_i32_1616
  let v1487 : Index := Scalar.indexCast v1486
  ![0, v1487.toNat]
def k0_off71 (v1488 : BitVec 32) : Fin 2 → Nat :=
  let c128_i32_1618 : BitVec 32 := 128#32
  let v1489 : BitVec 32 := Scalar.muli v1488 c128_i32_1618
  let v1490 : Index := Scalar.indexCast v1489
  let c0_1619 : Index := 0#32
  ![v1490.toNat, 0]

def k0_chk36 (v1488 : BitVec 32) : Prop :=
  (∀ a, (k0_off71 v1488) a + S128x128.size a ≤ S4096x128.size a)
theorem k0_off71_inb : ∀ (v1488 : BitVec 32) (k0_hw36 : k0_chk36 v1488), ∀ a, (k0_off71 v1488) a + S128x128.size a ≤ S4096x128.size a := fun v1488 k0_hw36 => k0_hw36

def k0_off72 (v4 : BitVec 32) : Fin 2 → Nat :=
  let c0_1626 : Index := 0#32
  let c2_i32_1623 : BitVec 32 := 2#32
  let v1496 : BitVec 32 := Scalar.addi v4 c2_i32_1623
  let c16_i32_1624 : BitVec 32 := 16#32
  let v1497 : BitVec 32 := Scalar.addi v1496 c16_i32_1624
  let c32_i32_1625 : BitVec 32 := 32#32
  let v1498 : BitVec 32 := Scalar.remsi v1497 c32_i32_1625
  let v1499 : Index := Scalar.indexCast v1498
  ![0, v1499.toNat]
def k0_off73 (v1500 : BitVec 32) : Fin 2 → Nat :=
  let c128_i32_1627 : BitVec 32 := 128#32
  let v1501 : BitVec 32 := Scalar.muli v1500 c128_i32_1627
  let v1502 : Index := Scalar.indexCast v1501
  let c0_1628 : Index := 0#32
  ![v1502.toNat, 0]

def k0_chk37 (v1500 : BitVec 32) : Prop :=
  (∀ a, (k0_off73 v1500) a + S128x128.size a ≤ S4096x128.size a)
theorem k0_off73_inb : ∀ (v1500 : BitVec 32) (k0_hw37 : k0_chk37 v1500), ∀ a, (k0_off73 v1500) a + S128x128.size a ≤ S4096x128.size a := fun v1500 k0_hw37 => k0_hw37

def k0_dev69 (v9 : BitVec 32) : Nat :=
  let c0_i32_1652 : BitVec 32 := 0#32
  let c1_i32_1651 : BitVec 32 := 1#32
  let v1520 : BitVec 32 := Scalar.muli v9 c1_i32_1651
  let v1521 : BitVec 32 := Scalar.addi c0_i32_1652 v1520
  v1521.toNat
def k0_dev70 (v13 : BitVec 32) : Nat :=
  let c0_i32_1655 : BitVec 32 := 0#32
  let c1_i32_1654 : BitVec 32 := 1#32
  let v1522 : BitVec 32 := Scalar.muli v13 c1_i32_1654
  let v1523 : BitVec 32 := Scalar.addi c0_i32_1655 v1522
  v1523.toNat
def k0_dev71 (v13 : BitVec 32) : Nat :=
  let c0_i32_1695 : BitVec 32 := 0#32
  let c1_i32_1694 : BitVec 32 := 1#32
  let v1552 : BitVec 32 := Scalar.muli v13 c1_i32_1694
  let v1553 : BitVec 32 := Scalar.addi c0_i32_1695 v1552
  v1553.toNat
def k0_dev72 (v9 : BitVec 32) : Nat :=
  let c0_i32_1707 : BitVec 32 := 0#32
  let c1_i32_1706 : BitVec 32 := 1#32
  let v1562 : BitVec 32 := Scalar.muli v9 c1_i32_1706
  let v1563 : BitVec 32 := Scalar.addi c0_i32_1707 v1562
  v1563.toNat
def k0_off74 (v4 : BitVec 32) : Fin 2 → Nat :=
  let c0_1715 : Index := 0#32
  let c64_i32_1712 : BitVec 32 := 64#32
  let v1572 : BitVec 32 := Scalar.addi v4 c64_i32_1712
  let c2_i32_1713 : BitVec 32 := 2#32
  let v1573 : BitVec 32 := Scalar.subi v1572 c2_i32_1713
  let c17_i32 : BitVec 32 := 17#32
  let v1574 : BitVec 32 := Scalar.subi v1573 c17_i32
  let c32_i32_1714 : BitVec 32 := 32#32
  let v1575 : BitVec 32 := Scalar.remsi v1574 c32_i32_1714
  let v1576 : Index := Scalar.indexCast v1575
  ![0, v1576.toNat]
def k0_off75 (v1577 : BitVec 32) : Fin 2 → Nat :=
  let c128_i32_1716 : BitVec 32 := 128#32
  let v1578 : BitVec 32 := Scalar.muli v1577 c128_i32_1716
  let v1579 : Index := Scalar.indexCast v1578
  let c0_1717 : Index := 0#32
  ![v1579.toNat, 0]

def k0_chk38 (v1577 : BitVec 32) : Prop :=
  (∀ a, (k0_off75 v1577) a + S128x128.size a ≤ S4096x128.size a)
theorem k0_off75_inb : ∀ (v1577 : BitVec 32) (k0_hw38 : k0_chk38 v1577), ∀ a, (k0_off75 v1577) a + S128x128.size a ≤ S4096x128.size a := fun v1577 k0_hw38 => k0_hw38

def k0_off76 (v4 : BitVec 32) : Fin 2 → Nat :=
  let c0_1724 : Index := 0#32
  let c2_i32_1721 : BitVec 32 := 2#32
  let v1585 : BitVec 32 := Scalar.addi v4 c2_i32_1721
  let c17_i32_1722 : BitVec 32 := 17#32
  let v1586 : BitVec 32 := Scalar.addi v1585 c17_i32_1722
  let c32_i32_1723 : BitVec 32 := 32#32
  let v1587 : BitVec 32 := Scalar.remsi v1586 c32_i32_1723
  let v1588 : Index := Scalar.indexCast v1587
  ![0, v1588.toNat]
def k0_off77 (v1589 : BitVec 32) : Fin 2 → Nat :=
  let c128_i32_1725 : BitVec 32 := 128#32
  let v1590 : BitVec 32 := Scalar.muli v1589 c128_i32_1725
  let v1591 : Index := Scalar.indexCast v1590
  let c0_1726 : Index := 0#32
  ![v1591.toNat, 0]

def k0_chk39 (v1589 : BitVec 32) : Prop :=
  (∀ a, (k0_off77 v1589) a + S128x128.size a ≤ S4096x128.size a)
theorem k0_off77_inb : ∀ (v1589 : BitVec 32) (k0_hw39 : k0_chk39 v1589), ∀ a, (k0_off77 v1589) a + S128x128.size a ≤ S4096x128.size a := fun v1589 k0_hw39 => k0_hw39

def k0_dev73 (v9 : BitVec 32) : Nat :=
  let c0_i32_1750 : BitVec 32 := 0#32
  let c1_i32_1749 : BitVec 32 := 1#32
  let v1609 : BitVec 32 := Scalar.muli v9 c1_i32_1749
  let v1610 : BitVec 32 := Scalar.addi c0_i32_1750 v1609
  v1610.toNat
def k0_dev74 (v13 : BitVec 32) : Nat :=
  let c0_i32_1753 : BitVec 32 := 0#32
  let c1_i32_1752 : BitVec 32 := 1#32
  let v1611 : BitVec 32 := Scalar.muli v13 c1_i32_1752
  let v1612 : BitVec 32 := Scalar.addi c0_i32_1753 v1611
  v1612.toNat
def k0_dev75 (v13 : BitVec 32) : Nat :=
  let c0_i32_1793 : BitVec 32 := 0#32
  let c1_i32_1792 : BitVec 32 := 1#32
  let v1641 : BitVec 32 := Scalar.muli v13 c1_i32_1792
  let v1642 : BitVec 32 := Scalar.addi c0_i32_1793 v1641
  v1642.toNat
def k0_dev76 (v9 : BitVec 32) : Nat :=
  let c0_i32_1805 : BitVec 32 := 0#32
  let c1_i32_1804 : BitVec 32 := 1#32
  let v1651 : BitVec 32 := Scalar.muli v9 c1_i32_1804
  let v1652 : BitVec 32 := Scalar.addi c0_i32_1805 v1651
  v1652.toNat
def k0_off78 (v4 : BitVec 32) : Fin 2 → Nat :=
  let c0_1813 : Index := 0#32
  let c64_i32_1810 : BitVec 32 := 64#32
  let v1661 : BitVec 32 := Scalar.addi v4 c64_i32_1810
  let c2_i32_1811 : BitVec 32 := 2#32
  let v1662 : BitVec 32 := Scalar.subi v1661 c2_i32_1811
  let c18_i32 : BitVec 32 := 18#32
  let v1663 : BitVec 32 := Scalar.subi v1662 c18_i32
  let c32_i32_1812 : BitVec 32 := 32#32
  let v1664 : BitVec 32 := Scalar.remsi v1663 c32_i32_1812
  let v1665 : Index := Scalar.indexCast v1664
  ![0, v1665.toNat]
def k0_off79 (v1666 : BitVec 32) : Fin 2 → Nat :=
  let c128_i32_1814 : BitVec 32 := 128#32
  let v1667 : BitVec 32 := Scalar.muli v1666 c128_i32_1814
  let v1668 : Index := Scalar.indexCast v1667
  let c0_1815 : Index := 0#32
  ![v1668.toNat, 0]

def k0_chk40 (v1666 : BitVec 32) : Prop :=
  (∀ a, (k0_off79 v1666) a + S128x128.size a ≤ S4096x128.size a)
theorem k0_off79_inb : ∀ (v1666 : BitVec 32) (k0_hw40 : k0_chk40 v1666), ∀ a, (k0_off79 v1666) a + S128x128.size a ≤ S4096x128.size a := fun v1666 k0_hw40 => k0_hw40

def k0_off80 (v4 : BitVec 32) : Fin 2 → Nat :=
  let c0_1822 : Index := 0#32
  let c2_i32_1819 : BitVec 32 := 2#32
  let v1674 : BitVec 32 := Scalar.addi v4 c2_i32_1819
  let c18_i32_1820 : BitVec 32 := 18#32
  let v1675 : BitVec 32 := Scalar.addi v1674 c18_i32_1820
  let c32_i32_1821 : BitVec 32 := 32#32
  let v1676 : BitVec 32 := Scalar.remsi v1675 c32_i32_1821
  let v1677 : Index := Scalar.indexCast v1676
  ![0, v1677.toNat]
def k0_off81 (v1678 : BitVec 32) : Fin 2 → Nat :=
  let c128_i32_1823 : BitVec 32 := 128#32
  let v1679 : BitVec 32 := Scalar.muli v1678 c128_i32_1823
  let v1680 : Index := Scalar.indexCast v1679
  let c0_1824 : Index := 0#32
  ![v1680.toNat, 0]

def k0_chk41 (v1678 : BitVec 32) : Prop :=
  (∀ a, (k0_off81 v1678) a + S128x128.size a ≤ S4096x128.size a)
theorem k0_off81_inb : ∀ (v1678 : BitVec 32) (k0_hw41 : k0_chk41 v1678), ∀ a, (k0_off81 v1678) a + S128x128.size a ≤ S4096x128.size a := fun v1678 k0_hw41 => k0_hw41

def k0_dev77 (v9 : BitVec 32) : Nat :=
  let c0_i32_1848 : BitVec 32 := 0#32
  let c1_i32_1847 : BitVec 32 := 1#32
  let v1698 : BitVec 32 := Scalar.muli v9 c1_i32_1847
  let v1699 : BitVec 32 := Scalar.addi c0_i32_1848 v1698
  v1699.toNat
def k0_dev78 (v13 : BitVec 32) : Nat :=
  let c0_i32_1851 : BitVec 32 := 0#32
  let c1_i32_1850 : BitVec 32 := 1#32
  let v1700 : BitVec 32 := Scalar.muli v13 c1_i32_1850
  let v1701 : BitVec 32 := Scalar.addi c0_i32_1851 v1700
  v1701.toNat
def k0_dev79 (v13 : BitVec 32) : Nat :=
  let c0_i32_1891 : BitVec 32 := 0#32
  let c1_i32_1890 : BitVec 32 := 1#32
  let v1730 : BitVec 32 := Scalar.muli v13 c1_i32_1890
  let v1731 : BitVec 32 := Scalar.addi c0_i32_1891 v1730
  v1731.toNat
def k0_dev80 (v9 : BitVec 32) : Nat :=
  let c0_i32_1903 : BitVec 32 := 0#32
  let c1_i32_1902 : BitVec 32 := 1#32
  let v1740 : BitVec 32 := Scalar.muli v9 c1_i32_1902
  let v1741 : BitVec 32 := Scalar.addi c0_i32_1903 v1740
  v1741.toNat
def k0_off82 (v4 : BitVec 32) : Fin 2 → Nat :=
  let c0_1911 : Index := 0#32
  let c64_i32_1908 : BitVec 32 := 64#32
  let v1750 : BitVec 32 := Scalar.addi v4 c64_i32_1908
  let c2_i32_1909 : BitVec 32 := 2#32
  let v1751 : BitVec 32 := Scalar.subi v1750 c2_i32_1909
  let c19_i32 : BitVec 32 := 19#32
  let v1752 : BitVec 32 := Scalar.subi v1751 c19_i32
  let c32_i32_1910 : BitVec 32 := 32#32
  let v1753 : BitVec 32 := Scalar.remsi v1752 c32_i32_1910
  let v1754 : Index := Scalar.indexCast v1753
  ![0, v1754.toNat]
def k0_off83 (v1755 : BitVec 32) : Fin 2 → Nat :=
  let c128_i32_1912 : BitVec 32 := 128#32
  let v1756 : BitVec 32 := Scalar.muli v1755 c128_i32_1912
  let v1757 : Index := Scalar.indexCast v1756
  let c0_1913 : Index := 0#32
  ![v1757.toNat, 0]

def k0_chk42 (v1755 : BitVec 32) : Prop :=
  (∀ a, (k0_off83 v1755) a + S128x128.size a ≤ S4096x128.size a)
theorem k0_off83_inb : ∀ (v1755 : BitVec 32) (k0_hw42 : k0_chk42 v1755), ∀ a, (k0_off83 v1755) a + S128x128.size a ≤ S4096x128.size a := fun v1755 k0_hw42 => k0_hw42

def k0_off84 (v4 : BitVec 32) : Fin 2 → Nat :=
  let c0_1920 : Index := 0#32
  let c2_i32_1917 : BitVec 32 := 2#32
  let v1763 : BitVec 32 := Scalar.addi v4 c2_i32_1917
  let c19_i32_1918 : BitVec 32 := 19#32
  let v1764 : BitVec 32 := Scalar.addi v1763 c19_i32_1918
  let c32_i32_1919 : BitVec 32 := 32#32
  let v1765 : BitVec 32 := Scalar.remsi v1764 c32_i32_1919
  let v1766 : Index := Scalar.indexCast v1765
  ![0, v1766.toNat]
def k0_off85 (v1767 : BitVec 32) : Fin 2 → Nat :=
  let c128_i32_1921 : BitVec 32 := 128#32
  let v1768 : BitVec 32 := Scalar.muli v1767 c128_i32_1921
  let v1769 : Index := Scalar.indexCast v1768
  let c0_1922 : Index := 0#32
  ![v1769.toNat, 0]

def k0_chk43 (v1767 : BitVec 32) : Prop :=
  (∀ a, (k0_off85 v1767) a + S128x128.size a ≤ S4096x128.size a)
theorem k0_off85_inb : ∀ (v1767 : BitVec 32) (k0_hw43 : k0_chk43 v1767), ∀ a, (k0_off85 v1767) a + S128x128.size a ≤ S4096x128.size a := fun v1767 k0_hw43 => k0_hw43

def k0_dev81 (v9 : BitVec 32) : Nat :=
  let c0_i32_1946 : BitVec 32 := 0#32
  let c1_i32_1945 : BitVec 32 := 1#32
  let v1787 : BitVec 32 := Scalar.muli v9 c1_i32_1945
  let v1788 : BitVec 32 := Scalar.addi c0_i32_1946 v1787
  v1788.toNat
def k0_dev82 (v13 : BitVec 32) : Nat :=
  let c0_i32_1949 : BitVec 32 := 0#32
  let c1_i32_1948 : BitVec 32 := 1#32
  let v1789 : BitVec 32 := Scalar.muli v13 c1_i32_1948
  let v1790 : BitVec 32 := Scalar.addi c0_i32_1949 v1789
  v1790.toNat
def k0_dev83 (v13 : BitVec 32) : Nat :=
  let c0_i32_1989 : BitVec 32 := 0#32
  let c1_i32_1988 : BitVec 32 := 1#32
  let v1819 : BitVec 32 := Scalar.muli v13 c1_i32_1988
  let v1820 : BitVec 32 := Scalar.addi c0_i32_1989 v1819
  v1820.toNat
def k0_dev84 (v9 : BitVec 32) : Nat :=
  let c0_i32_2001 : BitVec 32 := 0#32
  let c1_i32_2000 : BitVec 32 := 1#32
  let v1829 : BitVec 32 := Scalar.muli v9 c1_i32_2000
  let v1830 : BitVec 32 := Scalar.addi c0_i32_2001 v1829
  v1830.toNat
def k0_off86 (v4 : BitVec 32) : Fin 2 → Nat :=
  let c0_2009 : Index := 0#32
  let c64_i32_2006 : BitVec 32 := 64#32
  let v1839 : BitVec 32 := Scalar.addi v4 c64_i32_2006
  let c2_i32_2007 : BitVec 32 := 2#32
  let v1840 : BitVec 32 := Scalar.subi v1839 c2_i32_2007
  let c20_i32 : BitVec 32 := 20#32
  let v1841 : BitVec 32 := Scalar.subi v1840 c20_i32
  let c32_i32_2008 : BitVec 32 := 32#32
  let v1842 : BitVec 32 := Scalar.remsi v1841 c32_i32_2008
  let v1843 : Index := Scalar.indexCast v1842
  ![0, v1843.toNat]
def k0_off87 (v1844 : BitVec 32) : Fin 2 → Nat :=
  let c128_i32_2010 : BitVec 32 := 128#32
  let v1845 : BitVec 32 := Scalar.muli v1844 c128_i32_2010
  let v1846 : Index := Scalar.indexCast v1845
  let c0_2011 : Index := 0#32
  ![v1846.toNat, 0]

def k0_chk44 (v1844 : BitVec 32) : Prop :=
  (∀ a, (k0_off87 v1844) a + S128x128.size a ≤ S4096x128.size a)
theorem k0_off87_inb : ∀ (v1844 : BitVec 32) (k0_hw44 : k0_chk44 v1844), ∀ a, (k0_off87 v1844) a + S128x128.size a ≤ S4096x128.size a := fun v1844 k0_hw44 => k0_hw44

def k0_off88 (v4 : BitVec 32) : Fin 2 → Nat :=
  let c0_2018 : Index := 0#32
  let c2_i32_2015 : BitVec 32 := 2#32
  let v1852 : BitVec 32 := Scalar.addi v4 c2_i32_2015
  let c20_i32_2016 : BitVec 32 := 20#32
  let v1853 : BitVec 32 := Scalar.addi v1852 c20_i32_2016
  let c32_i32_2017 : BitVec 32 := 32#32
  let v1854 : BitVec 32 := Scalar.remsi v1853 c32_i32_2017
  let v1855 : Index := Scalar.indexCast v1854
  ![0, v1855.toNat]
def k0_off89 (v1856 : BitVec 32) : Fin 2 → Nat :=
  let c128_i32_2019 : BitVec 32 := 128#32
  let v1857 : BitVec 32 := Scalar.muli v1856 c128_i32_2019
  let v1858 : Index := Scalar.indexCast v1857
  let c0_2020 : Index := 0#32
  ![v1858.toNat, 0]

def k0_chk45 (v1856 : BitVec 32) : Prop :=
  (∀ a, (k0_off89 v1856) a + S128x128.size a ≤ S4096x128.size a)
theorem k0_off89_inb : ∀ (v1856 : BitVec 32) (k0_hw45 : k0_chk45 v1856), ∀ a, (k0_off89 v1856) a + S128x128.size a ≤ S4096x128.size a := fun v1856 k0_hw45 => k0_hw45

def k0_dev85 (v9 : BitVec 32) : Nat :=
  let c0_i32_2044 : BitVec 32 := 0#32
  let c1_i32_2043 : BitVec 32 := 1#32
  let v1876 : BitVec 32 := Scalar.muli v9 c1_i32_2043
  let v1877 : BitVec 32 := Scalar.addi c0_i32_2044 v1876
  v1877.toNat
def k0_dev86 (v13 : BitVec 32) : Nat :=
  let c0_i32_2047 : BitVec 32 := 0#32
  let c1_i32_2046 : BitVec 32 := 1#32
  let v1878 : BitVec 32 := Scalar.muli v13 c1_i32_2046
  let v1879 : BitVec 32 := Scalar.addi c0_i32_2047 v1878
  v1879.toNat
def k0_dev87 (v13 : BitVec 32) : Nat :=
  let c0_i32_2087 : BitVec 32 := 0#32
  let c1_i32_2086 : BitVec 32 := 1#32
  let v1908 : BitVec 32 := Scalar.muli v13 c1_i32_2086
  let v1909 : BitVec 32 := Scalar.addi c0_i32_2087 v1908
  v1909.toNat
def k0_dev88 (v9 : BitVec 32) : Nat :=
  let c0_i32_2099 : BitVec 32 := 0#32
  let c1_i32_2098 : BitVec 32 := 1#32
  let v1918 : BitVec 32 := Scalar.muli v9 c1_i32_2098
  let v1919 : BitVec 32 := Scalar.addi c0_i32_2099 v1918
  v1919.toNat
def k0_off90 (v4 : BitVec 32) : Fin 2 → Nat :=
  let c0_2107 : Index := 0#32
  let c64_i32_2104 : BitVec 32 := 64#32
  let v1928 : BitVec 32 := Scalar.addi v4 c64_i32_2104
  let c2_i32_2105 : BitVec 32 := 2#32
  let v1929 : BitVec 32 := Scalar.subi v1928 c2_i32_2105
  let c21_i32 : BitVec 32 := 21#32
  let v1930 : BitVec 32 := Scalar.subi v1929 c21_i32
  let c32_i32_2106 : BitVec 32 := 32#32
  let v1931 : BitVec 32 := Scalar.remsi v1930 c32_i32_2106
  let v1932 : Index := Scalar.indexCast v1931
  ![0, v1932.toNat]
def k0_off91 (v1933 : BitVec 32) : Fin 2 → Nat :=
  let c128_i32_2108 : BitVec 32 := 128#32
  let v1934 : BitVec 32 := Scalar.muli v1933 c128_i32_2108
  let v1935 : Index := Scalar.indexCast v1934
  let c0_2109 : Index := 0#32
  ![v1935.toNat, 0]

def k0_chk46 (v1933 : BitVec 32) : Prop :=
  (∀ a, (k0_off91 v1933) a + S128x128.size a ≤ S4096x128.size a)
theorem k0_off91_inb : ∀ (v1933 : BitVec 32) (k0_hw46 : k0_chk46 v1933), ∀ a, (k0_off91 v1933) a + S128x128.size a ≤ S4096x128.size a := fun v1933 k0_hw46 => k0_hw46

def k0_off92 (v4 : BitVec 32) : Fin 2 → Nat :=
  let c0_2116 : Index := 0#32
  let c2_i32_2113 : BitVec 32 := 2#32
  let v1941 : BitVec 32 := Scalar.addi v4 c2_i32_2113
  let c21_i32_2114 : BitVec 32 := 21#32
  let v1942 : BitVec 32 := Scalar.addi v1941 c21_i32_2114
  let c32_i32_2115 : BitVec 32 := 32#32
  let v1943 : BitVec 32 := Scalar.remsi v1942 c32_i32_2115
  let v1944 : Index := Scalar.indexCast v1943
  ![0, v1944.toNat]
def k0_off93 (v1945 : BitVec 32) : Fin 2 → Nat :=
  let c128_i32_2117 : BitVec 32 := 128#32
  let v1946 : BitVec 32 := Scalar.muli v1945 c128_i32_2117
  let v1947 : Index := Scalar.indexCast v1946
  let c0_2118 : Index := 0#32
  ![v1947.toNat, 0]

def k0_chk47 (v1945 : BitVec 32) : Prop :=
  (∀ a, (k0_off93 v1945) a + S128x128.size a ≤ S4096x128.size a)
theorem k0_off93_inb : ∀ (v1945 : BitVec 32) (k0_hw47 : k0_chk47 v1945), ∀ a, (k0_off93 v1945) a + S128x128.size a ≤ S4096x128.size a := fun v1945 k0_hw47 => k0_hw47

def k0_dev89 (v9 : BitVec 32) : Nat :=
  let c0_i32_2142 : BitVec 32 := 0#32
  let c1_i32_2141 : BitVec 32 := 1#32
  let v1965 : BitVec 32 := Scalar.muli v9 c1_i32_2141
  let v1966 : BitVec 32 := Scalar.addi c0_i32_2142 v1965
  v1966.toNat
def k0_dev90 (v13 : BitVec 32) : Nat :=
  let c0_i32_2145 : BitVec 32 := 0#32
  let c1_i32_2144 : BitVec 32 := 1#32
  let v1967 : BitVec 32 := Scalar.muli v13 c1_i32_2144
  let v1968 : BitVec 32 := Scalar.addi c0_i32_2145 v1967
  v1968.toNat
def k0_dev91 (v13 : BitVec 32) : Nat :=
  let c0_i32_2185 : BitVec 32 := 0#32
  let c1_i32_2184 : BitVec 32 := 1#32
  let v1997 : BitVec 32 := Scalar.muli v13 c1_i32_2184
  let v1998 : BitVec 32 := Scalar.addi c0_i32_2185 v1997
  v1998.toNat
def k0_dev92 (v9 : BitVec 32) : Nat :=
  let c0_i32_2197 : BitVec 32 := 0#32
  let c1_i32_2196 : BitVec 32 := 1#32
  let v2007 : BitVec 32 := Scalar.muli v9 c1_i32_2196
  let v2008 : BitVec 32 := Scalar.addi c0_i32_2197 v2007
  v2008.toNat
def k0_off94 (v4 : BitVec 32) : Fin 2 → Nat :=
  let c0_2205 : Index := 0#32
  let c64_i32_2202 : BitVec 32 := 64#32
  let v2017 : BitVec 32 := Scalar.addi v4 c64_i32_2202
  let c2_i32_2203 : BitVec 32 := 2#32
  let v2018 : BitVec 32 := Scalar.subi v2017 c2_i32_2203
  let c22_i32 : BitVec 32 := 22#32
  let v2019 : BitVec 32 := Scalar.subi v2018 c22_i32
  let c32_i32_2204 : BitVec 32 := 32#32
  let v2020 : BitVec 32 := Scalar.remsi v2019 c32_i32_2204
  let v2021 : Index := Scalar.indexCast v2020
  ![0, v2021.toNat]
def k0_off95 (v2022 : BitVec 32) : Fin 2 → Nat :=
  let c128_i32_2206 : BitVec 32 := 128#32
  let v2023 : BitVec 32 := Scalar.muli v2022 c128_i32_2206
  let v2024 : Index := Scalar.indexCast v2023
  let c0_2207 : Index := 0#32
  ![v2024.toNat, 0]

def k0_chk48 (v2022 : BitVec 32) : Prop :=
  (∀ a, (k0_off95 v2022) a + S128x128.size a ≤ S4096x128.size a)
theorem k0_off95_inb : ∀ (v2022 : BitVec 32) (k0_hw48 : k0_chk48 v2022), ∀ a, (k0_off95 v2022) a + S128x128.size a ≤ S4096x128.size a := fun v2022 k0_hw48 => k0_hw48

def k0_off96 (v4 : BitVec 32) : Fin 2 → Nat :=
  let c0_2214 : Index := 0#32
  let c2_i32_2211 : BitVec 32 := 2#32
  let v2030 : BitVec 32 := Scalar.addi v4 c2_i32_2211
  let c22_i32_2212 : BitVec 32 := 22#32
  let v2031 : BitVec 32 := Scalar.addi v2030 c22_i32_2212
  let c32_i32_2213 : BitVec 32 := 32#32
  let v2032 : BitVec 32 := Scalar.remsi v2031 c32_i32_2213
  let v2033 : Index := Scalar.indexCast v2032
  ![0, v2033.toNat]
def k0_off97 (v2034 : BitVec 32) : Fin 2 → Nat :=
  let c128_i32_2215 : BitVec 32 := 128#32
  let v2035 : BitVec 32 := Scalar.muli v2034 c128_i32_2215
  let v2036 : Index := Scalar.indexCast v2035
  let c0_2216 : Index := 0#32
  ![v2036.toNat, 0]

def k0_chk49 (v2034 : BitVec 32) : Prop :=
  (∀ a, (k0_off97 v2034) a + S128x128.size a ≤ S4096x128.size a)
theorem k0_off97_inb : ∀ (v2034 : BitVec 32) (k0_hw49 : k0_chk49 v2034), ∀ a, (k0_off97 v2034) a + S128x128.size a ≤ S4096x128.size a := fun v2034 k0_hw49 => k0_hw49

def k0_dev93 (v9 : BitVec 32) : Nat :=
  let c0_i32_2240 : BitVec 32 := 0#32
  let c1_i32_2239 : BitVec 32 := 1#32
  let v2054 : BitVec 32 := Scalar.muli v9 c1_i32_2239
  let v2055 : BitVec 32 := Scalar.addi c0_i32_2240 v2054
  v2055.toNat
def k0_dev94 (v13 : BitVec 32) : Nat :=
  let c0_i32_2243 : BitVec 32 := 0#32
  let c1_i32_2242 : BitVec 32 := 1#32
  let v2056 : BitVec 32 := Scalar.muli v13 c1_i32_2242
  let v2057 : BitVec 32 := Scalar.addi c0_i32_2243 v2056
  v2057.toNat
def k0_dev95 (v13 : BitVec 32) : Nat :=
  let c0_i32_2283 : BitVec 32 := 0#32
  let c1_i32_2282 : BitVec 32 := 1#32
  let v2086 : BitVec 32 := Scalar.muli v13 c1_i32_2282
  let v2087 : BitVec 32 := Scalar.addi c0_i32_2283 v2086
  v2087.toNat
def k0_dev96 (v9 : BitVec 32) : Nat :=
  let c0_i32_2295 : BitVec 32 := 0#32
  let c1_i32_2294 : BitVec 32 := 1#32
  let v2096 : BitVec 32 := Scalar.muli v9 c1_i32_2294
  let v2097 : BitVec 32 := Scalar.addi c0_i32_2295 v2096
  v2097.toNat
def k0_off98 (v4 : BitVec 32) : Fin 2 → Nat :=
  let c0_2303 : Index := 0#32
  let c64_i32_2300 : BitVec 32 := 64#32
  let v2106 : BitVec 32 := Scalar.addi v4 c64_i32_2300
  let c2_i32_2301 : BitVec 32 := 2#32
  let v2107 : BitVec 32 := Scalar.subi v2106 c2_i32_2301
  let c23_i32 : BitVec 32 := 23#32
  let v2108 : BitVec 32 := Scalar.subi v2107 c23_i32
  let c32_i32_2302 : BitVec 32 := 32#32
  let v2109 : BitVec 32 := Scalar.remsi v2108 c32_i32_2302
  let v2110 : Index := Scalar.indexCast v2109
  ![0, v2110.toNat]
def k0_off99 (v2111 : BitVec 32) : Fin 2 → Nat :=
  let c128_i32_2304 : BitVec 32 := 128#32
  let v2112 : BitVec 32 := Scalar.muli v2111 c128_i32_2304
  let v2113 : Index := Scalar.indexCast v2112
  let c0_2305 : Index := 0#32
  ![v2113.toNat, 0]

def k0_chk50 (v2111 : BitVec 32) : Prop :=
  (∀ a, (k0_off99 v2111) a + S128x128.size a ≤ S4096x128.size a)
theorem k0_off99_inb : ∀ (v2111 : BitVec 32) (k0_hw50 : k0_chk50 v2111), ∀ a, (k0_off99 v2111) a + S128x128.size a ≤ S4096x128.size a := fun v2111 k0_hw50 => k0_hw50

def k0_off100 (v4 : BitVec 32) : Fin 2 → Nat :=
  let c0_2312 : Index := 0#32
  let c2_i32_2309 : BitVec 32 := 2#32
  let v2119 : BitVec 32 := Scalar.addi v4 c2_i32_2309
  let c23_i32_2310 : BitVec 32 := 23#32
  let v2120 : BitVec 32 := Scalar.addi v2119 c23_i32_2310
  let c32_i32_2311 : BitVec 32 := 32#32
  let v2121 : BitVec 32 := Scalar.remsi v2120 c32_i32_2311
  let v2122 : Index := Scalar.indexCast v2121
  ![0, v2122.toNat]
def k0_off101 (v2123 : BitVec 32) : Fin 2 → Nat :=
  let c128_i32_2313 : BitVec 32 := 128#32
  let v2124 : BitVec 32 := Scalar.muli v2123 c128_i32_2313
  let v2125 : Index := Scalar.indexCast v2124
  let c0_2314 : Index := 0#32
  ![v2125.toNat, 0]

def k0_chk51 (v2123 : BitVec 32) : Prop :=
  (∀ a, (k0_off101 v2123) a + S128x128.size a ≤ S4096x128.size a)
theorem k0_off101_inb : ∀ (v2123 : BitVec 32) (k0_hw51 : k0_chk51 v2123), ∀ a, (k0_off101 v2123) a + S128x128.size a ≤ S4096x128.size a := fun v2123 k0_hw51 => k0_hw51

def k0_dev97 (v9 : BitVec 32) : Nat :=
  let c0_i32_2338 : BitVec 32 := 0#32
  let c1_i32_2337 : BitVec 32 := 1#32
  let v2143 : BitVec 32 := Scalar.muli v9 c1_i32_2337
  let v2144 : BitVec 32 := Scalar.addi c0_i32_2338 v2143
  v2144.toNat
def k0_dev98 (v13 : BitVec 32) : Nat :=
  let c0_i32_2341 : BitVec 32 := 0#32
  let c1_i32_2340 : BitVec 32 := 1#32
  let v2145 : BitVec 32 := Scalar.muli v13 c1_i32_2340
  let v2146 : BitVec 32 := Scalar.addi c0_i32_2341 v2145
  v2146.toNat
def k0_dev99 (v13 : BitVec 32) : Nat :=
  let c0_i32_2381 : BitVec 32 := 0#32
  let c1_i32_2380 : BitVec 32 := 1#32
  let v2175 : BitVec 32 := Scalar.muli v13 c1_i32_2380
  let v2176 : BitVec 32 := Scalar.addi c0_i32_2381 v2175
  v2176.toNat
def k0_dev100 (v9 : BitVec 32) : Nat :=
  let c0_i32_2393 : BitVec 32 := 0#32
  let c1_i32_2392 : BitVec 32 := 1#32
  let v2185 : BitVec 32 := Scalar.muli v9 c1_i32_2392
  let v2186 : BitVec 32 := Scalar.addi c0_i32_2393 v2185
  v2186.toNat
def k0_off102 (v4 : BitVec 32) : Fin 2 → Nat :=
  let c0_2401 : Index := 0#32
  let c64_i32_2398 : BitVec 32 := 64#32
  let v2195 : BitVec 32 := Scalar.addi v4 c64_i32_2398
  let c2_i32_2399 : BitVec 32 := 2#32
  let v2196 : BitVec 32 := Scalar.subi v2195 c2_i32_2399
  let c24_i32 : BitVec 32 := 24#32
  let v2197 : BitVec 32 := Scalar.subi v2196 c24_i32
  let c32_i32_2400 : BitVec 32 := 32#32
  let v2198 : BitVec 32 := Scalar.remsi v2197 c32_i32_2400
  let v2199 : Index := Scalar.indexCast v2198
  ![0, v2199.toNat]
def k0_off103 (v2200 : BitVec 32) : Fin 2 → Nat :=
  let c128_i32_2402 : BitVec 32 := 128#32
  let v2201 : BitVec 32 := Scalar.muli v2200 c128_i32_2402
  let v2202 : Index := Scalar.indexCast v2201
  let c0_2403 : Index := 0#32
  ![v2202.toNat, 0]

def k0_chk52 (v2200 : BitVec 32) : Prop :=
  (∀ a, (k0_off103 v2200) a + S128x128.size a ≤ S4096x128.size a)
theorem k0_off103_inb : ∀ (v2200 : BitVec 32) (k0_hw52 : k0_chk52 v2200), ∀ a, (k0_off103 v2200) a + S128x128.size a ≤ S4096x128.size a := fun v2200 k0_hw52 => k0_hw52

def k0_off104 (v4 : BitVec 32) : Fin 2 → Nat :=
  let c0_2410 : Index := 0#32
  let c2_i32_2407 : BitVec 32 := 2#32
  let v2208 : BitVec 32 := Scalar.addi v4 c2_i32_2407
  let c24_i32_2408 : BitVec 32 := 24#32
  let v2209 : BitVec 32 := Scalar.addi v2208 c24_i32_2408
  let c32_i32_2409 : BitVec 32 := 32#32
  let v2210 : BitVec 32 := Scalar.remsi v2209 c32_i32_2409
  let v2211 : Index := Scalar.indexCast v2210
  ![0, v2211.toNat]
def k0_off105 (v2212 : BitVec 32) : Fin 2 → Nat :=
  let c128_i32_2411 : BitVec 32 := 128#32
  let v2213 : BitVec 32 := Scalar.muli v2212 c128_i32_2411
  let v2214 : Index := Scalar.indexCast v2213
  let c0_2412 : Index := 0#32
  ![v2214.toNat, 0]

def k0_chk53 (v2212 : BitVec 32) : Prop :=
  (∀ a, (k0_off105 v2212) a + S128x128.size a ≤ S4096x128.size a)
theorem k0_off105_inb : ∀ (v2212 : BitVec 32) (k0_hw53 : k0_chk53 v2212), ∀ a, (k0_off105 v2212) a + S128x128.size a ≤ S4096x128.size a := fun v2212 k0_hw53 => k0_hw53

def k0_dev101 (v9 : BitVec 32) : Nat :=
  let c0_i32_2436 : BitVec 32 := 0#32
  let c1_i32_2435 : BitVec 32 := 1#32
  let v2232 : BitVec 32 := Scalar.muli v9 c1_i32_2435
  let v2233 : BitVec 32 := Scalar.addi c0_i32_2436 v2232
  v2233.toNat
def k0_dev102 (v13 : BitVec 32) : Nat :=
  let c0_i32_2439 : BitVec 32 := 0#32
  let c1_i32_2438 : BitVec 32 := 1#32
  let v2234 : BitVec 32 := Scalar.muli v13 c1_i32_2438
  let v2235 : BitVec 32 := Scalar.addi c0_i32_2439 v2234
  v2235.toNat
def k0_dev103 (v13 : BitVec 32) : Nat :=
  let c0_i32_2479 : BitVec 32 := 0#32
  let c1_i32_2478 : BitVec 32 := 1#32
  let v2264 : BitVec 32 := Scalar.muli v13 c1_i32_2478
  let v2265 : BitVec 32 := Scalar.addi c0_i32_2479 v2264
  v2265.toNat
def k0_dev104 (v9 : BitVec 32) : Nat :=
  let c0_i32_2491 : BitVec 32 := 0#32
  let c1_i32_2490 : BitVec 32 := 1#32
  let v2274 : BitVec 32 := Scalar.muli v9 c1_i32_2490
  let v2275 : BitVec 32 := Scalar.addi c0_i32_2491 v2274
  v2275.toNat
def k0_off106 (v4 : BitVec 32) : Fin 2 → Nat :=
  let c0_2499 : Index := 0#32
  let c64_i32_2496 : BitVec 32 := 64#32
  let v2284 : BitVec 32 := Scalar.addi v4 c64_i32_2496
  let c2_i32_2497 : BitVec 32 := 2#32
  let v2285 : BitVec 32 := Scalar.subi v2284 c2_i32_2497
  let c25_i32 : BitVec 32 := 25#32
  let v2286 : BitVec 32 := Scalar.subi v2285 c25_i32
  let c32_i32_2498 : BitVec 32 := 32#32
  let v2287 : BitVec 32 := Scalar.remsi v2286 c32_i32_2498
  let v2288 : Index := Scalar.indexCast v2287
  ![0, v2288.toNat]
def k0_off107 (v2289 : BitVec 32) : Fin 2 → Nat :=
  let c128_i32_2500 : BitVec 32 := 128#32
  let v2290 : BitVec 32 := Scalar.muli v2289 c128_i32_2500
  let v2291 : Index := Scalar.indexCast v2290
  let c0_2501 : Index := 0#32
  ![v2291.toNat, 0]

def k0_chk54 (v2289 : BitVec 32) : Prop :=
  (∀ a, (k0_off107 v2289) a + S128x128.size a ≤ S4096x128.size a)
theorem k0_off107_inb : ∀ (v2289 : BitVec 32) (k0_hw54 : k0_chk54 v2289), ∀ a, (k0_off107 v2289) a + S128x128.size a ≤ S4096x128.size a := fun v2289 k0_hw54 => k0_hw54

def k0_off108 (v4 : BitVec 32) : Fin 2 → Nat :=
  let c0_2508 : Index := 0#32
  let c2_i32_2505 : BitVec 32 := 2#32
  let v2297 : BitVec 32 := Scalar.addi v4 c2_i32_2505
  let c25_i32_2506 : BitVec 32 := 25#32
  let v2298 : BitVec 32 := Scalar.addi v2297 c25_i32_2506
  let c32_i32_2507 : BitVec 32 := 32#32
  let v2299 : BitVec 32 := Scalar.remsi v2298 c32_i32_2507
  let v2300 : Index := Scalar.indexCast v2299
  ![0, v2300.toNat]
def k0_off109 (v2301 : BitVec 32) : Fin 2 → Nat :=
  let c128_i32_2509 : BitVec 32 := 128#32
  let v2302 : BitVec 32 := Scalar.muli v2301 c128_i32_2509
  let v2303 : Index := Scalar.indexCast v2302
  let c0_2510 : Index := 0#32
  ![v2303.toNat, 0]

def k0_chk55 (v2301 : BitVec 32) : Prop :=
  (∀ a, (k0_off109 v2301) a + S128x128.size a ≤ S4096x128.size a)
theorem k0_off109_inb : ∀ (v2301 : BitVec 32) (k0_hw55 : k0_chk55 v2301), ∀ a, (k0_off109 v2301) a + S128x128.size a ≤ S4096x128.size a := fun v2301 k0_hw55 => k0_hw55

def k0_dev105 (v9 : BitVec 32) : Nat :=
  let c0_i32_2534 : BitVec 32 := 0#32
  let c1_i32_2533 : BitVec 32 := 1#32
  let v2321 : BitVec 32 := Scalar.muli v9 c1_i32_2533
  let v2322 : BitVec 32 := Scalar.addi c0_i32_2534 v2321
  v2322.toNat
def k0_dev106 (v13 : BitVec 32) : Nat :=
  let c0_i32_2537 : BitVec 32 := 0#32
  let c1_i32_2536 : BitVec 32 := 1#32
  let v2323 : BitVec 32 := Scalar.muli v13 c1_i32_2536
  let v2324 : BitVec 32 := Scalar.addi c0_i32_2537 v2323
  v2324.toNat
def k0_dev107 (v13 : BitVec 32) : Nat :=
  let c0_i32_2577 : BitVec 32 := 0#32
  let c1_i32_2576 : BitVec 32 := 1#32
  let v2353 : BitVec 32 := Scalar.muli v13 c1_i32_2576
  let v2354 : BitVec 32 := Scalar.addi c0_i32_2577 v2353
  v2354.toNat
def k0_dev108 (v9 : BitVec 32) : Nat :=
  let c0_i32_2589 : BitVec 32 := 0#32
  let c1_i32_2588 : BitVec 32 := 1#32
  let v2363 : BitVec 32 := Scalar.muli v9 c1_i32_2588
  let v2364 : BitVec 32 := Scalar.addi c0_i32_2589 v2363
  v2364.toNat
def k0_off110 (v4 : BitVec 32) : Fin 2 → Nat :=
  let c0_2597 : Index := 0#32
  let c64_i32_2594 : BitVec 32 := 64#32
  let v2373 : BitVec 32 := Scalar.addi v4 c64_i32_2594
  let c2_i32_2595 : BitVec 32 := 2#32
  let v2374 : BitVec 32 := Scalar.subi v2373 c2_i32_2595
  let c26_i32 : BitVec 32 := 26#32
  let v2375 : BitVec 32 := Scalar.subi v2374 c26_i32
  let c32_i32_2596 : BitVec 32 := 32#32
  let v2376 : BitVec 32 := Scalar.remsi v2375 c32_i32_2596
  let v2377 : Index := Scalar.indexCast v2376
  ![0, v2377.toNat]
def k0_off111 (v2378 : BitVec 32) : Fin 2 → Nat :=
  let c128_i32_2598 : BitVec 32 := 128#32
  let v2379 : BitVec 32 := Scalar.muli v2378 c128_i32_2598
  let v2380 : Index := Scalar.indexCast v2379
  let c0_2599 : Index := 0#32
  ![v2380.toNat, 0]

def k0_chk56 (v2378 : BitVec 32) : Prop :=
  (∀ a, (k0_off111 v2378) a + S128x128.size a ≤ S4096x128.size a)
theorem k0_off111_inb : ∀ (v2378 : BitVec 32) (k0_hw56 : k0_chk56 v2378), ∀ a, (k0_off111 v2378) a + S128x128.size a ≤ S4096x128.size a := fun v2378 k0_hw56 => k0_hw56

def k0_off112 (v4 : BitVec 32) : Fin 2 → Nat :=
  let c0_2606 : Index := 0#32
  let c2_i32_2603 : BitVec 32 := 2#32
  let v2386 : BitVec 32 := Scalar.addi v4 c2_i32_2603
  let c26_i32_2604 : BitVec 32 := 26#32
  let v2387 : BitVec 32 := Scalar.addi v2386 c26_i32_2604
  let c32_i32_2605 : BitVec 32 := 32#32
  let v2388 : BitVec 32 := Scalar.remsi v2387 c32_i32_2605
  let v2389 : Index := Scalar.indexCast v2388
  ![0, v2389.toNat]
def k0_off113 (v2390 : BitVec 32) : Fin 2 → Nat :=
  let c128_i32_2607 : BitVec 32 := 128#32
  let v2391 : BitVec 32 := Scalar.muli v2390 c128_i32_2607
  let v2392 : Index := Scalar.indexCast v2391
  let c0_2608 : Index := 0#32
  ![v2392.toNat, 0]

def k0_chk57 (v2390 : BitVec 32) : Prop :=
  (∀ a, (k0_off113 v2390) a + S128x128.size a ≤ S4096x128.size a)
theorem k0_off113_inb : ∀ (v2390 : BitVec 32) (k0_hw57 : k0_chk57 v2390), ∀ a, (k0_off113 v2390) a + S128x128.size a ≤ S4096x128.size a := fun v2390 k0_hw57 => k0_hw57

def k0_dev109 (v9 : BitVec 32) : Nat :=
  let c0_i32_2632 : BitVec 32 := 0#32
  let c1_i32_2631 : BitVec 32 := 1#32
  let v2410 : BitVec 32 := Scalar.muli v9 c1_i32_2631
  let v2411 : BitVec 32 := Scalar.addi c0_i32_2632 v2410
  v2411.toNat
def k0_dev110 (v13 : BitVec 32) : Nat :=
  let c0_i32_2635 : BitVec 32 := 0#32
  let c1_i32_2634 : BitVec 32 := 1#32
  let v2412 : BitVec 32 := Scalar.muli v13 c1_i32_2634
  let v2413 : BitVec 32 := Scalar.addi c0_i32_2635 v2412
  v2413.toNat
def k0_dev111 (v13 : BitVec 32) : Nat :=
  let c0_i32_2675 : BitVec 32 := 0#32
  let c1_i32_2674 : BitVec 32 := 1#32
  let v2442 : BitVec 32 := Scalar.muli v13 c1_i32_2674
  let v2443 : BitVec 32 := Scalar.addi c0_i32_2675 v2442
  v2443.toNat
def k0_dev112 (v9 : BitVec 32) : Nat :=
  let c0_i32_2687 : BitVec 32 := 0#32
  let c1_i32_2686 : BitVec 32 := 1#32
  let v2452 : BitVec 32 := Scalar.muli v9 c1_i32_2686
  let v2453 : BitVec 32 := Scalar.addi c0_i32_2687 v2452
  v2453.toNat
def k0_off114 (v4 : BitVec 32) : Fin 2 → Nat :=
  let c0_2695 : Index := 0#32
  let c64_i32_2692 : BitVec 32 := 64#32
  let v2462 : BitVec 32 := Scalar.addi v4 c64_i32_2692
  let c2_i32_2693 : BitVec 32 := 2#32
  let v2463 : BitVec 32 := Scalar.subi v2462 c2_i32_2693
  let c27_i32 : BitVec 32 := 27#32
  let v2464 : BitVec 32 := Scalar.subi v2463 c27_i32
  let c32_i32_2694 : BitVec 32 := 32#32
  let v2465 : BitVec 32 := Scalar.remsi v2464 c32_i32_2694
  let v2466 : Index := Scalar.indexCast v2465
  ![0, v2466.toNat]
def k0_off115 (v2467 : BitVec 32) : Fin 2 → Nat :=
  let c128_i32_2696 : BitVec 32 := 128#32
  let v2468 : BitVec 32 := Scalar.muli v2467 c128_i32_2696
  let v2469 : Index := Scalar.indexCast v2468
  let c0_2697 : Index := 0#32
  ![v2469.toNat, 0]

def k0_chk58 (v2467 : BitVec 32) : Prop :=
  (∀ a, (k0_off115 v2467) a + S128x128.size a ≤ S4096x128.size a)
theorem k0_off115_inb : ∀ (v2467 : BitVec 32) (k0_hw58 : k0_chk58 v2467), ∀ a, (k0_off115 v2467) a + S128x128.size a ≤ S4096x128.size a := fun v2467 k0_hw58 => k0_hw58

def k0_off116 (v4 : BitVec 32) : Fin 2 → Nat :=
  let c0_2704 : Index := 0#32
  let c2_i32_2701 : BitVec 32 := 2#32
  let v2475 : BitVec 32 := Scalar.addi v4 c2_i32_2701
  let c27_i32_2702 : BitVec 32 := 27#32
  let v2476 : BitVec 32 := Scalar.addi v2475 c27_i32_2702
  let c32_i32_2703 : BitVec 32 := 32#32
  let v2477 : BitVec 32 := Scalar.remsi v2476 c32_i32_2703
  let v2478 : Index := Scalar.indexCast v2477
  ![0, v2478.toNat]
def k0_off117 (v2479 : BitVec 32) : Fin 2 → Nat :=
  let c128_i32_2705 : BitVec 32 := 128#32
  let v2480 : BitVec 32 := Scalar.muli v2479 c128_i32_2705
  let v2481 : Index := Scalar.indexCast v2480
  let c0_2706 : Index := 0#32
  ![v2481.toNat, 0]

def k0_chk59 (v2479 : BitVec 32) : Prop :=
  (∀ a, (k0_off117 v2479) a + S128x128.size a ≤ S4096x128.size a)
theorem k0_off117_inb : ∀ (v2479 : BitVec 32) (k0_hw59 : k0_chk59 v2479), ∀ a, (k0_off117 v2479) a + S128x128.size a ≤ S4096x128.size a := fun v2479 k0_hw59 => k0_hw59

def k0_dev113 (v9 : BitVec 32) : Nat :=
  let c0_i32_2730 : BitVec 32 := 0#32
  let c1_i32_2729 : BitVec 32 := 1#32
  let v2499 : BitVec 32 := Scalar.muli v9 c1_i32_2729
  let v2500 : BitVec 32 := Scalar.addi c0_i32_2730 v2499
  v2500.toNat
def k0_dev114 (v13 : BitVec 32) : Nat :=
  let c0_i32_2733 : BitVec 32 := 0#32
  let c1_i32_2732 : BitVec 32 := 1#32
  let v2501 : BitVec 32 := Scalar.muli v13 c1_i32_2732
  let v2502 : BitVec 32 := Scalar.addi c0_i32_2733 v2501
  v2502.toNat
def k0_dev115 (v13 : BitVec 32) : Nat :=
  let c0_i32_2773 : BitVec 32 := 0#32
  let c1_i32_2772 : BitVec 32 := 1#32
  let v2531 : BitVec 32 := Scalar.muli v13 c1_i32_2772
  let v2532 : BitVec 32 := Scalar.addi c0_i32_2773 v2531
  v2532.toNat
def k0_dev116 (v9 : BitVec 32) : Nat :=
  let c0_i32_2785 : BitVec 32 := 0#32
  let c1_i32_2784 : BitVec 32 := 1#32
  let v2541 : BitVec 32 := Scalar.muli v9 c1_i32_2784
  let v2542 : BitVec 32 := Scalar.addi c0_i32_2785 v2541
  v2542.toNat
def k0_off118 (v4 : BitVec 32) : Fin 2 → Nat :=
  let c0_2793 : Index := 0#32
  let c64_i32_2790 : BitVec 32 := 64#32
  let v2551 : BitVec 32 := Scalar.addi v4 c64_i32_2790
  let c2_i32_2791 : BitVec 32 := 2#32
  let v2552 : BitVec 32 := Scalar.subi v2551 c2_i32_2791
  let c28_i32 : BitVec 32 := 28#32
  let v2553 : BitVec 32 := Scalar.subi v2552 c28_i32
  let c32_i32_2792 : BitVec 32 := 32#32
  let v2554 : BitVec 32 := Scalar.remsi v2553 c32_i32_2792
  let v2555 : Index := Scalar.indexCast v2554
  ![0, v2555.toNat]
def k0_off119 (v2556 : BitVec 32) : Fin 2 → Nat :=
  let c128_i32_2794 : BitVec 32 := 128#32
  let v2557 : BitVec 32 := Scalar.muli v2556 c128_i32_2794
  let v2558 : Index := Scalar.indexCast v2557
  let c0_2795 : Index := 0#32
  ![v2558.toNat, 0]

def k0_chk60 (v2556 : BitVec 32) : Prop :=
  (∀ a, (k0_off119 v2556) a + S128x128.size a ≤ S4096x128.size a)
theorem k0_off119_inb : ∀ (v2556 : BitVec 32) (k0_hw60 : k0_chk60 v2556), ∀ a, (k0_off119 v2556) a + S128x128.size a ≤ S4096x128.size a := fun v2556 k0_hw60 => k0_hw60

def k0_off120 (v4 : BitVec 32) : Fin 2 → Nat :=
  let c0_2802 : Index := 0#32
  let c2_i32_2799 : BitVec 32 := 2#32
  let v2564 : BitVec 32 := Scalar.addi v4 c2_i32_2799
  let c28_i32_2800 : BitVec 32 := 28#32
  let v2565 : BitVec 32 := Scalar.addi v2564 c28_i32_2800
  let c32_i32_2801 : BitVec 32 := 32#32
  let v2566 : BitVec 32 := Scalar.remsi v2565 c32_i32_2801
  let v2567 : Index := Scalar.indexCast v2566
  ![0, v2567.toNat]
def k0_off121 (v2568 : BitVec 32) : Fin 2 → Nat :=
  let c128_i32_2803 : BitVec 32 := 128#32
  let v2569 : BitVec 32 := Scalar.muli v2568 c128_i32_2803
  let v2570 : Index := Scalar.indexCast v2569
  let c0_2804 : Index := 0#32
  ![v2570.toNat, 0]

def k0_chk61 (v2568 : BitVec 32) : Prop :=
  (∀ a, (k0_off121 v2568) a + S128x128.size a ≤ S4096x128.size a)
theorem k0_off121_inb : ∀ (v2568 : BitVec 32) (k0_hw61 : k0_chk61 v2568), ∀ a, (k0_off121 v2568) a + S128x128.size a ≤ S4096x128.size a := fun v2568 k0_hw61 => k0_hw61

def k0_dev117 (v9 : BitVec 32) : Nat :=
  let c0_i32_2828 : BitVec 32 := 0#32
  let c1_i32_2827 : BitVec 32 := 1#32
  let v2588 : BitVec 32 := Scalar.muli v9 c1_i32_2827
  let v2589 : BitVec 32 := Scalar.addi c0_i32_2828 v2588
  v2589.toNat
def k0_dev118 (v13 : BitVec 32) : Nat :=
  let c0_i32_2831 : BitVec 32 := 0#32
  let c1_i32_2830 : BitVec 32 := 1#32
  let v2590 : BitVec 32 := Scalar.muli v13 c1_i32_2830
  let v2591 : BitVec 32 := Scalar.addi c0_i32_2831 v2590
  v2591.toNat
def k0_dev119 (v13 : BitVec 32) : Nat :=
  let c0_i32_2871 : BitVec 32 := 0#32
  let c1_i32_2870 : BitVec 32 := 1#32
  let v2620 : BitVec 32 := Scalar.muli v13 c1_i32_2870
  let v2621 : BitVec 32 := Scalar.addi c0_i32_2871 v2620
  v2621.toNat
def k0_dev120 (v9 : BitVec 32) : Nat :=
  let c0_i32_2883 : BitVec 32 := 0#32
  let c1_i32_2882 : BitVec 32 := 1#32
  let v2630 : BitVec 32 := Scalar.muli v9 c1_i32_2882
  let v2631 : BitVec 32 := Scalar.addi c0_i32_2883 v2630
  v2631.toNat
def k0_off122 (v4 : BitVec 32) : Fin 2 → Nat :=
  let c0_2891 : Index := 0#32
  let c64_i32_2888 : BitVec 32 := 64#32
  let v2640 : BitVec 32 := Scalar.addi v4 c64_i32_2888
  let c2_i32_2889 : BitVec 32 := 2#32
  let v2641 : BitVec 32 := Scalar.subi v2640 c2_i32_2889
  let c29_i32 : BitVec 32 := 29#32
  let v2642 : BitVec 32 := Scalar.subi v2641 c29_i32
  let c32_i32_2890 : BitVec 32 := 32#32
  let v2643 : BitVec 32 := Scalar.remsi v2642 c32_i32_2890
  let v2644 : Index := Scalar.indexCast v2643
  ![0, v2644.toNat]
def k0_off123 (v2645 : BitVec 32) : Fin 2 → Nat :=
  let c128_i32_2892 : BitVec 32 := 128#32
  let v2646 : BitVec 32 := Scalar.muli v2645 c128_i32_2892
  let v2647 : Index := Scalar.indexCast v2646
  let c0_2893 : Index := 0#32
  ![v2647.toNat, 0]

def k0_chk62 (v2645 : BitVec 32) : Prop :=
  (∀ a, (k0_off123 v2645) a + S128x128.size a ≤ S4096x128.size a)
theorem k0_off123_inb : ∀ (v2645 : BitVec 32) (k0_hw62 : k0_chk62 v2645), ∀ a, (k0_off123 v2645) a + S128x128.size a ≤ S4096x128.size a := fun v2645 k0_hw62 => k0_hw62

def k0_off124 (v4 : BitVec 32) : Fin 2 → Nat :=
  let c0_2900 : Index := 0#32
  let c2_i32_2897 : BitVec 32 := 2#32
  let v2653 : BitVec 32 := Scalar.addi v4 c2_i32_2897
  let c29_i32_2898 : BitVec 32 := 29#32
  let v2654 : BitVec 32 := Scalar.addi v2653 c29_i32_2898
  let c32_i32_2899 : BitVec 32 := 32#32
  let v2655 : BitVec 32 := Scalar.remsi v2654 c32_i32_2899
  let v2656 : Index := Scalar.indexCast v2655
  ![0, v2656.toNat]
def k0_off125 (v2657 : BitVec 32) : Fin 2 → Nat :=
  let c128_i32_2901 : BitVec 32 := 128#32
  let v2658 : BitVec 32 := Scalar.muli v2657 c128_i32_2901
  let v2659 : Index := Scalar.indexCast v2658
  let c0_2902 : Index := 0#32
  ![v2659.toNat, 0]

def k0_chk63 (v2657 : BitVec 32) : Prop :=
  (∀ a, (k0_off125 v2657) a + S128x128.size a ≤ S4096x128.size a)
theorem k0_off125_inb : ∀ (v2657 : BitVec 32) (k0_hw63 : k0_chk63 v2657), ∀ a, (k0_off125 v2657) a + S128x128.size a ≤ S4096x128.size a := fun v2657 k0_hw63 => k0_hw63

def k0_dev121 (v9 : BitVec 32) : Nat :=
  let c0_i32_2926 : BitVec 32 := 0#32
  let c1_i32_2925 : BitVec 32 := 1#32
  let v2677 : BitVec 32 := Scalar.muli v9 c1_i32_2925
  let v2678 : BitVec 32 := Scalar.addi c0_i32_2926 v2677
  v2678.toNat
def k0_dev122 (v13 : BitVec 32) : Nat :=
  let c0_i32_2929 : BitVec 32 := 0#32
  let c1_i32_2928 : BitVec 32 := 1#32
  let v2679 : BitVec 32 := Scalar.muli v13 c1_i32_2928
  let v2680 : BitVec 32 := Scalar.addi c0_i32_2929 v2679
  v2680.toNat
def k0_dev123 (v13 : BitVec 32) : Nat :=
  let c0_i32_2969 : BitVec 32 := 0#32
  let c1_i32_2968 : BitVec 32 := 1#32
  let v2709 : BitVec 32 := Scalar.muli v13 c1_i32_2968
  let v2710 : BitVec 32 := Scalar.addi c0_i32_2969 v2709
  v2710.toNat

def k0_chk3_0 (v13 : BitVec 32) : Prop :=
  ((k0_dev2 v13) < nD) ∧
  (∀ a, (k0_off5 v13) a + S128x128.size a ≤ S4096x128.size a) ∧
  ((k0_dev3 v13) < nD) ∧
  ((k0_dev6 v13) < nD) ∧
  ((k0_dev7 v13) < nD) ∧
  ((k0_dev10 v13) < nD) ∧
  ((k0_dev11 v13) < nD) ∧
  ((k0_dev14 v13) < nD) ∧
  ((k0_dev15 v13) < nD) ∧
  ((k0_dev18 v13) < nD) ∧
  ((k0_dev19 v13) < nD) ∧
  ((k0_dev22 v13) < nD) ∧
  ((k0_dev23 v13) < nD) ∧
  ((k0_dev26 v13) < nD) ∧
  ((k0_dev27 v13) < nD) ∧
  ((k0_dev30 v13) < nD) ∧
  ((k0_dev31 v13) < nD) ∧
  ((k0_dev34 v13) < nD) ∧
  ((k0_dev35 v13) < nD) ∧
  ((k0_dev38 v13) < nD) ∧
  ((k0_dev39 v13) < nD) ∧
  ((k0_dev42 v13) < nD) ∧
  ((k0_dev43 v13) < nD) ∧
  ((k0_dev46 v13) < nD) ∧
  ((k0_dev47 v13) < nD) ∧
  ((k0_dev50 v13) < nD) ∧
  ((k0_dev51 v13) < nD) ∧
  ((k0_dev54 v13) < nD) ∧
  ((k0_dev55 v13) < nD) ∧
  ((k0_dev58 v13) < nD) ∧
  ((k0_dev59 v13) < nD) ∧
  ((k0_dev62 v13) < nD)
def k0_chk3_1 (v13 : BitVec 32) : Prop :=
  ((k0_dev63 v13) < nD) ∧
  ((k0_dev66 v13) < nD) ∧
  ((k0_dev67 v13) < nD) ∧
  ((k0_dev70 v13) < nD) ∧
  ((k0_dev71 v13) < nD) ∧
  ((k0_dev74 v13) < nD) ∧
  ((k0_dev75 v13) < nD) ∧
  ((k0_dev78 v13) < nD) ∧
  ((k0_dev79 v13) < nD) ∧
  ((k0_dev82 v13) < nD) ∧
  ((k0_dev83 v13) < nD) ∧
  ((k0_dev86 v13) < nD) ∧
  ((k0_dev87 v13) < nD) ∧
  ((k0_dev90 v13) < nD) ∧
  ((k0_dev91 v13) < nD) ∧
  ((k0_dev94 v13) < nD) ∧
  ((k0_dev95 v13) < nD) ∧
  ((k0_dev98 v13) < nD) ∧
  ((k0_dev99 v13) < nD) ∧
  ((k0_dev102 v13) < nD) ∧
  ((k0_dev103 v13) < nD) ∧
  ((k0_dev106 v13) < nD) ∧
  ((k0_dev107 v13) < nD) ∧
  ((k0_dev110 v13) < nD) ∧
  ((k0_dev111 v13) < nD) ∧
  ((k0_dev114 v13) < nD) ∧
  ((k0_dev115 v13) < nD) ∧
  ((k0_dev118 v13) < nD) ∧
  ((k0_dev119 v13) < nD) ∧
  ((k0_dev122 v13) < nD) ∧
  ((k0_dev123 v13) < nD)
def k0_chk3 (v13 : BitVec 32) : Prop :=
  k0_chk3_0 v13 ∧
  k0_chk3_1 v13
theorem k0_dev2_lt : ∀ (v13 : BitVec 32) (k0_hw3 : k0_chk3 v13), (k0_dev2 v13) < nD := fun v13 k0_hw3 => k0_hw3.1.1
theorem k0_off5_inb : ∀ (v13 : BitVec 32) (k0_hw3 : k0_chk3 v13), ∀ a, (k0_off5 v13) a + S128x128.size a ≤ S4096x128.size a := fun v13 k0_hw3 => k0_hw3.1.2.1
theorem k0_dev3_lt : ∀ (v13 : BitVec 32) (k0_hw3 : k0_chk3 v13), (k0_dev3 v13) < nD := fun v13 k0_hw3 => k0_hw3.1.2.2.1
theorem k0_dev6_lt : ∀ (v13 : BitVec 32) (k0_hw3 : k0_chk3 v13), (k0_dev6 v13) < nD := fun v13 k0_hw3 => k0_hw3.1.2.2.2.1
theorem k0_dev7_lt : ∀ (v13 : BitVec 32) (k0_hw3 : k0_chk3 v13), (k0_dev7 v13) < nD := fun v13 k0_hw3 => k0_hw3.1.2.2.2.2.1
theorem k0_dev10_lt : ∀ (v13 : BitVec 32) (k0_hw3 : k0_chk3 v13), (k0_dev10 v13) < nD := fun v13 k0_hw3 => k0_hw3.1.2.2.2.2.2.1
theorem k0_dev11_lt : ∀ (v13 : BitVec 32) (k0_hw3 : k0_chk3 v13), (k0_dev11 v13) < nD := fun v13 k0_hw3 => k0_hw3.1.2.2.2.2.2.2.1
theorem k0_dev14_lt : ∀ (v13 : BitVec 32) (k0_hw3 : k0_chk3 v13), (k0_dev14 v13) < nD := fun v13 k0_hw3 => k0_hw3.1.2.2.2.2.2.2.2.1
theorem k0_dev15_lt : ∀ (v13 : BitVec 32) (k0_hw3 : k0_chk3 v13), (k0_dev15 v13) < nD := fun v13 k0_hw3 => k0_hw3.1.2.2.2.2.2.2.2.2.1
theorem k0_dev18_lt : ∀ (v13 : BitVec 32) (k0_hw3 : k0_chk3 v13), (k0_dev18 v13) < nD := fun v13 k0_hw3 => k0_hw3.1.2.2.2.2.2.2.2.2.2.1
theorem k0_dev19_lt : ∀ (v13 : BitVec 32) (k0_hw3 : k0_chk3 v13), (k0_dev19 v13) < nD := fun v13 k0_hw3 => k0_hw3.1.2.2.2.2.2.2.2.2.2.2.1
theorem k0_dev22_lt : ∀ (v13 : BitVec 32) (k0_hw3 : k0_chk3 v13), (k0_dev22 v13) < nD := fun v13 k0_hw3 => k0_hw3.1.2.2.2.2.2.2.2.2.2.2.2.1
theorem k0_dev23_lt : ∀ (v13 : BitVec 32) (k0_hw3 : k0_chk3 v13), (k0_dev23 v13) < nD := fun v13 k0_hw3 => k0_hw3.1.2.2.2.2.2.2.2.2.2.2.2.2.1
theorem k0_dev26_lt : ∀ (v13 : BitVec 32) (k0_hw3 : k0_chk3 v13), (k0_dev26 v13) < nD := fun v13 k0_hw3 => k0_hw3.1.2.2.2.2.2.2.2.2.2.2.2.2.2.1
theorem k0_dev27_lt : ∀ (v13 : BitVec 32) (k0_hw3 : k0_chk3 v13), (k0_dev27 v13) < nD := fun v13 k0_hw3 => k0_hw3.1.2.2.2.2.2.2.2.2.2.2.2.2.2.2.1
theorem k0_dev30_lt : ∀ (v13 : BitVec 32) (k0_hw3 : k0_chk3 v13), (k0_dev30 v13) < nD := fun v13 k0_hw3 => k0_hw3.1.2.2.2.2.2.2.2.2.2.2.2.2.2.2.2.1
theorem k0_dev31_lt : ∀ (v13 : BitVec 32) (k0_hw3 : k0_chk3 v13), (k0_dev31 v13) < nD := fun v13 k0_hw3 => k0_hw3.1.2.2.2.2.2.2.2.2.2.2.2.2.2.2.2.2.1
theorem k0_dev34_lt : ∀ (v13 : BitVec 32) (k0_hw3 : k0_chk3 v13), (k0_dev34 v13) < nD := fun v13 k0_hw3 => k0_hw3.1.2.2.2.2.2.2.2.2.2.2.2.2.2.2.2.2.2.1
theorem k0_dev35_lt : ∀ (v13 : BitVec 32) (k0_hw3 : k0_chk3 v13), (k0_dev35 v13) < nD := fun v13 k0_hw3 => k0_hw3.1.2.2.2.2.2.2.2.2.2.2.2.2.2.2.2.2.2.2.1
theorem k0_dev38_lt : ∀ (v13 : BitVec 32) (k0_hw3 : k0_chk3 v13), (k0_dev38 v13) < nD := fun v13 k0_hw3 => k0_hw3.1.2.2.2.2.2.2.2.2.2.2.2.2.2.2.2.2.2.2.2.1
theorem k0_dev39_lt : ∀ (v13 : BitVec 32) (k0_hw3 : k0_chk3 v13), (k0_dev39 v13) < nD := fun v13 k0_hw3 => k0_hw3.1.2.2.2.2.2.2.2.2.2.2.2.2.2.2.2.2.2.2.2.2.1
theorem k0_dev42_lt : ∀ (v13 : BitVec 32) (k0_hw3 : k0_chk3 v13), (k0_dev42 v13) < nD := fun v13 k0_hw3 => k0_hw3.1.2.2.2.2.2.2.2.2.2.2.2.2.2.2.2.2.2.2.2.2.2.1
theorem k0_dev43_lt : ∀ (v13 : BitVec 32) (k0_hw3 : k0_chk3 v13), (k0_dev43 v13) < nD := fun v13 k0_hw3 => k0_hw3.1.2.2.2.2.2.2.2.2.2.2.2.2.2.2.2.2.2.2.2.2.2.2.1
theorem k0_dev46_lt : ∀ (v13 : BitVec 32) (k0_hw3 : k0_chk3 v13), (k0_dev46 v13) < nD := fun v13 k0_hw3 => k0_hw3.1.2.2.2.2.2.2.2.2.2.2.2.2.2.2.2.2.2.2.2.2.2.2.2.1
theorem k0_dev47_lt : ∀ (v13 : BitVec 32) (k0_hw3 : k0_chk3 v13), (k0_dev47 v13) < nD := fun v13 k0_hw3 => k0_hw3.1.2.2.2.2.2.2.2.2.2.2.2.2.2.2.2.2.2.2.2.2.2.2.2.2.1
theorem k0_dev50_lt : ∀ (v13 : BitVec 32) (k0_hw3 : k0_chk3 v13), (k0_dev50 v13) < nD := fun v13 k0_hw3 => k0_hw3.1.2.2.2.2.2.2.2.2.2.2.2.2.2.2.2.2.2.2.2.2.2.2.2.2.2.1
theorem k0_dev51_lt : ∀ (v13 : BitVec 32) (k0_hw3 : k0_chk3 v13), (k0_dev51 v13) < nD := fun v13 k0_hw3 => k0_hw3.1.2.2.2.2.2.2.2.2.2.2.2.2.2.2.2.2.2.2.2.2.2.2.2.2.2.2.1
theorem k0_dev54_lt : ∀ (v13 : BitVec 32) (k0_hw3 : k0_chk3 v13), (k0_dev54 v13) < nD := fun v13 k0_hw3 => k0_hw3.1.2.2.2.2.2.2.2.2.2.2.2.2.2.2.2.2.2.2.2.2.2.2.2.2.2.2.2.1
theorem k0_dev55_lt : ∀ (v13 : BitVec 32) (k0_hw3 : k0_chk3 v13), (k0_dev55 v13) < nD := fun v13 k0_hw3 => k0_hw3.1.2.2.2.2.2.2.2.2.2.2.2.2.2.2.2.2.2.2.2.2.2.2.2.2.2.2.2.2.1
theorem k0_dev58_lt : ∀ (v13 : BitVec 32) (k0_hw3 : k0_chk3 v13), (k0_dev58 v13) < nD := fun v13 k0_hw3 => k0_hw3.1.2.2.2.2.2.2.2.2.2.2.2.2.2.2.2.2.2.2.2.2.2.2.2.2.2.2.2.2.2.1
theorem k0_dev59_lt : ∀ (v13 : BitVec 32) (k0_hw3 : k0_chk3 v13), (k0_dev59 v13) < nD := fun v13 k0_hw3 => k0_hw3.1.2.2.2.2.2.2.2.2.2.2.2.2.2.2.2.2.2.2.2.2.2.2.2.2.2.2.2.2.2.2.1
theorem k0_dev62_lt : ∀ (v13 : BitVec 32) (k0_hw3 : k0_chk3 v13), (k0_dev62 v13) < nD := fun v13 k0_hw3 => k0_hw3.1.2.2.2.2.2.2.2.2.2.2.2.2.2.2.2.2.2.2.2.2.2.2.2.2.2.2.2.2.2.2.2
theorem k0_dev63_lt : ∀ (v13 : BitVec 32) (k0_hw3 : k0_chk3 v13), (k0_dev63 v13) < nD := fun v13 k0_hw3 => k0_hw3.2.1
theorem k0_dev66_lt : ∀ (v13 : BitVec 32) (k0_hw3 : k0_chk3 v13), (k0_dev66 v13) < nD := fun v13 k0_hw3 => k0_hw3.2.2.1
theorem k0_dev67_lt : ∀ (v13 : BitVec 32) (k0_hw3 : k0_chk3 v13), (k0_dev67 v13) < nD := fun v13 k0_hw3 => k0_hw3.2.2.2.1
theorem k0_dev70_lt : ∀ (v13 : BitVec 32) (k0_hw3 : k0_chk3 v13), (k0_dev70 v13) < nD := fun v13 k0_hw3 => k0_hw3.2.2.2.2.1
theorem k0_dev71_lt : ∀ (v13 : BitVec 32) (k0_hw3 : k0_chk3 v13), (k0_dev71 v13) < nD := fun v13 k0_hw3 => k0_hw3.2.2.2.2.2.1
theorem k0_dev74_lt : ∀ (v13 : BitVec 32) (k0_hw3 : k0_chk3 v13), (k0_dev74 v13) < nD := fun v13 k0_hw3 => k0_hw3.2.2.2.2.2.2.1
theorem k0_dev75_lt : ∀ (v13 : BitVec 32) (k0_hw3 : k0_chk3 v13), (k0_dev75 v13) < nD := fun v13 k0_hw3 => k0_hw3.2.2.2.2.2.2.2.1
theorem k0_dev78_lt : ∀ (v13 : BitVec 32) (k0_hw3 : k0_chk3 v13), (k0_dev78 v13) < nD := fun v13 k0_hw3 => k0_hw3.2.2.2.2.2.2.2.2.1
theorem k0_dev79_lt : ∀ (v13 : BitVec 32) (k0_hw3 : k0_chk3 v13), (k0_dev79 v13) < nD := fun v13 k0_hw3 => k0_hw3.2.2.2.2.2.2.2.2.2.1
theorem k0_dev82_lt : ∀ (v13 : BitVec 32) (k0_hw3 : k0_chk3 v13), (k0_dev82 v13) < nD := fun v13 k0_hw3 => k0_hw3.2.2.2.2.2.2.2.2.2.2.1
theorem k0_dev83_lt : ∀ (v13 : BitVec 32) (k0_hw3 : k0_chk3 v13), (k0_dev83 v13) < nD := fun v13 k0_hw3 => k0_hw3.2.2.2.2.2.2.2.2.2.2.2.1
theorem k0_dev86_lt : ∀ (v13 : BitVec 32) (k0_hw3 : k0_chk3 v13), (k0_dev86 v13) < nD := fun v13 k0_hw3 => k0_hw3.2.2.2.2.2.2.2.2.2.2.2.2.1
theorem k0_dev87_lt : ∀ (v13 : BitVec 32) (k0_hw3 : k0_chk3 v13), (k0_dev87 v13) < nD := fun v13 k0_hw3 => k0_hw3.2.2.2.2.2.2.2.2.2.2.2.2.2.1
theorem k0_dev90_lt : ∀ (v13 : BitVec 32) (k0_hw3 : k0_chk3 v13), (k0_dev90 v13) < nD := fun v13 k0_hw3 => k0_hw3.2.2.2.2.2.2.2.2.2.2.2.2.2.2.1
theorem k0_dev91_lt : ∀ (v13 : BitVec 32) (k0_hw3 : k0_chk3 v13), (k0_dev91 v13) < nD := fun v13 k0_hw3 => k0_hw3.2.2.2.2.2.2.2.2.2.2.2.2.2.2.2.1
theorem k0_dev94_lt : ∀ (v13 : BitVec 32) (k0_hw3 : k0_chk3 v13), (k0_dev94 v13) < nD := fun v13 k0_hw3 => k0_hw3.2.2.2.2.2.2.2.2.2.2.2.2.2.2.2.2.1
theorem k0_dev95_lt : ∀ (v13 : BitVec 32) (k0_hw3 : k0_chk3 v13), (k0_dev95 v13) < nD := fun v13 k0_hw3 => k0_hw3.2.2.2.2.2.2.2.2.2.2.2.2.2.2.2.2.2.1
theorem k0_dev98_lt : ∀ (v13 : BitVec 32) (k0_hw3 : k0_chk3 v13), (k0_dev98 v13) < nD := fun v13 k0_hw3 => k0_hw3.2.2.2.2.2.2.2.2.2.2.2.2.2.2.2.2.2.2.1
theorem k0_dev99_lt : ∀ (v13 : BitVec 32) (k0_hw3 : k0_chk3 v13), (k0_dev99 v13) < nD := fun v13 k0_hw3 => k0_hw3.2.2.2.2.2.2.2.2.2.2.2.2.2.2.2.2.2.2.2.1
theorem k0_dev102_lt : ∀ (v13 : BitVec 32) (k0_hw3 : k0_chk3 v13), (k0_dev102 v13) < nD := fun v13 k0_hw3 => k0_hw3.2.2.2.2.2.2.2.2.2.2.2.2.2.2.2.2.2.2.2.2.1
theorem k0_dev103_lt : ∀ (v13 : BitVec 32) (k0_hw3 : k0_chk3 v13), (k0_dev103 v13) < nD := fun v13 k0_hw3 => k0_hw3.2.2.2.2.2.2.2.2.2.2.2.2.2.2.2.2.2.2.2.2.2.1
theorem k0_dev106_lt : ∀ (v13 : BitVec 32) (k0_hw3 : k0_chk3 v13), (k0_dev106 v13) < nD := fun v13 k0_hw3 => k0_hw3.2.2.2.2.2.2.2.2.2.2.2.2.2.2.2.2.2.2.2.2.2.2.1
theorem k0_dev107_lt : ∀ (v13 : BitVec 32) (k0_hw3 : k0_chk3 v13), (k0_dev107 v13) < nD := fun v13 k0_hw3 => k0_hw3.2.2.2.2.2.2.2.2.2.2.2.2.2.2.2.2.2.2.2.2.2.2.2.1
theorem k0_dev110_lt : ∀ (v13 : BitVec 32) (k0_hw3 : k0_chk3 v13), (k0_dev110 v13) < nD := fun v13 k0_hw3 => k0_hw3.2.2.2.2.2.2.2.2.2.2.2.2.2.2.2.2.2.2.2.2.2.2.2.2.1
theorem k0_dev111_lt : ∀ (v13 : BitVec 32) (k0_hw3 : k0_chk3 v13), (k0_dev111 v13) < nD := fun v13 k0_hw3 => k0_hw3.2.2.2.2.2.2.2.2.2.2.2.2.2.2.2.2.2.2.2.2.2.2.2.2.2.1
theorem k0_dev114_lt : ∀ (v13 : BitVec 32) (k0_hw3 : k0_chk3 v13), (k0_dev114 v13) < nD := fun v13 k0_hw3 => k0_hw3.2.2.2.2.2.2.2.2.2.2.2.2.2.2.2.2.2.2.2.2.2.2.2.2.2.2.1
theorem k0_dev115_lt : ∀ (v13 : BitVec 32) (k0_hw3 : k0_chk3 v13), (k0_dev115 v13) < nD := fun v13 k0_hw3 => k0_hw3.2.2.2.2.2.2.2.2.2.2.2.2.2.2.2.2.2.2.2.2.2.2.2.2.2.2.2.1
theorem k0_dev118_lt : ∀ (v13 : BitVec 32) (k0_hw3 : k0_chk3 v13), (k0_dev118 v13) < nD := fun v13 k0_hw3 => k0_hw3.2.2.2.2.2.2.2.2.2.2.2.2.2.2.2.2.2.2.2.2.2.2.2.2.2.2.2.2.1
theorem k0_dev119_lt : ∀ (v13 : BitVec 32) (k0_hw3 : k0_chk3 v13), (k0_dev119 v13) < nD := fun v13 k0_hw3 => k0_hw3.2.2.2.2.2.2.2.2.2.2.2.2.2.2.2.2.2.2.2.2.2.2.2.2.2.2.2.2.2.1
theorem k0_dev122_lt : ∀ (v13 : BitVec 32) (k0_hw3 : k0_chk3 v13), (k0_dev122 v13) < nD := fun v13 k0_hw3 => k0_hw3.2.2.2.2.2.2.2.2.2.2.2.2.2.2.2.2.2.2.2.2.2.2.2.2.2.2.2.2.2.2.1
theorem k0_dev123_lt : ∀ (v13 : BitVec 32) (k0_hw3 : k0_chk3 v13), (k0_dev123 v13) < nD := fun v13 k0_hw3 => k0_hw3.2.2.2.2.2.2.2.2.2.2.2.2.2.2.2.2.2.2.2.2.2.2.2.2.2.2.2.2.2.2.2

def k0_dev124 (v9 : BitVec 32) : Nat :=
  let c0_i32_2981 : BitVec 32 := 0#32
  let c1_i32_2980 : BitVec 32 := 1#32
  let v2719 : BitVec 32 := Scalar.muli v9 c1_i32_2980
  let v2720 : BitVec 32 := Scalar.addi c0_i32_2981 v2719
  v2720.toNat

def k0_chk2_0 (v9 : BitVec 32) : Prop :=
  ((k0_dev1 v9) < nD) ∧
  (∀ a, (k0_off4 v9) a + S128x128.size a ≤ S4096x128.size a) ∧
  ((k0_dev4 v9) < nD) ∧
  ((k0_dev5 v9) < nD) ∧
  ((k0_dev8 v9) < nD) ∧
  ((k0_dev9 v9) < nD) ∧
  ((k0_dev12 v9) < nD) ∧
  ((k0_dev13 v9) < nD) ∧
  ((k0_dev16 v9) < nD) ∧
  ((k0_dev17 v9) < nD) ∧
  ((k0_dev20 v9) < nD) ∧
  ((k0_dev21 v9) < nD) ∧
  ((k0_dev24 v9) < nD) ∧
  ((k0_dev25 v9) < nD) ∧
  ((k0_dev28 v9) < nD) ∧
  ((k0_dev29 v9) < nD) ∧
  ((k0_dev32 v9) < nD) ∧
  ((k0_dev33 v9) < nD) ∧
  ((k0_dev36 v9) < nD) ∧
  ((k0_dev37 v9) < nD) ∧
  ((k0_dev40 v9) < nD) ∧
  ((k0_dev41 v9) < nD) ∧
  ((k0_dev44 v9) < nD) ∧
  ((k0_dev45 v9) < nD) ∧
  ((k0_dev48 v9) < nD) ∧
  ((k0_dev49 v9) < nD) ∧
  ((k0_dev52 v9) < nD) ∧
  ((k0_dev53 v9) < nD) ∧
  ((k0_dev56 v9) < nD) ∧
  ((k0_dev57 v9) < nD) ∧
  ((k0_dev60 v9) < nD) ∧
  ((k0_dev61 v9) < nD)
def k0_chk2_1 (v9 : BitVec 32) : Prop :=
  ((k0_dev64 v9) < nD) ∧
  ((k0_dev65 v9) < nD) ∧
  ((k0_dev68 v9) < nD) ∧
  ((k0_dev69 v9) < nD) ∧
  ((k0_dev72 v9) < nD) ∧
  ((k0_dev73 v9) < nD) ∧
  ((k0_dev76 v9) < nD) ∧
  ((k0_dev77 v9) < nD) ∧
  ((k0_dev80 v9) < nD) ∧
  ((k0_dev81 v9) < nD) ∧
  ((k0_dev84 v9) < nD) ∧
  ((k0_dev85 v9) < nD) ∧
  ((k0_dev88 v9) < nD) ∧
  ((k0_dev89 v9) < nD) ∧
  ((k0_dev92 v9) < nD) ∧
  ((k0_dev93 v9) < nD) ∧
  ((k0_dev96 v9) < nD) ∧
  ((k0_dev97 v9) < nD) ∧
  ((k0_dev100 v9) < nD) ∧
  ((k0_dev101 v9) < nD) ∧
  ((k0_dev104 v9) < nD) ∧
  ((k0_dev105 v9) < nD) ∧
  ((k0_dev108 v9) < nD) ∧
  ((k0_dev109 v9) < nD) ∧
  ((k0_dev112 v9) < nD) ∧
  ((k0_dev113 v9) < nD) ∧
  ((k0_dev116 v9) < nD) ∧
  ((k0_dev117 v9) < nD) ∧
  ((k0_dev120 v9) < nD) ∧
  ((k0_dev121 v9) < nD) ∧
  ((k0_dev124 v9) < nD)
def k0_chk2 (v9 : BitVec 32) : Prop :=
  k0_chk2_0 v9 ∧
  k0_chk2_1 v9
theorem k0_dev1_lt : ∀ (v9 : BitVec 32) (k0_hw2 : k0_chk2 v9), (k0_dev1 v9) < nD := fun v9 k0_hw2 => k0_hw2.1.1
theorem k0_off4_inb : ∀ (v9 : BitVec 32) (k0_hw2 : k0_chk2 v9), ∀ a, (k0_off4 v9) a + S128x128.size a ≤ S4096x128.size a := fun v9 k0_hw2 => k0_hw2.1.2.1
theorem k0_dev4_lt : ∀ (v9 : BitVec 32) (k0_hw2 : k0_chk2 v9), (k0_dev4 v9) < nD := fun v9 k0_hw2 => k0_hw2.1.2.2.1
theorem k0_dev5_lt : ∀ (v9 : BitVec 32) (k0_hw2 : k0_chk2 v9), (k0_dev5 v9) < nD := fun v9 k0_hw2 => k0_hw2.1.2.2.2.1
theorem k0_dev8_lt : ∀ (v9 : BitVec 32) (k0_hw2 : k0_chk2 v9), (k0_dev8 v9) < nD := fun v9 k0_hw2 => k0_hw2.1.2.2.2.2.1
theorem k0_dev9_lt : ∀ (v9 : BitVec 32) (k0_hw2 : k0_chk2 v9), (k0_dev9 v9) < nD := fun v9 k0_hw2 => k0_hw2.1.2.2.2.2.2.1
theorem k0_dev12_lt : ∀ (v9 : BitVec 32) (k0_hw2 : k0_chk2 v9), (k0_dev12 v9) < nD := fun v9 k0_hw2 => k0_hw2.1.2.2.2.2.2.2.1
theorem k0_dev13_lt : ∀ (v9 : BitVec 32) (k0_hw2 : k0_chk2 v9), (k0_dev13 v9) < nD := fun v9 k0_hw2 => k0_hw2.1.2.2.2.2.2.2.2.1
theorem k0_dev16_lt : ∀ (v9 : BitVec 32) (k0_hw2 : k0_chk2 v9), (k0_dev16 v9) < nD := fun v9 k0_hw2 => k0_hw2.1.2.2.2.2.2.2.2.2.1
theorem k0_dev17_lt : ∀ (v9 : BitVec 32) (k0_hw2 : k0_chk2 v9), (k0_dev17 v9) < nD := fun v9 k0_hw2 => k0_hw2.1.2.2.2.2.2.2.2.2.2.1
theorem k0_dev20_lt : ∀ (v9 : BitVec 32) (k0_hw2 : k0_chk2 v9), (k0_dev20 v9) < nD := fun v9 k0_hw2 => k0_hw2.1.2.2.2.2.2.2.2.2.2.2.1
theorem k0_dev21_lt : ∀ (v9 : BitVec 32) (k0_hw2 : k0_chk2 v9), (k0_dev21 v9) < nD := fun v9 k0_hw2 => k0_hw2.1.2.2.2.2.2.2.2.2.2.2.2.1
theorem k0_dev24_lt : ∀ (v9 : BitVec 32) (k0_hw2 : k0_chk2 v9), (k0_dev24 v9) < nD := fun v9 k0_hw2 => k0_hw2.1.2.2.2.2.2.2.2.2.2.2.2.2.1
theorem k0_dev25_lt : ∀ (v9 : BitVec 32) (k0_hw2 : k0_chk2 v9), (k0_dev25 v9) < nD := fun v9 k0_hw2 => k0_hw2.1.2.2.2.2.2.2.2.2.2.2.2.2.2.1
theorem k0_dev28_lt : ∀ (v9 : BitVec 32) (k0_hw2 : k0_chk2 v9), (k0_dev28 v9) < nD := fun v9 k0_hw2 => k0_hw2.1.2.2.2.2.2.2.2.2.2.2.2.2.2.2.1
theorem k0_dev29_lt : ∀ (v9 : BitVec 32) (k0_hw2 : k0_chk2 v9), (k0_dev29 v9) < nD := fun v9 k0_hw2 => k0_hw2.1.2.2.2.2.2.2.2.2.2.2.2.2.2.2.2.1
theorem k0_dev32_lt : ∀ (v9 : BitVec 32) (k0_hw2 : k0_chk2 v9), (k0_dev32 v9) < nD := fun v9 k0_hw2 => k0_hw2.1.2.2.2.2.2.2.2.2.2.2.2.2.2.2.2.2.1
theorem k0_dev33_lt : ∀ (v9 : BitVec 32) (k0_hw2 : k0_chk2 v9), (k0_dev33 v9) < nD := fun v9 k0_hw2 => k0_hw2.1.2.2.2.2.2.2.2.2.2.2.2.2.2.2.2.2.2.1
theorem k0_dev36_lt : ∀ (v9 : BitVec 32) (k0_hw2 : k0_chk2 v9), (k0_dev36 v9) < nD := fun v9 k0_hw2 => k0_hw2.1.2.2.2.2.2.2.2.2.2.2.2.2.2.2.2.2.2.2.1
theorem k0_dev37_lt : ∀ (v9 : BitVec 32) (k0_hw2 : k0_chk2 v9), (k0_dev37 v9) < nD := fun v9 k0_hw2 => k0_hw2.1.2.2.2.2.2.2.2.2.2.2.2.2.2.2.2.2.2.2.2.1
theorem k0_dev40_lt : ∀ (v9 : BitVec 32) (k0_hw2 : k0_chk2 v9), (k0_dev40 v9) < nD := fun v9 k0_hw2 => k0_hw2.1.2.2.2.2.2.2.2.2.2.2.2.2.2.2.2.2.2.2.2.2.1
theorem k0_dev41_lt : ∀ (v9 : BitVec 32) (k0_hw2 : k0_chk2 v9), (k0_dev41 v9) < nD := fun v9 k0_hw2 => k0_hw2.1.2.2.2.2.2.2.2.2.2.2.2.2.2.2.2.2.2.2.2.2.2.1
theorem k0_dev44_lt : ∀ (v9 : BitVec 32) (k0_hw2 : k0_chk2 v9), (k0_dev44 v9) < nD := fun v9 k0_hw2 => k0_hw2.1.2.2.2.2.2.2.2.2.2.2.2.2.2.2.2.2.2.2.2.2.2.2.1
theorem k0_dev45_lt : ∀ (v9 : BitVec 32) (k0_hw2 : k0_chk2 v9), (k0_dev45 v9) < nD := fun v9 k0_hw2 => k0_hw2.1.2.2.2.2.2.2.2.2.2.2.2.2.2.2.2.2.2.2.2.2.2.2.2.1
theorem k0_dev48_lt : ∀ (v9 : BitVec 32) (k0_hw2 : k0_chk2 v9), (k0_dev48 v9) < nD := fun v9 k0_hw2 => k0_hw2.1.2.2.2.2.2.2.2.2.2.2.2.2.2.2.2.2.2.2.2.2.2.2.2.2.1
theorem k0_dev49_lt : ∀ (v9 : BitVec 32) (k0_hw2 : k0_chk2 v9), (k0_dev49 v9) < nD := fun v9 k0_hw2 => k0_hw2.1.2.2.2.2.2.2.2.2.2.2.2.2.2.2.2.2.2.2.2.2.2.2.2.2.2.1
theorem k0_dev52_lt : ∀ (v9 : BitVec 32) (k0_hw2 : k0_chk2 v9), (k0_dev52 v9) < nD := fun v9 k0_hw2 => k0_hw2.1.2.2.2.2.2.2.2.2.2.2.2.2.2.2.2.2.2.2.2.2.2.2.2.2.2.2.1
theorem k0_dev53_lt : ∀ (v9 : BitVec 32) (k0_hw2 : k0_chk2 v9), (k0_dev53 v9) < nD := fun v9 k0_hw2 => k0_hw2.1.2.2.2.2.2.2.2.2.2.2.2.2.2.2.2.2.2.2.2.2.2.2.2.2.2.2.2.1
theorem k0_dev56_lt : ∀ (v9 : BitVec 32) (k0_hw2 : k0_chk2 v9), (k0_dev56 v9) < nD := fun v9 k0_hw2 => k0_hw2.1.2.2.2.2.2.2.2.2.2.2.2.2.2.2.2.2.2.2.2.2.2.2.2.2.2.2.2.2.1
theorem k0_dev57_lt : ∀ (v9 : BitVec 32) (k0_hw2 : k0_chk2 v9), (k0_dev57 v9) < nD := fun v9 k0_hw2 => k0_hw2.1.2.2.2.2.2.2.2.2.2.2.2.2.2.2.2.2.2.2.2.2.2.2.2.2.2.2.2.2.2.1
theorem k0_dev60_lt : ∀ (v9 : BitVec 32) (k0_hw2 : k0_chk2 v9), (k0_dev60 v9) < nD := fun v9 k0_hw2 => k0_hw2.1.2.2.2.2.2.2.2.2.2.2.2.2.2.2.2.2.2.2.2.2.2.2.2.2.2.2.2.2.2.2.1
theorem k0_dev61_lt : ∀ (v9 : BitVec 32) (k0_hw2 : k0_chk2 v9), (k0_dev61 v9) < nD := fun v9 k0_hw2 => k0_hw2.1.2.2.2.2.2.2.2.2.2.2.2.2.2.2.2.2.2.2.2.2.2.2.2.2.2.2.2.2.2.2.2
theorem k0_dev64_lt : ∀ (v9 : BitVec 32) (k0_hw2 : k0_chk2 v9), (k0_dev64 v9) < nD := fun v9 k0_hw2 => k0_hw2.2.1
theorem k0_dev65_lt : ∀ (v9 : BitVec 32) (k0_hw2 : k0_chk2 v9), (k0_dev65 v9) < nD := fun v9 k0_hw2 => k0_hw2.2.2.1
theorem k0_dev68_lt : ∀ (v9 : BitVec 32) (k0_hw2 : k0_chk2 v9), (k0_dev68 v9) < nD := fun v9 k0_hw2 => k0_hw2.2.2.2.1
theorem k0_dev69_lt : ∀ (v9 : BitVec 32) (k0_hw2 : k0_chk2 v9), (k0_dev69 v9) < nD := fun v9 k0_hw2 => k0_hw2.2.2.2.2.1
theorem k0_dev72_lt : ∀ (v9 : BitVec 32) (k0_hw2 : k0_chk2 v9), (k0_dev72 v9) < nD := fun v9 k0_hw2 => k0_hw2.2.2.2.2.2.1
theorem k0_dev73_lt : ∀ (v9 : BitVec 32) (k0_hw2 : k0_chk2 v9), (k0_dev73 v9) < nD := fun v9 k0_hw2 => k0_hw2.2.2.2.2.2.2.1
theorem k0_dev76_lt : ∀ (v9 : BitVec 32) (k0_hw2 : k0_chk2 v9), (k0_dev76 v9) < nD := fun v9 k0_hw2 => k0_hw2.2.2.2.2.2.2.2.1
theorem k0_dev77_lt : ∀ (v9 : BitVec 32) (k0_hw2 : k0_chk2 v9), (k0_dev77 v9) < nD := fun v9 k0_hw2 => k0_hw2.2.2.2.2.2.2.2.2.1
theorem k0_dev80_lt : ∀ (v9 : BitVec 32) (k0_hw2 : k0_chk2 v9), (k0_dev80 v9) < nD := fun v9 k0_hw2 => k0_hw2.2.2.2.2.2.2.2.2.2.1
theorem k0_dev81_lt : ∀ (v9 : BitVec 32) (k0_hw2 : k0_chk2 v9), (k0_dev81 v9) < nD := fun v9 k0_hw2 => k0_hw2.2.2.2.2.2.2.2.2.2.2.1
theorem k0_dev84_lt : ∀ (v9 : BitVec 32) (k0_hw2 : k0_chk2 v9), (k0_dev84 v9) < nD := fun v9 k0_hw2 => k0_hw2.2.2.2.2.2.2.2.2.2.2.2.1
theorem k0_dev85_lt : ∀ (v9 : BitVec 32) (k0_hw2 : k0_chk2 v9), (k0_dev85 v9) < nD := fun v9 k0_hw2 => k0_hw2.2.2.2.2.2.2.2.2.2.2.2.2.1
theorem k0_dev88_lt : ∀ (v9 : BitVec 32) (k0_hw2 : k0_chk2 v9), (k0_dev88 v9) < nD := fun v9 k0_hw2 => k0_hw2.2.2.2.2.2.2.2.2.2.2.2.2.2.1
theorem k0_dev89_lt : ∀ (v9 : BitVec 32) (k0_hw2 : k0_chk2 v9), (k0_dev89 v9) < nD := fun v9 k0_hw2 => k0_hw2.2.2.2.2.2.2.2.2.2.2.2.2.2.2.1
theorem k0_dev92_lt : ∀ (v9 : BitVec 32) (k0_hw2 : k0_chk2 v9), (k0_dev92 v9) < nD := fun v9 k0_hw2 => k0_hw2.2.2.2.2.2.2.2.2.2.2.2.2.2.2.2.1
theorem k0_dev93_lt : ∀ (v9 : BitVec 32) (k0_hw2 : k0_chk2 v9), (k0_dev93 v9) < nD := fun v9 k0_hw2 => k0_hw2.2.2.2.2.2.2.2.2.2.2.2.2.2.2.2.2.1
theorem k0_dev96_lt : ∀ (v9 : BitVec 32) (k0_hw2 : k0_chk2 v9), (k0_dev96 v9) < nD := fun v9 k0_hw2 => k0_hw2.2.2.2.2.2.2.2.2.2.2.2.2.2.2.2.2.2.1
theorem k0_dev97_lt : ∀ (v9 : BitVec 32) (k0_hw2 : k0_chk2 v9), (k0_dev97 v9) < nD := fun v9 k0_hw2 => k0_hw2.2.2.2.2.2.2.2.2.2.2.2.2.2.2.2.2.2.2.1
theorem k0_dev100_lt : ∀ (v9 : BitVec 32) (k0_hw2 : k0_chk2 v9), (k0_dev100 v9) < nD := fun v9 k0_hw2 => k0_hw2.2.2.2.2.2.2.2.2.2.2.2.2.2.2.2.2.2.2.2.1
theorem k0_dev101_lt : ∀ (v9 : BitVec 32) (k0_hw2 : k0_chk2 v9), (k0_dev101 v9) < nD := fun v9 k0_hw2 => k0_hw2.2.2.2.2.2.2.2.2.2.2.2.2.2.2.2.2.2.2.2.2.1
theorem k0_dev104_lt : ∀ (v9 : BitVec 32) (k0_hw2 : k0_chk2 v9), (k0_dev104 v9) < nD := fun v9 k0_hw2 => k0_hw2.2.2.2.2.2.2.2.2.2.2.2.2.2.2.2.2.2.2.2.2.2.1
theorem k0_dev105_lt : ∀ (v9 : BitVec 32) (k0_hw2 : k0_chk2 v9), (k0_dev105 v9) < nD := fun v9 k0_hw2 => k0_hw2.2.2.2.2.2.2.2.2.2.2.2.2.2.2.2.2.2.2.2.2.2.2.1
theorem k0_dev108_lt : ∀ (v9 : BitVec 32) (k0_hw2 : k0_chk2 v9), (k0_dev108 v9) < nD := fun v9 k0_hw2 => k0_hw2.2.2.2.2.2.2.2.2.2.2.2.2.2.2.2.2.2.2.2.2.2.2.2.1
theorem k0_dev109_lt : ∀ (v9 : BitVec 32) (k0_hw2 : k0_chk2 v9), (k0_dev109 v9) < nD := fun v9 k0_hw2 => k0_hw2.2.2.2.2.2.2.2.2.2.2.2.2.2.2.2.2.2.2.2.2.2.2.2.2.1
theorem k0_dev112_lt : ∀ (v9 : BitVec 32) (k0_hw2 : k0_chk2 v9), (k0_dev112 v9) < nD := fun v9 k0_hw2 => k0_hw2.2.2.2.2.2.2.2.2.2.2.2.2.2.2.2.2.2.2.2.2.2.2.2.2.2.1
theorem k0_dev113_lt : ∀ (v9 : BitVec 32) (k0_hw2 : k0_chk2 v9), (k0_dev113 v9) < nD := fun v9 k0_hw2 => k0_hw2.2.2.2.2.2.2.2.2.2.2.2.2.2.2.2.2.2.2.2.2.2.2.2.2.2.2.1
theorem k0_dev116_lt : ∀ (v9 : BitVec 32) (k0_hw2 : k0_chk2 v9), (k0_dev116 v9) < nD := fun v9 k0_hw2 => k0_hw2.2.2.2.2.2.2.2.2.2.2.2.2.2.2.2.2.2.2.2.2.2.2.2.2.2.2.2.1
theorem k0_dev117_lt : ∀ (v9 : BitVec 32) (k0_hw2 : k0_chk2 v9), (k0_dev117 v9) < nD := fun v9 k0_hw2 => k0_hw2.2.2.2.2.2.2.2.2.2.2.2.2.2.2.2.2.2.2.2.2.2.2.2.2.2.2.2.2.1
theorem k0_dev120_lt : ∀ (v9 : BitVec 32) (k0_hw2 : k0_chk2 v9), (k0_dev120 v9) < nD := fun v9 k0_hw2 => k0_hw2.2.2.2.2.2.2.2.2.2.2.2.2.2.2.2.2.2.2.2.2.2.2.2.2.2.2.2.2.2.1
theorem k0_dev121_lt : ∀ (v9 : BitVec 32) (k0_hw2 : k0_chk2 v9), (k0_dev121 v9) < nD := fun v9 k0_hw2 => k0_hw2.2.2.2.2.2.2.2.2.2.2.2.2.2.2.2.2.2.2.2.2.2.2.2.2.2.2.2.2.2.2.1
theorem k0_dev124_lt : ∀ (v9 : BitVec 32) (k0_hw2 : k0_chk2 v9), (k0_dev124 v9) < nD := fun v9 k0_hw2 => k0_hw2.2.2.2.2.2.2.2.2.2.2.2.2.2.2.2.2.2.2.2.2.2.2.2.2.2.2.2.2.2.2.2

def k0_off126 (v4 : BitVec 32) : Fin 2 → Nat :=
  let c0_2989 : Index := 0#32
  let c64_i32_2986 : BitVec 32 := 64#32
  let v2729 : BitVec 32 := Scalar.addi v4 c64_i32_2986
  let c2_i32_2987 : BitVec 32 := 2#32
  let v2730 : BitVec 32 := Scalar.subi v2729 c2_i32_2987
  let c30_i32 : BitVec 32 := 30#32
  let v2731 : BitVec 32 := Scalar.subi v2730 c30_i32
  let c32_i32_2988 : BitVec 32 := 32#32
  let v2732 : BitVec 32 := Scalar.remsi v2731 c32_i32_2988
  let v2733 : Index := Scalar.indexCast v2732
  ![0, v2733.toNat]
def k0_off127 (v2734 : BitVec 32) : Fin 2 → Nat :=
  let c128_i32_2990 : BitVec 32 := 128#32
  let v2735 : BitVec 32 := Scalar.muli v2734 c128_i32_2990
  let v2736 : Index := Scalar.indexCast v2735
  let c0_2991 : Index := 0#32
  ![v2736.toNat, 0]

def k0_chk64 (v2734 : BitVec 32) : Prop :=
  (∀ a, (k0_off127 v2734) a + S128x128.size a ≤ S4096x128.size a)
theorem k0_off127_inb : ∀ (v2734 : BitVec 32) (k0_hw64 : k0_chk64 v2734), ∀ a, (k0_off127 v2734) a + S128x128.size a ≤ S4096x128.size a := fun v2734 k0_hw64 => k0_hw64

def k0_off128 (v4 : BitVec 32) : Fin 2 → Nat :=
  let c0_2998 : Index := 0#32
  let c2_i32_2995 : BitVec 32 := 2#32
  let v2742 : BitVec 32 := Scalar.addi v4 c2_i32_2995
  let c30_i32_2996 : BitVec 32 := 30#32
  let v2743 : BitVec 32 := Scalar.addi v2742 c30_i32_2996
  let c32_i32_2997 : BitVec 32 := 32#32
  let v2744 : BitVec 32 := Scalar.remsi v2743 c32_i32_2997
  let v2745 : Index := Scalar.indexCast v2744
  ![0, v2745.toNat]

def k0_chk1_0 (v4 : BitVec 32) : Prop :=
  (∀ a, (k0_off2 v4) a + S1x1.size a ≤ S1x32.size a) ∧
  (∀ a, (k0_off3 v4) a + S1x1.size a ≤ S1x32.size a) ∧
  (∀ a, (k0_off6 v4) a + S1x1.size a ≤ S1x32.size a) ∧
  (∀ a, (k0_off8 v4) a + S1x1.size a ≤ S1x32.size a) ∧
  (∀ a, (k0_off10 v4) a + S1x1.size a ≤ S1x32.size a) ∧
  (∀ a, (k0_off12 v4) a + S1x1.size a ≤ S1x32.size a) ∧
  (∀ a, (k0_off14 v4) a + S1x1.size a ≤ S1x32.size a) ∧
  (∀ a, (k0_off16 v4) a + S1x1.size a ≤ S1x32.size a) ∧
  (∀ a, (k0_off18 v4) a + S1x1.size a ≤ S1x32.size a) ∧
  (∀ a, (k0_off20 v4) a + S1x1.size a ≤ S1x32.size a) ∧
  (∀ a, (k0_off22 v4) a + S1x1.size a ≤ S1x32.size a) ∧
  (∀ a, (k0_off24 v4) a + S1x1.size a ≤ S1x32.size a) ∧
  (∀ a, (k0_off26 v4) a + S1x1.size a ≤ S1x32.size a) ∧
  (∀ a, (k0_off28 v4) a + S1x1.size a ≤ S1x32.size a) ∧
  (∀ a, (k0_off30 v4) a + S1x1.size a ≤ S1x32.size a) ∧
  (∀ a, (k0_off32 v4) a + S1x1.size a ≤ S1x32.size a) ∧
  (∀ a, (k0_off34 v4) a + S1x1.size a ≤ S1x32.size a) ∧
  (∀ a, (k0_off36 v4) a + S1x1.size a ≤ S1x32.size a) ∧
  (∀ a, (k0_off38 v4) a + S1x1.size a ≤ S1x32.size a) ∧
  (∀ a, (k0_off40 v4) a + S1x1.size a ≤ S1x32.size a) ∧
  (∀ a, (k0_off42 v4) a + S1x1.size a ≤ S1x32.size a) ∧
  (∀ a, (k0_off44 v4) a + S1x1.size a ≤ S1x32.size a) ∧
  (∀ a, (k0_off46 v4) a + S1x1.size a ≤ S1x32.size a) ∧
  (∀ a, (k0_off48 v4) a + S1x1.size a ≤ S1x32.size a) ∧
  (∀ a, (k0_off50 v4) a + S1x1.size a ≤ S1x32.size a) ∧
  (∀ a, (k0_off52 v4) a + S1x1.size a ≤ S1x32.size a) ∧
  (∀ a, (k0_off54 v4) a + S1x1.size a ≤ S1x32.size a) ∧
  (∀ a, (k0_off56 v4) a + S1x1.size a ≤ S1x32.size a) ∧
  (∀ a, (k0_off58 v4) a + S1x1.size a ≤ S1x32.size a) ∧
  (∀ a, (k0_off60 v4) a + S1x1.size a ≤ S1x32.size a) ∧
  (∀ a, (k0_off62 v4) a + S1x1.size a ≤ S1x32.size a) ∧
  (∀ a, (k0_off64 v4) a + S1x1.size a ≤ S1x32.size a)
def k0_chk1_1 (v4 : BitVec 32) : Prop :=
  (∀ a, (k0_off66 v4) a + S1x1.size a ≤ S1x32.size a) ∧
  (∀ a, (k0_off68 v4) a + S1x1.size a ≤ S1x32.size a) ∧
  (∀ a, (k0_off70 v4) a + S1x1.size a ≤ S1x32.size a) ∧
  (∀ a, (k0_off72 v4) a + S1x1.size a ≤ S1x32.size a) ∧
  (∀ a, (k0_off74 v4) a + S1x1.size a ≤ S1x32.size a) ∧
  (∀ a, (k0_off76 v4) a + S1x1.size a ≤ S1x32.size a) ∧
  (∀ a, (k0_off78 v4) a + S1x1.size a ≤ S1x32.size a) ∧
  (∀ a, (k0_off80 v4) a + S1x1.size a ≤ S1x32.size a) ∧
  (∀ a, (k0_off82 v4) a + S1x1.size a ≤ S1x32.size a) ∧
  (∀ a, (k0_off84 v4) a + S1x1.size a ≤ S1x32.size a) ∧
  (∀ a, (k0_off86 v4) a + S1x1.size a ≤ S1x32.size a) ∧
  (∀ a, (k0_off88 v4) a + S1x1.size a ≤ S1x32.size a) ∧
  (∀ a, (k0_off90 v4) a + S1x1.size a ≤ S1x32.size a) ∧
  (∀ a, (k0_off92 v4) a + S1x1.size a ≤ S1x32.size a) ∧
  (∀ a, (k0_off94 v4) a + S1x1.size a ≤ S1x32.size a) ∧
  (∀ a, (k0_off96 v4) a + S1x1.size a ≤ S1x32.size a) ∧
  (∀ a, (k0_off98 v4) a + S1x1.size a ≤ S1x32.size a) ∧
  (∀ a, (k0_off100 v4) a + S1x1.size a ≤ S1x32.size a) ∧
  (∀ a, (k0_off102 v4) a + S1x1.size a ≤ S1x32.size a) ∧
  (∀ a, (k0_off104 v4) a + S1x1.size a ≤ S1x32.size a) ∧
  (∀ a, (k0_off106 v4) a + S1x1.size a ≤ S1x32.size a) ∧
  (∀ a, (k0_off108 v4) a + S1x1.size a ≤ S1x32.size a) ∧
  (∀ a, (k0_off110 v4) a + S1x1.size a ≤ S1x32.size a) ∧
  (∀ a, (k0_off112 v4) a + S1x1.size a ≤ S1x32.size a) ∧
  (∀ a, (k0_off114 v4) a + S1x1.size a ≤ S1x32.size a) ∧
  (∀ a, (k0_off116 v4) a + S1x1.size a ≤ S1x32.size a) ∧
  (∀ a, (k0_off118 v4) a + S1x1.size a ≤ S1x32.size a) ∧
  (∀ a, (k0_off120 v4) a + S1x1.size a ≤ S1x32.size a) ∧
  (∀ a, (k0_off122 v4) a + S1x1.size a ≤ S1x32.size a) ∧
  (∀ a, (k0_off124 v4) a + S1x1.size a ≤ S1x32.size a) ∧
  (∀ a, (k0_off126 v4) a + S1x1.size a ≤ S1x32.size a) ∧
  (∀ a, (k0_off128 v4) a + S1x1.size a ≤ S1x32.size a)
def k0_chk1 (v4 : BitVec 32) : Prop :=
  k0_chk1_0 v4 ∧
  k0_chk1_1 v4
theorem k0_off2_inb : ∀ (v4 : BitVec 32) (k0_hw1 : k0_chk1 v4), ∀ a, (k0_off2 v4) a + S1x1.size a ≤ S1x32.size a := fun v4 k0_hw1 => k0_hw1.1.1
theorem k0_off3_inb : ∀ (v4 : BitVec 32) (k0_hw1 : k0_chk1 v4), ∀ a, (k0_off3 v4) a + S1x1.size a ≤ S1x32.size a := fun v4 k0_hw1 => k0_hw1.1.2.1
theorem k0_off6_inb : ∀ (v4 : BitVec 32) (k0_hw1 : k0_chk1 v4), ∀ a, (k0_off6 v4) a + S1x1.size a ≤ S1x32.size a := fun v4 k0_hw1 => k0_hw1.1.2.2.1
theorem k0_off8_inb : ∀ (v4 : BitVec 32) (k0_hw1 : k0_chk1 v4), ∀ a, (k0_off8 v4) a + S1x1.size a ≤ S1x32.size a := fun v4 k0_hw1 => k0_hw1.1.2.2.2.1
theorem k0_off10_inb : ∀ (v4 : BitVec 32) (k0_hw1 : k0_chk1 v4), ∀ a, (k0_off10 v4) a + S1x1.size a ≤ S1x32.size a := fun v4 k0_hw1 => k0_hw1.1.2.2.2.2.1
theorem k0_off12_inb : ∀ (v4 : BitVec 32) (k0_hw1 : k0_chk1 v4), ∀ a, (k0_off12 v4) a + S1x1.size a ≤ S1x32.size a := fun v4 k0_hw1 => k0_hw1.1.2.2.2.2.2.1
theorem k0_off14_inb : ∀ (v4 : BitVec 32) (k0_hw1 : k0_chk1 v4), ∀ a, (k0_off14 v4) a + S1x1.size a ≤ S1x32.size a := fun v4 k0_hw1 => k0_hw1.1.2.2.2.2.2.2.1
theorem k0_off16_inb : ∀ (v4 : BitVec 32) (k0_hw1 : k0_chk1 v4), ∀ a, (k0_off16 v4) a + S1x1.size a ≤ S1x32.size a := fun v4 k0_hw1 => k0_hw1.1.2.2.2.2.2.2.2.1
theorem k0_off18_inb : ∀ (v4 : BitVec 32) (k0_hw1 : k0_chk1 v4), ∀ a, (k0_off18 v4) a + S1x1.size a ≤ S1x32.size a := fun v4 k0_hw1 => k0_hw1.1.2.2.2.2.2.2.2.2.1
theorem k0_off20_inb : ∀ (v4 : BitVec 32) (k0_hw1 : k0_chk1 v4), ∀ a, (k0_off20 v4) a + S1x1.size a ≤ S1x32.size a := fun v4 k0_hw1 => k0_hw1.1.2.2.2.2.2.2.2.2.2.1
theorem k0_off22_inb : ∀ (v4 : BitVec 32) (k0_hw1 : k0_chk1 v4), ∀ a, (k0_off22 v4) a + S1x1.size a ≤ S1x32.size a := fun v4 k0_hw1 => k0_hw1.1.2.2.2.2.2.2.2.2.2.2.1
theorem k0_off24_inb : ∀ (v4 : BitVec 32) (k0_hw1 : k0_chk1 v4), ∀ a, (k0_off24 v4) a + S1x1.size a ≤ S1x32.size a := fun v4 k0_hw1 => k0_hw1.1.2.2.2.2.2.2.2.2.2.2.2.1
theorem k0_off26_inb : ∀ (v4 : BitVec 32) (k0_hw1 : k0_chk1 v4), ∀ a, (k0_off26 v4) a + S1x1.size a ≤ S1x32.size a := fun v4 k0_hw1 => k0_hw1.1.2.2.2.2.2.2.2.2.2.2.2.2.1
theorem k0_off28_inb : ∀ (v4 : BitVec 32) (k0_hw1 : k0_chk1 v4), ∀ a, (k0_off28 v4) a + S1x1.size a ≤ S1x32.size a := fun v4 k0_hw1 => k0_hw1.1.2.2.2.2.2.2.2.2.2.2.2.2.2.1
theorem k0_off30_inb : ∀ (v4 : BitVec 32) (k0_hw1 : k0_chk1 v4), ∀ a, (k0_off30 v4) a + S1x1.size a ≤ S1x32.size a := fun v4 k0_hw1 => k0_hw1.1.2.2.2.2.2.2.2.2.2.2.2.2.2.2.1
theorem k0_off32_inb : ∀ (v4 : BitVec 32) (k0_hw1 : k0_chk1 v4), ∀ a, (k0_off32 v4) a + S1x1.size a ≤ S1x32.size a := fun v4 k0_hw1 => k0_hw1.1.2.2.2.2.2.2.2.2.2.2.2.2.2.2.2.1
theorem k0_off34_inb : ∀ (v4 : BitVec 32) (k0_hw1 : k0_chk1 v4), ∀ a, (k0_off34 v4) a + S1x1.size a ≤ S1x32.size a := fun v4 k0_hw1 => k0_hw1.1.2.2.2.2.2.2.2.2.2.2.2.2.2.2.2.2.1
theorem k0_off36_inb : ∀ (v4 : BitVec 32) (k0_hw1 : k0_chk1 v4), ∀ a, (k0_off36 v4) a + S1x1.size a ≤ S1x32.size a := fun v4 k0_hw1 => k0_hw1.1.2.2.2.2.2.2.2.2.2.2.2.2.2.2.2.2.2.1
theorem k0_off38_inb : ∀ (v4 : BitVec 32) (k0_hw1 : k0_chk1 v4), ∀ a, (k0_off38 v4) a + S1x1.size a ≤ S1x32.size a := fun v4 k0_hw1 => k0_hw1.1.2.2.2.2.2.2.2.2.2.2.2.2.2.2.2.2.2.2.1
theorem k0_off40_inb : ∀ (v4 : BitVec 32) (k0_hw1 : k0_chk1 v4), ∀ a, (k0_off40 v4) a + S1x1.size a ≤ S1x32.size a := fun v4 k0_hw1 => k0_hw1.1.2.2.2.2.2.2.2.2.2.2.2.2.2.2.2.2.2.2.2.1
theorem k0_off42_inb : ∀ (v4 : BitVec 32) (k0_hw1 : k0_chk1 v4), ∀ a, (k0_off42 v4) a + S1x1.size a ≤ S1x32.size a := fun v4 k0_hw1 => k0_hw1.1.2.2.2.2.2.2.2.2.2.2.2.2.2.2.2.2.2.2.2.2.1
theorem k0_off44_inb : ∀ (v4 : BitVec 32) (k0_hw1 : k0_chk1 v4), ∀ a, (k0_off44 v4) a + S1x1.size a ≤ S1x32.size a := fun v4 k0_hw1 => k0_hw1.1.2.2.2.2.2.2.2.2.2.2.2.2.2.2.2.2.2.2.2.2.2.1
theorem k0_off46_inb : ∀ (v4 : BitVec 32) (k0_hw1 : k0_chk1 v4), ∀ a, (k0_off46 v4) a + S1x1.size a ≤ S1x32.size a := fun v4 k0_hw1 => k0_hw1.1.2.2.2.2.2.2.2.2.2.2.2.2.2.2.2.2.2.2.2.2.2.2.1
theorem k0_off48_inb : ∀ (v4 : BitVec 32) (k0_hw1 : k0_chk1 v4), ∀ a, (k0_off48 v4) a + S1x1.size a ≤ S1x32.size a := fun v4 k0_hw1 => k0_hw1.1.2.2.2.2.2.2.2.2.2.2.2.2.2.2.2.2.2.2.2.2.2.2.2.1
theorem k0_off50_inb : ∀ (v4 : BitVec 32) (k0_hw1 : k0_chk1 v4), ∀ a, (k0_off50 v4) a + S1x1.size a ≤ S1x32.size a := fun v4 k0_hw1 => k0_hw1.1.2.2.2.2.2.2.2.2.2.2.2.2.2.2.2.2.2.2.2.2.2.2.2.2.1
theorem k0_off52_inb : ∀ (v4 : BitVec 32) (k0_hw1 : k0_chk1 v4), ∀ a, (k0_off52 v4) a + S1x1.size a ≤ S1x32.size a := fun v4 k0_hw1 => k0_hw1.1.2.2.2.2.2.2.2.2.2.2.2.2.2.2.2.2.2.2.2.2.2.2.2.2.2.1
theorem k0_off54_inb : ∀ (v4 : BitVec 32) (k0_hw1 : k0_chk1 v4), ∀ a, (k0_off54 v4) a + S1x1.size a ≤ S1x32.size a := fun v4 k0_hw1 => k0_hw1.1.2.2.2.2.2.2.2.2.2.2.2.2.2.2.2.2.2.2.2.2.2.2.2.2.2.2.1
theorem k0_off56_inb : ∀ (v4 : BitVec 32) (k0_hw1 : k0_chk1 v4), ∀ a, (k0_off56 v4) a + S1x1.size a ≤ S1x32.size a := fun v4 k0_hw1 => k0_hw1.1.2.2.2.2.2.2.2.2.2.2.2.2.2.2.2.2.2.2.2.2.2.2.2.2.2.2.2.1
theorem k0_off58_inb : ∀ (v4 : BitVec 32) (k0_hw1 : k0_chk1 v4), ∀ a, (k0_off58 v4) a + S1x1.size a ≤ S1x32.size a := fun v4 k0_hw1 => k0_hw1.1.2.2.2.2.2.2.2.2.2.2.2.2.2.2.2.2.2.2.2.2.2.2.2.2.2.2.2.2.1
theorem k0_off60_inb : ∀ (v4 : BitVec 32) (k0_hw1 : k0_chk1 v4), ∀ a, (k0_off60 v4) a + S1x1.size a ≤ S1x32.size a := fun v4 k0_hw1 => k0_hw1.1.2.2.2.2.2.2.2.2.2.2.2.2.2.2.2.2.2.2.2.2.2.2.2.2.2.2.2.2.2.1
theorem k0_off62_inb : ∀ (v4 : BitVec 32) (k0_hw1 : k0_chk1 v4), ∀ a, (k0_off62 v4) a + S1x1.size a ≤ S1x32.size a := fun v4 k0_hw1 => k0_hw1.1.2.2.2.2.2.2.2.2.2.2.2.2.2.2.2.2.2.2.2.2.2.2.2.2.2.2.2.2.2.2.1
theorem k0_off64_inb : ∀ (v4 : BitVec 32) (k0_hw1 : k0_chk1 v4), ∀ a, (k0_off64 v4) a + S1x1.size a ≤ S1x32.size a := fun v4 k0_hw1 => k0_hw1.1.2.2.2.2.2.2.2.2.2.2.2.2.2.2.2.2.2.2.2.2.2.2.2.2.2.2.2.2.2.2.2
theorem k0_off66_inb : ∀ (v4 : BitVec 32) (k0_hw1 : k0_chk1 v4), ∀ a, (k0_off66 v4) a + S1x1.size a ≤ S1x32.size a := fun v4 k0_hw1 => k0_hw1.2.1
theorem k0_off68_inb : ∀ (v4 : BitVec 32) (k0_hw1 : k0_chk1 v4), ∀ a, (k0_off68 v4) a + S1x1.size a ≤ S1x32.size a := fun v4 k0_hw1 => k0_hw1.2.2.1
theorem k0_off70_inb : ∀ (v4 : BitVec 32) (k0_hw1 : k0_chk1 v4), ∀ a, (k0_off70 v4) a + S1x1.size a ≤ S1x32.size a := fun v4 k0_hw1 => k0_hw1.2.2.2.1
theorem k0_off72_inb : ∀ (v4 : BitVec 32) (k0_hw1 : k0_chk1 v4), ∀ a, (k0_off72 v4) a + S1x1.size a ≤ S1x32.size a := fun v4 k0_hw1 => k0_hw1.2.2.2.2.1
theorem k0_off74_inb : ∀ (v4 : BitVec 32) (k0_hw1 : k0_chk1 v4), ∀ a, (k0_off74 v4) a + S1x1.size a ≤ S1x32.size a := fun v4 k0_hw1 => k0_hw1.2.2.2.2.2.1
theorem k0_off76_inb : ∀ (v4 : BitVec 32) (k0_hw1 : k0_chk1 v4), ∀ a, (k0_off76 v4) a + S1x1.size a ≤ S1x32.size a := fun v4 k0_hw1 => k0_hw1.2.2.2.2.2.2.1
theorem k0_off78_inb : ∀ (v4 : BitVec 32) (k0_hw1 : k0_chk1 v4), ∀ a, (k0_off78 v4) a + S1x1.size a ≤ S1x32.size a := fun v4 k0_hw1 => k0_hw1.2.2.2.2.2.2.2.1
theorem k0_off80_inb : ∀ (v4 : BitVec 32) (k0_hw1 : k0_chk1 v4), ∀ a, (k0_off80 v4) a + S1x1.size a ≤ S1x32.size a := fun v4 k0_hw1 => k0_hw1.2.2.2.2.2.2.2.2.1
theorem k0_off82_inb : ∀ (v4 : BitVec 32) (k0_hw1 : k0_chk1 v4), ∀ a, (k0_off82 v4) a + S1x1.size a ≤ S1x32.size a := fun v4 k0_hw1 => k0_hw1.2.2.2.2.2.2.2.2.2.1
theorem k0_off84_inb : ∀ (v4 : BitVec 32) (k0_hw1 : k0_chk1 v4), ∀ a, (k0_off84 v4) a + S1x1.size a ≤ S1x32.size a := fun v4 k0_hw1 => k0_hw1.2.2.2.2.2.2.2.2.2.2.1
theorem k0_off86_inb : ∀ (v4 : BitVec 32) (k0_hw1 : k0_chk1 v4), ∀ a, (k0_off86 v4) a + S1x1.size a ≤ S1x32.size a := fun v4 k0_hw1 => k0_hw1.2.2.2.2.2.2.2.2.2.2.2.1
theorem k0_off88_inb : ∀ (v4 : BitVec 32) (k0_hw1 : k0_chk1 v4), ∀ a, (k0_off88 v4) a + S1x1.size a ≤ S1x32.size a := fun v4 k0_hw1 => k0_hw1.2.2.2.2.2.2.2.2.2.2.2.2.1
theorem k0_off90_inb : ∀ (v4 : BitVec 32) (k0_hw1 : k0_chk1 v4), ∀ a, (k0_off90 v4) a + S1x1.size a ≤ S1x32.size a := fun v4 k0_hw1 => k0_hw1.2.2.2.2.2.2.2.2.2.2.2.2.2.1
theorem k0_off92_inb : ∀ (v4 : BitVec 32) (k0_hw1 : k0_chk1 v4), ∀ a, (k0_off92 v4) a + S1x1.size a ≤ S1x32.size a := fun v4 k0_hw1 => k0_hw1.2.2.2.2.2.2.2.2.2.2.2.2.2.2.1
theorem k0_off94_inb : ∀ (v4 : BitVec 32) (k0_hw1 : k0_chk1 v4), ∀ a, (k0_off94 v4) a + S1x1.size a ≤ S1x32.size a := fun v4 k0_hw1 => k0_hw1.2.2.2.2.2.2.2.2.2.2.2.2.2.2.2.1
theorem k0_off96_inb : ∀ (v4 : BitVec 32) (k0_hw1 : k0_chk1 v4), ∀ a, (k0_off96 v4) a + S1x1.size a ≤ S1x32.size a := fun v4 k0_hw1 => k0_hw1.2.2.2.2.2.2.2.2.2.2.2.2.2.2.2.2.1
theorem k0_off98_inb : ∀ (v4 : BitVec 32) (k0_hw1 : k0_chk1 v4), ∀ a, (k0_off98 v4) a + S1x1.size a ≤ S1x32.size a := fun v4 k0_hw1 => k0_hw1.2.2.2.2.2.2.2.2.2.2.2.2.2.2.2.2.2.1
theorem k0_off100_inb : ∀ (v4 : BitVec 32) (k0_hw1 : k0_chk1 v4), ∀ a, (k0_off100 v4) a + S1x1.size a ≤ S1x32.size a := fun v4 k0_hw1 => k0_hw1.2.2.2.2.2.2.2.2.2.2.2.2.2.2.2.2.2.2.1
theorem k0_off102_inb : ∀ (v4 : BitVec 32) (k0_hw1 : k0_chk1 v4), ∀ a, (k0_off102 v4) a + S1x1.size a ≤ S1x32.size a := fun v4 k0_hw1 => k0_hw1.2.2.2.2.2.2.2.2.2.2.2.2.2.2.2.2.2.2.2.1
theorem k0_off104_inb : ∀ (v4 : BitVec 32) (k0_hw1 : k0_chk1 v4), ∀ a, (k0_off104 v4) a + S1x1.size a ≤ S1x32.size a := fun v4 k0_hw1 => k0_hw1.2.2.2.2.2.2.2.2.2.2.2.2.2.2.2.2.2.2.2.2.1
theorem k0_off106_inb : ∀ (v4 : BitVec 32) (k0_hw1 : k0_chk1 v4), ∀ a, (k0_off106 v4) a + S1x1.size a ≤ S1x32.size a := fun v4 k0_hw1 => k0_hw1.2.2.2.2.2.2.2.2.2.2.2.2.2.2.2.2.2.2.2.2.2.1
theorem k0_off108_inb : ∀ (v4 : BitVec 32) (k0_hw1 : k0_chk1 v4), ∀ a, (k0_off108 v4) a + S1x1.size a ≤ S1x32.size a := fun v4 k0_hw1 => k0_hw1.2.2.2.2.2.2.2.2.2.2.2.2.2.2.2.2.2.2.2.2.2.2.1
theorem k0_off110_inb : ∀ (v4 : BitVec 32) (k0_hw1 : k0_chk1 v4), ∀ a, (k0_off110 v4) a + S1x1.size a ≤ S1x32.size a := fun v4 k0_hw1 => k0_hw1.2.2.2.2.2.2.2.2.2.2.2.2.2.2.2.2.2.2.2.2.2.2.2.1
theorem k0_off112_inb : ∀ (v4 : BitVec 32) (k0_hw1 : k0_chk1 v4), ∀ a, (k0_off112 v4) a + S1x1.size a ≤ S1x32.size a := fun v4 k0_hw1 => k0_hw1.2.2.2.2.2.2.2.2.2.2.2.2.2.2.2.2.2.2.2.2.2.2.2.2.1
theorem k0_off114_inb : ∀ (v4 : BitVec 32) (k0_hw1 : k0_chk1 v4), ∀ a, (k0_off114 v4) a + S1x1.size a ≤ S1x32.size a := fun v4 k0_hw1 => k0_hw1.2.2.2.2.2.2.2.2.2.2.2.2.2.2.2.2.2.2.2.2.2.2.2.2.2.1
theorem k0_off116_inb : ∀ (v4 : BitVec 32) (k0_hw1 : k0_chk1 v4), ∀ a, (k0_off116 v4) a + S1x1.size a ≤ S1x32.size a := fun v4 k0_hw1 => k0_hw1.2.2.2.2.2.2.2.2.2.2.2.2.2.2.2.2.2.2.2.2.2.2.2.2.2.2.1
theorem k0_off118_inb : ∀ (v4 : BitVec 32) (k0_hw1 : k0_chk1 v4), ∀ a, (k0_off118 v4) a + S1x1.size a ≤ S1x32.size a := fun v4 k0_hw1 => k0_hw1.2.2.2.2.2.2.2.2.2.2.2.2.2.2.2.2.2.2.2.2.2.2.2.2.2.2.2.1
theorem k0_off120_inb : ∀ (v4 : BitVec 32) (k0_hw1 : k0_chk1 v4), ∀ a, (k0_off120 v4) a + S1x1.size a ≤ S1x32.size a := fun v4 k0_hw1 => k0_hw1.2.2.2.2.2.2.2.2.2.2.2.2.2.2.2.2.2.2.2.2.2.2.2.2.2.2.2.2.1
theorem k0_off122_inb : ∀ (v4 : BitVec 32) (k0_hw1 : k0_chk1 v4), ∀ a, (k0_off122 v4) a + S1x1.size a ≤ S1x32.size a := fun v4 k0_hw1 => k0_hw1.2.2.2.2.2.2.2.2.2.2.2.2.2.2.2.2.2.2.2.2.2.2.2.2.2.2.2.2.2.1
theorem k0_off124_inb : ∀ (v4 : BitVec 32) (k0_hw1 : k0_chk1 v4), ∀ a, (k0_off124 v4) a + S1x1.size a ≤ S1x32.size a := fun v4 k0_hw1 => k0_hw1.2.2.2.2.2.2.2.2.2.2.2.2.2.2.2.2.2.2.2.2.2.2.2.2.2.2.2.2.2.2.1
theorem k0_off126_inb : ∀ (v4 : BitVec 32) (k0_hw1 : k0_chk1 v4), ∀ a, (k0_off126 v4) a + S1x1.size a ≤ S1x32.size a := fun v4 k0_hw1 => k0_hw1.2.2.2.2.2.2.2.2.2.2.2.2.2.2.2.2.2.2.2.2.2.2.2.2.2.2.2.2.2.2.2.1
theorem k0_off128_inb : ∀ (v4 : BitVec 32) (k0_hw1 : k0_chk1 v4), ∀ a, (k0_off128 v4) a + S1x1.size a ≤ S1x32.size a := fun v4 k0_hw1 => k0_hw1.2.2.2.2.2.2.2.2.2.2.2.2.2.2.2.2.2.2.2.2.2.2.2.2.2.2.2.2.2.2.2.2

def k0_off129 (v2746 : BitVec 32) : Fin 2 → Nat :=
  let c128_i32_2999 : BitVec 32 := 128#32
  let v2747 : BitVec 32 := Scalar.muli v2746 c128_i32_2999
  let v2748 : Index := Scalar.indexCast v2747
  let c0_3000 : Index := 0#32
  ![v2748.toNat, 0]

def k0_chk65 (v2746 : BitVec 32) : Prop :=
  (∀ a, (k0_off129 v2746) a + S128x128.size a ≤ S4096x128.size a)
theorem k0_off129_inb : ∀ (v2746 : BitVec 32) (k0_hw65 : k0_chk65 v2746), ∀ a, (k0_off129 v2746) a + S128x128.size a ≤ S4096x128.size a := fun v2746 k0_hw65 => k0_hw65

abbrev stage0_0 : Fin 1 → Memref sig .tc .smem S1x32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x32 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Body.lean ====
/- The kernel's body as a sequence of thirty-one like steps of the two rings: every definition takes the program that
   follows it, and `body_eq` says that the printed body is the entry, the steps and the end, in that order. -/
module

public import proofs.«01_k».proof.Proof.Gen.KernelIdeal
public import Idealize.ShloMosaic.Lib.Pipeline.Kit

@[expose] public section

noncomputable section

namespace Cert.KernelIdeal.Ring

open Idealize.ShloMosaic Idealize.ShloMosaic.TcCoe
open Idealize.SL Idealize.SL.Sem
open Cert.KernelIdeal
open Facts₀ Facts

variable {F : FTy → Type} [FloatOps F]

/-- A program of this kernel. -/
abbrev P (F : FTy → Type) [FloatOps F] : Type 1 := Prog (TpuEff nD τ sig (Elt F) Λ₀ .tc) PUnit

/-! ## The words the body computes -/

/-- Where the step `s` reads the ring's table for the ring that travels to the right. -/
def offR (v4 : BitVec 32) (s : Nat) : Fin 2 → Nat :=
  ![0, (Scalar.indexCast (Scalar.remsi (Scalar.subi (Scalar.subi (Scalar.addi v4 64#32) 2#32) (BitVec.ofNat 32 s)) 32#32)).toNat]
/-- Where the step `s` reads the ring's table for the ring that travels to the left. -/
def offL (v4 : BitVec 32) (s : Nat) : Fin 2 → Nat :=
  ![0, (Scalar.indexCast (Scalar.remsi (Scalar.addi (Scalar.addi v4 2#32) (BitVec.ofNat 32 s)) 32#32)).toNat]
/-- The rows of the left operand's block that go to the device of number `v`. -/
def offX (v : BitVec 32) : Fin 2 → Nat := ![(Scalar.indexCast (Scalar.muli v 128#32)).toNat, 0]
/-- The number of the device a word addresses. -/
def devNat (v : BitVec 32) : Nat := (Scalar.addi 0#32 (Scalar.muli v 1#32)).toNat

/-- Every step reads the table inside it. -/
def RowOk (v4 : BitVec 32) : Prop :=
  ∀ s : Nat, s < 31 → (∀ a, offR v4 s a + S1x1.size a ≤ S1x32.size a) ∧ (∀ a, offL v4 s a + S1x1.size a ≤ S1x32.size a)
/-- The rows of the device a table's word names lie inside the left operand's block. -/
def ChkX (v : BitVec 32) : Prop := ∀ a, offX v a + S128x128.size a ≤ S4096x128.size a
instance ChkX.dec (v : BitVec 32) : Decidable (ChkX v) := decidable_of_iff' _ (Iff.of_eq (ChkX.eq_1 v))

/-- The first check of the body says that every step reads the table inside it. -/
theorem rowOk_of_chk (v4 : BitVec 32) (h : k0_chk1 v4) : RowOk v4 := fun s hs => match s, hs with
  | 0, _ => ⟨k0_off6_inb v4 h, k0_off8_inb v4 h⟩
  | 1, _ => ⟨k0_off10_inb v4 h, k0_off12_inb v4 h⟩
  | 2, _ => ⟨k0_off14_inb v4 h, k0_off16_inb v4 h⟩
  | 3, _ => ⟨k0_off18_inb v4 h, k0_off20_inb v4 h⟩
  | 4, _ => ⟨k0_off22_inb v4 h, k0_off24_inb v4 h⟩
  | 5, _ => ⟨k0_off26_inb v4 h, k0_off28_inb v4 h⟩
  | 6, _ => ⟨k0_off30_inb v4 h, k0_off32_inb v4 h⟩
  | 7, _ => ⟨k0_off34_inb v4 h, k0_off36_inb v4 h⟩
  | 8, _ => ⟨k0_off38_inb v4 h, k0_off40_inb v4 h⟩
  | 9, _ => ⟨k0_off42_inb v4 h, k0_off44_inb v4 h⟩
  | 10, _ => ⟨k0_off46_inb v4 h, k0_off48_inb v4 h⟩
  | 11, _ => ⟨k0_off50_inb v4 h, k0_off52_inb v4 h⟩
  | 12, _ => ⟨k0_off54_inb v4 h, k0_off56_inb v4 h⟩
  | 13, _ => ⟨k0_off58_inb v4 h, k0_off60_inb v4 h⟩
  | 14, _ => ⟨k0_off62_inb v4 h, k0_off64_inb v4 h⟩
  | 15, _ => ⟨k0_off66_inb v4 h, k0_off68_inb v4 h⟩
  | 16, _ => ⟨k0_off70_inb v4 h, k0_off72_inb v4 h⟩
  | 17, _ => ⟨k0_off74_inb v4 h, k0_off76_inb v4 h⟩
  | 18, _ => ⟨k0_off78_inb v4 h, k0_off80_inb v4 h⟩
  | 19, _ => ⟨k0_off82_inb v4 h, k0_off84_inb v4 h⟩
  | 20, _ => ⟨k0_off86_inb v4 h, k0_off88_inb v4 h⟩
  | 21, _ => ⟨k0_off90_inb v4 h, k0_off92_inb v4 h⟩
  | 22, _ => ⟨k0_off94_inb v4 h, k0_off96_inb v4 h⟩
  | 23, _ => ⟨k0_off98_inb v4 h, k0_off100_inb v4 h⟩
  | 24, _ => ⟨k0_off102_inb v4 h, k0_off104_inb v4 h⟩
  | 25, _ => ⟨k0_off106_inb v4 h, k0_off108_inb v4 h⟩
  | 26, _ => ⟨k0_off110_inb v4 h, k0_off112_inb v4 h⟩
  | 27, _ => ⟨k0_off114_inb v4 h, k0_off116_inb v4 h⟩
  | 28, _ => ⟨k0_off118_inb v4 h, k0_off120_inb v4 h⟩
  | 29, _ => ⟨k0_off122_inb v4 h, k0_off124_inb v4 h⟩
  | 30, _ => ⟨k0_off126_inb v4 h, k0_off128_inb v4 h⟩
  | n + 31, h => absurd h (by omega)

/-! ## The parts of the two communication buffers and of their semaphores -/

/-- The parity of a step: the half of a buffer it sends. -/
def par (s : Nat) : Fin 2 := ⟨s % 2, Nat.mod_lt _ (by decide)⟩

theorem inb_half (p : Fin 2) : ∀ a, (![p.val, 0, 0] : Fin 3 → Nat) a + S1x128x4096.size a ≤ S2x128x4096.size a := by
  revert p; decide
theorem inb_sem (p : Fin 2) : ∀ a, (![p.val] : Fin 1 → Nat) a + S1.size a ≤ S2.size a := by
  revert p; decide

/-- Half `p` of a communication buffer, as the accesses take it. -/
abbrev halfRect (p : Fin 2) : Rect S2x128x4096 := Rect.unit (s := S2x128x4096) ![p.val, 0, 0] S1x128x4096.size (inb_half p)
/-- Half `p` of a communication buffer, as the copies take it. -/
abbrev half (b : Memref sig .tc .vmem S2x128x4096 .f32) (p : Fin 2) : Memref sig .tc .vmem S128x4096 .f32 :=
  (b.slice (halfRect p) (fun _ => rfl)).squeeze S128x4096 squeezes_S1x128x4096_S128x4096
/-- Semaphore `p` of a pair. -/
abbrev semOf (a : DmaSems sig S2) (p : Fin 2) : DmaSem sig :=
  ((a.slice (Rect.unit (s := S2) ![p.val] S1.size (inb_sem p))).squeeze S_ squeezes_S1_S_).sem

section

variable (arg0 arg1 : Memref sig .tc .smem S1x32 .i32) (arg2 : Memref sig .tc .vmem S4096x128 .f32)
  (arg3 arg4 : Memref sig .tc .vmem S128x8192 .f32) (arg5 arg6 : Memref sig .tc .vmem S2x128x4096 .f32)
  (arg7 arg8 arg9 arg10 : DmaSems sig S2) (arg11 arg12 : Sems sig S_)

/-- The product of the rows for the device of number `v` and the left half of the right operand's block. -/
def prodLo (v : BitVec 32) (h : ChkX v) (k : FVec F S128x4096 .f32 → P F) : P F :=
  Prog.op (.load arg2 (Rect.unit (s := S4096x128) (offX v) S128x128.size h).toLoadRect (View.loadsAt_vmem h_S128x128)) fun a =>
  Prog.op (.load arg3 (Rect.unit (s := S128x8192) ![0, 0] S128x4096.size inb_S128x8192_S128x4096_0_0).toLoadRect (View.loadsAt_vmem h_S128x4096)) fun b =>
  k (matmul dot_S128x128_S128x4096_S128x4096_1_0_0_1_n_n none (shapeCast S128x128 a shapeCasts_S128x128_S128x128)
    (shapeCast S128x4096 b shapeCasts_S128x4096_S128x4096) (constant S128x4096 .f32 0x00000000#32))
/-- The product of the rows for the device of number `v` and the right half of the right operand's block. -/
def prodHi (v : BitVec 32) (h : ChkX v) (k : FVec F S128x4096 .f32 → P F) : P F :=
  Prog.op (.load arg2 (Rect.unit (s := S4096x128) (offX v) S128x128.size h).toLoadRect (View.loadsAt_vmem h_S128x128)) fun a =>
  Prog.op (.load arg3 (Rect.unit (s := S128x8192) ![0, 4096] S128x4096.size inb_S128x8192_S128x4096_0_4096).toLoadRect (View.loadsAt_vmem h_S128x4096)) fun b =>
  k (matmul dot_S128x128_S128x4096_S128x4096_1_0_0_1_n_n none (shapeCast S128x128 a shapeCasts_S128x128_S128x128)
    (shapeCast S128x4096 b shapeCasts_S128x4096_S128x4096) (constant S128x4096 .f32 0x00000000#32))

/-- A half of a communication buffer is read. -/
def loadHalf (b : Memref sig .tc .vmem S2x128x4096 .f32) (p : Fin 2) (k : Vec F S1x128x4096 .f32 → P F) : P F :=
  Prog.op (.load b (halfRect p).toLoadRect (View.loadsAt_vmem h_S1x128x4096)) k
/-- A half of a communication buffer is written over. -/
def storeHalf (b : Memref sig .tc .vmem S2x128x4096 .f32) (p : Fin 2) (v : FVec F S128x4096 .f32) (k : P F) : P F :=
  Prog.op (.load b (halfRect p).toLoadRect (View.loadsAt_vmem h_S1x128x4096)) fun _ =>
  Prog.op (.store b (halfRect p) (shapeCast S1x128x4096 v shapeCasts_S128x4096_S1x128x4096) Finset.univ (View.stores_vmem_bits_univ h_S1x128x4096 rfl) (.inl rfl)) fun _ => k

/-- Half `p` of a communication buffer goes to half `q` of the same buffer on device `n`. -/
def sendHalf (b : Memref sig .tc .vmem S2x128x4096 .f32) (sS rS : DmaSems sig S2) (n : Dev nD) (p q : Fin 2) (k : P F) : P F :=
  Prog.op (.enqueueDma (half b p) (.remote (Dev.tc n) (half b q) (.dma (semOf sS p))) (.dma (semOf rS q))
    ((View.wordExact_bits rfl).reshape _ _) ((View.wordExact_bits rfl).reshape _ _) ⟨⟨rfl, Or.inl rfl⟩, trivial⟩) fun _ => k
/-- A wait of a copy of a half of a communication buffer. -/
def waitHalf (b : Memref sig .tc .vmem S2x128x4096 .f32) (sm : DmaSems sig S2) (p q : Fin 2) (k : P F) : P F :=
  Prog.op (.waitDma2 (semOf sm p) (half b q) (half b p) ((View.wordExact_bits rfl).reshape _ _) ((View.wordExact_bits rfl).reshape _ _)) fun _ => k
/-- The half that arrived, with the product added to it. -/
def addHalf (b : Memref sig .tc .vmem S2x128x4096 .f32) (p : Fin 2) (v : FVec F S128x4096 .f32) (k : P F) : P F :=
  loadHalf b p fun w => storeHalf b p (addf (shapeCast S128x4096 w shapeCasts_S1x128x4096_S128x4096) v) k

/-- A credit is awaited in every step but the first. -/
def awaitCredit (s : Nat) (sm : Sems sig S_) (k : P F) : P F :=
  if s = 0 then k else semWaitWord sm.sem 1#32 >>= fun _ => k
/-- Both neighbours are told, in every step but the last, that the half sent is free again. -/
def giveCredits (s : Nat) (nl nr : Dev nD) (k : P F) : P F :=
  if s < 30 then semSignalWord nl arg11.sem 1#32 >>= fun _ => semSignalWord nr arg12.sem 1#32 >>= fun _ => k else k

/-- The product a step adds to the ring that travels to the right. -/
def stepProdR (v4 : BitVec 32) (h4 : RowOk v4) (s : Nat) (hs : s < 31) (k : FVec F S128x4096 .f32 → P F) : P F :=
  smemLoad arg0 (Rect.unit (s := S1x32) (offR v4 s) S1x1.size (h4 s hs).1) numel1_S1x1 rfl >>= fun v =>
  Prog.op (TpuEff.assume (ChkX v) (ChkX.dec v)) fun h => prodLo arg2 arg3 v h.down k
/-- The product a step adds to the ring that travels to the left. -/
def stepProdL (v4 : BitVec 32) (h4 : RowOk v4) (s : Nat) (hs : s < 31) (k : FVec F S128x4096 .f32 → P F) : P F :=
  smemLoad arg0 (Rect.unit (s := S1x32) (offL v4 s) S1x1.size (h4 s hs).2) numel1_S1x1 rfl >>= fun v =>
  Prog.op (TpuEff.assume (ChkX v) (ChkX.dec v)) fun h => prodHi arg2 arg3 v h.down k

/-- Step `s`: both halves go out, the two products are taken, the copies out are waited for, the credits are given,
    the copies in are waited for and the products added to what came. -/
def step (v4 : BitVec 32) (h4 : RowOk v4) (nl nr : Dev nD) (s : Nat) (hs : s < 31) (k : P F) : P F :=
  awaitCredit s arg11 <|
  sendHalf arg5 arg7 arg8 nr (par s) (par (s + 1)) <|
  awaitCredit s arg12 <|
  sendHalf arg6 arg9 arg10 nl (par s) (par (s + 1)) <|
  stepProdR arg0 arg2 arg3 v4 h4 s hs fun pR =>
  stepProdL arg0 arg2 arg3 v4 h4 s hs fun pL =>
  waitHalf arg5 arg7 (par s) (par (s + 1)) <|
  waitHalf arg6 arg9 (par s) (par (s + 1)) <|
  giveCredits arg11 arg12 s nl nr <|
  waitHalf arg5 arg8 (par (s + 1)) (par s) <|
  addHalf arg5 (par (s + 1)) pR <|
  waitHalf arg6 arg10 (par (s + 1)) (par s) <|
  addHalf arg6 (par (s + 1)) pL k

/-- The first `n` steps. -/
def steps (v4 : BitVec 32) (h4 : RowOk v4) (nl nr : Dev nD) : (n : Nat) → n ≤ 31 → P F → P F
  | 0, _, k => k
  | n + 1, h, k => steps v4 h4 nl nr n (Nat.le_of_succ_le h) (step arg0 arg2 arg3 arg5 arg6 arg7 arg8 arg9 arg10 arg11 arg12 v4 h4 nl nr n h k)

/-- The result: both sums with the activation applied, half by half. -/
def finish : P F :=
  loadHalf arg5 1 fun a => loadHalf arg6 1 fun b =>
  Prog.op (.load arg4 (Rect.unit (s := S128x8192) ![0, 0] S128x4096.size inb_S128x8192_S128x4096_0_0).toLoadRect (View.loadsAt_vmem h_S128x4096)) fun _ =>
  Prog.op (.store arg4 (Rect.unit (s := S128x8192) ![0, 0] S128x4096.size inb_S128x8192_S128x4096_0_0)
    (mulf (shapeCast S128x4096 a shapeCasts_S1x128x4096_S128x4096) (logistic (shapeCast S128x4096 a shapeCasts_S1x128x4096_S128x4096)))
    Finset.univ (View.stores_vmem_bits_univ h_S128x4096 rfl) (.inl rfl)) fun _ =>
  Prog.op (.load arg4 (Rect.unit (s := S128x8192) ![0, 4096] S128x4096.size inb_S128x8192_S128x4096_0_4096).toLoadRect (View.loadsAt_vmem h_S128x4096)) fun _ =>
  Prog.op (.store arg4 (Rect.unit (s := S128x8192) ![0, 4096] S128x4096.size inb_S128x8192_S128x4096_0_4096)
    (mulf (shapeCast S128x4096 b shapeCasts_S1x128x4096_S128x4096) (logistic (shapeCast S128x4096 b shapeCasts_S1x128x4096_S128x4096)))
    Finset.univ (View.stores_vmem_bits_univ h_S128x4096 rfl) (.inl rfl)) fun _ => .ret ⟨⟩

/-- The entry: the three words of the ring's tables. -/
def enter (k : (v4 : BitVec 32) → RowOk v4 → (v9 : BitVec 32) → k0_chk2 v9 → (v13 : BitVec 32) → k0_chk3 v13 → P F) : P F :=
  Prog.op .deviceId fun d0 =>
  smemLoad arg1 (Rect.unit (s := S1x32) (k0_off1 d0) S1x1.size (k0_off1_inb d0)) numel1_S1x1 rfl >>= fun v4 =>
  Prog.op (TpuEff.assume (k0_chk1 v4) (k0_chk1.dec v4)) fun h1 =>
  smemLoad arg0 (Rect.unit (s := S1x32) (k0_off2 v4) S1x1.size (k0_off2_inb v4 h1.down)) numel1_S1x1 rfl >>= fun v9 =>
  Prog.op (TpuEff.assume (k0_chk2 v9) (k0_chk2.dec v9)) fun h2 =>
  smemLoad arg0 (Rect.unit (s := S1x32) (k0_off3 v4) S1x1.size (k0_off3_inb v4 h1.down)) numel1_S1x1 rfl >>= fun v13 =>
  Prog.op (TpuEff.assume (k0_chk3 v13) (k0_chk3.dec v13)) fun h3 =>
  k v4 (rowOk_of_chk v4 h1.down) v9 h2.down v13 h3.down

/-- The barrier with both neighbours. -/
def barrier (nl nr : Dev nD) (k : P F) : P F :=
  semSignalWord nl (SemArray.scalar (sig.barrier 0 rfl) : Sems sig S_).sem 1#32 >>= fun _ =>
  semSignalWord nr (SemArray.scalar (sig.barrier 0 rfl) : Sems sig S_).sem 1#32 >>= fun _ =>
  semWaitWord (SemArray.scalar (sig.barrier 0 rfl) : Sems sig S_).sem 2#32 >>= fun _ => k

/-- The first products, into the first halves. -/
def begin (v9 : BitVec 32) (h9 : ChkX v9) (v13 : BitVec 32) (h13 : ChkX v13) (k : P F) : P F :=
  prodLo arg2 arg3 v9 h9 fun a => storeHalf arg5 0 a <|
  prodHi arg2 arg3 v13 h13 fun b => storeHalf arg6 0 b k

/-- The whole body. -/
def body : P F :=
  enter arg0 arg1 fun v4 h4 v9 h9 v13 h13 =>
  barrier (⟨devNat v9, k0_dev1_lt v9 h9⟩ : Dev nD) (⟨devNat v13, k0_dev2_lt v13 h13⟩ : Dev nD) <|
  begin arg2 arg3 arg5 arg6 v9 (k0_off4_inb v9 h9) v13 (k0_off5_inb v13 h13) <|
  steps arg0 arg2 arg3 arg5 arg6 arg7 arg8 arg9 arg10 arg11 arg12 v4 h4
    (⟨devNat v9, k0_dev1_lt v9 h9⟩ : Dev nD) (⟨devNat v13, k0_dev2_lt v13 h13⟩ : Dev nD) 31 (Nat.le_refl 31) <|
  finish arg4 arg5 arg6

set_option maxHeartbeats 40000000 in
/-- The printed body is the entry, the steps and the end. -/
theorem body_eq (harg0 : arg0.IsWhole) (harg1 : arg1.IsWhole) (harg2 : arg2.IsWhole) (harg3 : arg3.IsWhole) (harg4 : arg4.IsWhole)
    (harg5 : arg5.IsWhole) (harg6 : arg6.IsWhole) :
    (cc0_body arg0 harg0 arg1 harg1 arg2 harg2 arg3 harg3 arg4 harg4 arg5 harg5 arg6 harg6 arg7 arg8 arg9 arg10 arg11 arg12 : P F)
      = body arg0 arg1 arg2 arg3 arg4 arg5 arg6 arg7 arg8 arg9 arg10 arg11 arg12 := by
  rfl

end

end Cert.KernelIdeal.Ring

end
-- ==== Proof.Ring.lean ====
/- The ring the devices are arranged in, and the words the body computes on it: a table of 32 device numbers, its
   inverse, and what the body's index arithmetic reads off them. -/
module

public import proofs.«01_k».proof.Proof.Body

@[expose] public section

noncomputable section

namespace Cert.KernelIdeal.Ring

open Idealize.ShloMosaic
open Cert.KernelIdeal

/-! ## The ring -/

/-- The device at a place of the ring. -/
def perm : Dev nD → Dev nD :=
  ![0, 3, 4, 7, 15, 12, 11, 8, 16, 19, 20, 23, 31, 28, 27, 24, 25, 26, 29, 30, 22, 21, 18, 17, 9, 10, 13, 14, 6, 5, 2, 1]
/-- The place of a device. -/
def pos : Dev nD → Dev nD :=
  ![0, 31, 30, 1, 2, 29, 28, 3, 7, 24, 25, 6, 5, 26, 27, 4, 8, 23, 22, 9, 10, 21, 20, 11, 15, 16, 17, 14, 13, 18, 19, 12]

theorem perm_pos (c : Dev nD) : perm (pos c) = c := by revert c; decide
theorem pos_perm (j : Dev nD) : pos (perm j) = j := by revert j; decide

/-- The device a place away on the ring: to the right for the direction `false`, to the left for `true`. -/
def nbr (d : Bool) (c : Dev nD) : Dev nD := perm (match d with | false => pos c + 1 | true => pos c + 31)

theorem nbr_nbr (d : Bool) (c : Dev nD) : nbr (!d) (nbr d c) = c := by revert d c; decide
theorem nbr_nbr' (d : Bool) (c : Dev nD) : nbr d (nbr (!d) c) = c := by revert d c; decide

/-- Going one place on is a permutation of the devices. -/
def nbrEquiv (d : Bool) : Dev nD ≃ Dev nD := ⟨nbr d, nbr (!d), nbr_nbr d, nbr_nbr' d⟩

/-- The device whose rows device `c` adds, in step `s`, to what arrives in direction `d`. -/
def dest (d : Bool) (s : ℕ) (c : Dev nD) : Dev nD :=
  match d with
  | false => perm ⟨((pos c).val + 62 - s) % 32, Nat.mod_lt _ (by decide)⟩
  | true => perm ⟨((pos c).val + 2 + s) % 32, Nat.mod_lt _ (by decide)⟩

/-! ## The words -/

/-- The word of a device number. -/
abbrev wd (v : Dev nD) : BitVec 32 := BitVec.ofNat 32 v.val

theorem chk1_wd (v : Dev nD) : k0_chk1 (wd v) := by revert v; decide +kernel
theorem chk2_wd (v : Dev nD) : k0_chk2 (wd v) := by revert v; decide +kernel
theorem chk3_wd (v : Dev nD) : k0_chk3 (wd v) := by revert v; decide +kernel
theorem chkX_wd (v : Dev nD) : ChkX (wd v) := by revert v; decide +kernel

theorem devNat_wd (v : Dev nD) : devNat (wd v) = v.val := by revert v; decide +kernel
theorem offX_wd (v : Dev nD) : offX (wd v) = ![v.val * 128, 0] := by revert v; decide +kernel

/-- Where the entry reads a table for the device's own place, and for its two neighbours. -/
theorem off1_eq (c : Dev nD) : k0_off1 c = ![0, c.val] := by revert c; decide +kernel
theorem off2_wd (r : Dev nD) : k0_off2 (wd r) = ![0, (r + 31).val] := by revert r; decide +kernel
theorem off3_wd (r : Dev nD) : k0_off3 (wd r) = ![0, (r + 1).val] := by revert r; decide +kernel

theorem offR_wd_fin : ∀ (r : Dev nD) (s : Fin 31), offR (wd r) s.val = ![0, (r.val + 62 - s.val) % 32] := by decide +kernel
theorem offL_wd_fin : ∀ (r : Dev nD) (s : Fin 31), offL (wd r) s.val = ![0, (r.val + 2 + s.val) % 32] := by decide +kernel
theorem offR_wd (r : Dev nD) (s : ℕ) (hs : s < 31) : offR (wd r) s = ![0, (r.val + 62 - s) % 32] := offR_wd_fin r ⟨s, hs⟩
theorem offL_wd (r : Dev nD) (s : ℕ) (hs : s < 31) : offL (wd r) s = ![0, (r.val + 2 + s) % 32] := offL_wd_fin r ⟨s, hs⟩

end Cert.KernelIdeal.Ring
-- ==== Proof.Halves.lean ====
/- The halves of the two communication buffers as views: what a half reads of a buffer, what a store through it leaves,
   how much a copy of it counts, and that the two halves are the buffer. -/
module

public import proofs.«01_k».proof.Proof.Ring

@[expose] public section

noncomputable section

namespace Cert.KernelIdeal.Ring

open Idealize.ShloMosaic Idealize.ShloMosaic.TcCoe
open Cert.KernelIdeal
open Facts₀ Facts

variable {F : FTy → Type}

/-- The communication buffer of a direction. -/
abbrev buf (d : Bool) : Memref sig .tc .vmem S2x128x4096 .f32 :=
  match d with | false => Memref.whole cc0_scratch0 | true => Memref.whole cc0_scratch1
/-- The semaphores of the copies out, in a direction. -/
abbrev sendA (d : Bool) : DmaSems sig S2 := match d with | false => cc0_scratch2 | true => cc0_scratch4
/-- The semaphores of the copies in, in a direction. -/
abbrev recvA (d : Bool) : DmaSems sig S2 := match d with | false => cc0_scratch3 | true => cc0_scratch5
/-- The semaphore of the credits, in a direction. -/
abbrev creditA (d : Bool) : Sems sig S_ := match d with | false => cc0_scratch6 | true => cc0_scratch7

/-- What one copy of a half counts on its semaphores. -/
def N : ℕ := (half (buf false) 0).view.dmaCredit

theorem N_pos : 0 < N := View.dmaCredit_pos _ (by decide)

theorem amount_half (d : Bool) (p : Fin 2) (sm : DmaSem sig) : (half (buf d) p).view.amount (.dma sm) = N := by
  cases d <;> rfl

section

variable (b : Memref sig .tc .vmem S2x128x4096 .f32) (p : Fin 2) (c : Dev nD)

/-- A half and the access to it name the same elements. -/
theorem half_set : (half b p).view.set = (b.access (halfRect p)).set := View.set_reshape _ _

/-- What a half holds is what an access to it reads. -/
theorem half_read (f : Buf (Elt F) ((half b p).view.loc (c : Thread nD τ))) :
    shapeCast S128x4096 ((b.access (halfRect p)).read (Elt F) f) shapeCasts_S1x128x4096_S128x4096
      = (half b p).view.read (Elt F) f := rfl

/-- After a store through an access the half holds what was stored. -/
theorem half_read_write (f : Buf (Elt F) ((b.access (halfRect p)).loc (c : Thread nD τ))) (v : FVec F S128x4096 .f32) :
    (half b p).view.read (Elt F) ((b.access (halfRect p)).write (Elt F) f (shapeCast S1x128x4096 v shapeCasts_S128x4096_S1x128x4096) Finset.univ) = v := by
  rw [← half_read b p c, View.read_write_univ]
  funext j
  show v _ = v j
  congr 1
  rw [Shape.reshapeEquiv_reshapeEquiv, Shape.reshapeEquiv_self]

end

/-- A half has an element. -/
theorem half_nonempty (d : Bool) (p : Fin 2) : (half (buf d) p).view.set.Nonempty :=
  ⟨_, View.emb_mem_set _ (show S128x4096.Idx from fun a => ⟨0, by revert a; decide⟩)⟩

/-- The positions of a half. -/
theorem mem_halfRect (p : Fin 2) (i : S2x128x4096.Idx) : i ∈ (halfRect p).set ↔ (i 0).val = p.val := by
  rw [Rect.mem_set_unit]
  constructor
  · intro h
    have := h 0
    simp at this; omega
  · intro h a
    have h1 := (i 1).isLt
    have h2 := (i 2).isLt
    match a with
    | 0 => simp; omega
    | 1 => simpa using h1
    | 2 => simpa using h2

/-- A half's elements are the buffer's at its positions. -/
theorem half_set_map (b : Memref sig .tc .vmem S2x128x4096 .f32) (p : Fin 2) :
    (half b p).view.set = (halfRect p).set.map b.view.emb :=
  (half_set b p).trans (View.set_slice _ _)

/-- The two halves are apart. -/
theorem half_disjoint (b : Memref sig .tc .vmem S2x128x4096 .f32) : Disjoint (half b 0).view.set (half b 1).view.set := by
  rw [half_set_map b 0, half_set_map b 1]
  refine (Finset.disjoint_map _).mpr (Finset.disjoint_left.mpr fun i h0 h1 => ?_)
  rw [mem_halfRect] at h0 h1
  omega

/-- The two halves are the buffer. -/
theorem half_union (b : Memref sig .tc .vmem S2x128x4096 .f32) : (half b 0).view.set ∪ (half b 1).view.set = b.view.set := by
  rw [half_set_map b 0, half_set_map b 1]
  refine (Finset.map_union _ _).symm.trans ?_
  rw [Finset.eq_univ_of_forall (s := (halfRect 0).set ∪ (halfRect 1).set) fun i => by
    rw [Finset.mem_union, mem_halfRect, mem_halfRect]
    have : (i 0).val < 2 := (i 0).isLt
    simp; omega]
  rfl

end Cert.KernelIdeal.Ring
-- ==== Proof.Proto.lean ====
/- The protocol of the two rings: the semaphore cells, what every round of a cell is paid with, the slots that are handed
   back and forth between neighbours, what every device owes, and in which order the waits are allowed. -/
module

public import proofs.«01_k».proof.Proof.Halves
public import Idealize.ShloMosaic.Lib.Pipeline.Regions
public import Idealize.ShloMosaic.Lib.Rounds
public import Idealize.ShloMosaic.Lib.Release
public import Idealize.ShloMosaic.Lib.Tactic

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal
open Facts₀ Facts

variable {F : FTy → Type} [FloatOps F]

/-! ## The ghost algebra -/

/-- A slot: a device, a direction, a half. -/
abbrev Key : Type := Dev nD × Bool × Fin 2
/-- The rings' rounds, and the slots. -/
def UB : Type := URounds (GSem nD τ sig) ℕ × USlots Key
instance instUB : URA UB := inferInstanceAs (URA (URounds (GSem nD τ sig) ℕ × USlots Key))
/-- The rounds inside the rings' algebra. -/
def roundsE : Emb (URounds (GSem nD τ sig) ℕ) UB := (Emb.inl : Emb (URounds (GSem nD τ sig) ℕ) (URounds (GSem nD τ sig) ℕ × USlots Key))
/-- The slots inside the rings' algebra. -/
def slotsE : Emb (USlots Key) UB := (Emb.inr : Emb (USlots Key) (URounds (GSem nD τ sig) ℕ × USlots Key))
/-- The staging pipeline's rounds beside the rings' algebra. -/
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb (URounds (GSem nD τ sig) ℕ) (MT nD τ sig ℕ (Elt F) ℕ UU ℕ) := roundsE.trans embR
abbrev ES : Emb (USlots Key) (MT nD τ sig ℕ (Elt F) ℕ UU ℕ) := slotsE.trans embR

/-! ## Cells -/

/-- The barrier's semaphore. -/
abbrev barS : Sem sig := (SemArray.scalar (sig.barrier 0 rfl) : Sems sig S_).sem

abbrev barCell (c : Dev nD) : GSem nD τ sig := ((c : Thread nD τ), .reg barS)
abbrev sendCell (d : Bool) (p : Fin 2) (c : Dev nD) : GSem nD τ sig := ((c : Thread nD τ), .dma (semOf (sendA d) p))
abbrev recvCell (d : Bool) (p : Fin 2) (c : Dev nD) : GSem nD τ sig := ((c : Thread nD τ), .dma (semOf (recvA d) p))
abbrev creditCell (d : Bool) (c : Dev nD) : GSem nD τ sig := ((c : Thread nD τ), .reg (creditA d).sem)

/-- What a semaphore is used for. -/
inductive Kind where
  | bar | send (d : Bool) (p : Fin 2) | recv (d : Bool) (p : Fin 2) | credit (d : Bool) | none
deriving DecidableEq

/-- The use of each semaphore. -/
def kind : SemLoc sig → Kind
  | .dma i => match i.val with
    | 5 => .send false 0 | 6 => .send false 1 | 7 => .recv false 0 | 8 => .recv false 1
    | 9 => .send true 0 | 10 => .send true 1 | 11 => .recv true 0 | 12 => .recv true 1
    | _ => .none
  | .reg i => match i.val with
    | 0 => .credit false | 1 => .credit true | 2 => .bar | _ => .none

theorem kind_bar : kind (.reg barS) = .bar := by decide
theorem kind_send (d : Bool) (p : Fin 2) : kind (.dma (semOf (sendA d) p)) = .send d p := by revert d p; decide
theorem kind_recv (d : Bool) (p : Fin 2) : kind (.dma (semOf (recvA d) p)) = .recv d p := by revert d p; decide
theorem kind_credit (d : Bool) : kind (.reg (creditA d).sem) = .credit d := by revert d; decide
theorem kind_inj : ∀ x y : SemLoc sig, kind x = kind y → kind x ≠ .none → x = y := by decide

/-- The protocol's semaphores. -/
def talkSems : Finset (SemLoc sig) := Finset.univ.filter fun sm => kind sm ≠ .none
/-- The semaphores that live in the kernel's scope only. -/
def scopedTalk : Finset (SemLoc sig) := Finset.univ.filter fun sm => kind sm ≠ .none ∧ kind sm ≠ .bar

/-! ## What a slot holds -/

/-- The elements of a half of a buffer, on one device, at contents not chosen. -/
def slotAt (d : Bool) (p : Fin 2) (c : Dev nD) : sProp 𝕄 :=
  Release.slot ((half (buf d) p).view.loc (c : Thread nD τ)) (half (buf d) p).view.set
/-- The elements of a half of a buffer, on one device, holding `v`. -/
def holds (d : Bool) (p : Fin 2) (c : Dev nD) (v : FVec F S128x4096 .f32) : sProp 𝕄 :=
  iprop(∃ f, ⌜(half (buf d) p).view.read (Elt F) f = v⌝
    ∗ ((half (buf d) p).view.loc (c : Thread nD τ) ↦[(half (buf d) p).view.set]{fullShare} f))

instance slotAt_storable (d : Bool) (p : Fin 2) (c : Dev nD) : Storable (upEmb : UEmb _ 𝕄) (slotAt d p c) := by
  unfold slotAt; infer_instance
instance holds_storable (d : Bool) (p : Fin 2) (c : Dev nD) (v : FVec F S128x4096 .f32) :
    Storable (upEmb : UEmb _ 𝕄) (holds d p c v) := by
  unfold holds; infer_instance

/-- A half is held at most once. -/
theorem slotAt_excl (d : Bool) (p : Fin 2) (c : Dev nD) : iprop(slotAt d p c ∗ slotAt d p c) ⊢ (False : sProp 𝕄) := by
  unfold slotAt
  exact Release.slot_slot_false (half_nonempty d p)
/-- What holds a value holds something. -/
theorem holds_slotAt (d : Bool) (p : Fin 2) (c : Dev nD) (v : FVec F S128x4096 .f32) : holds d p c v ⊢ (slotAt d p c : sProp 𝕄) := by
  unfold holds slotAt Release.slot
  iintro ⟨%f, -, H⟩
  iexists f; iexact H

/-! ## The facts devices tell each other -/

/-- Device `e` is ready for the copy of step `s` in direction `d`: it has released the half the copy lands in, and the
    semaphore of its arrival stands at the round of this step. -/
def ready (d : Bool) (e : Dev nD) (s : ℕ) : sProp 𝕄 :=
  iprop(released ES (e, d, par (s + 1)) (s / 2 + 1) ∗ reached ER (recvCell d (par (s + 1)) e) (s / 2))
instance ready_persistent (d : Bool) (e : Dev nD) (s : ℕ) : Persistent (ready d e s : sProp 𝕄) := by unfold ready; infer_instance
instance ready_storable (d : Bool) (e : Dev nD) (s : ℕ) : Storable (upEmb : UEmb _ 𝕄) (ready d e s) := by unfold ready; infer_instance

/-- What the neighbour in direction `d` tells with its barrier signal. -/
def barPay (d : Bool) (c : Dev nD) : sProp 𝕄 :=
  iprop(ready d (nbr d c) 0 ∗ reached ER (creditCell (!d) (nbr d c)) 0)
/-- What the neighbour tells with the credit of step `j`: that it is ready for every step up to the next. -/
def creditPay (d : Bool) (c : Dev nD) (j : ℕ) : sProp 𝕄 := heard (ready d (nbr d c)) (Finset.range (j + 2))

instance barPay_persistent (d : Bool) (c : Dev nD) : Persistent (barPay d c : sProp 𝕄) := by unfold barPay; infer_instance
instance barPay_storable (d : Bool) (c : Dev nD) : Storable (upEmb : UEmb _ 𝕄) (barPay d c) := by unfold barPay; infer_instance
instance creditPay_persistent (d : Bool) (c : Dev nD) (j : ℕ) : Persistent (creditPay d c j : sProp 𝕄) := by unfold creditPay; infer_instance
instance creditPay_storable (d : Bool) (c : Dev nD) (j : ℕ) : Storable (upEmb : UEmb _ 𝕄) (creditPay d c j) := by unfold creditPay; infer_instance

/-! ## The schedule -/

section Sched

variable (A : Bool → ℕ → Dev nD → FVec F S128x4096 .f32)

/-- One round on the barrier with a duty for each neighbour; one round per step on the copies' semaphores, by turns on the
    two of a pair; one round on the credits with a duty per step. `A d s c` is what device `c` sends at step `s`. -/
def Rd : Rounds.Schedule (GSem nD τ sig) ℕ 𝕄 where
  duties g r := if g.1.2 = .tc then
      match kind g.2 with
      | .bar => if r = 0 then {0, 1} else ∅
      | .send _ p => if 2 * r + p.val < 31 then {0} else ∅
      | .recv _ q => if 2 * r + (1 - q.val) < 31 then {0} else ∅
      | .credit _ => if r = 0 then Finset.range 30 else ∅
      | .none => ∅
    else ∅
  amount g _ _ := match kind g.2 with
    | .send _ _ => N
    | .recv _ _ => N
    | _ => 1
  payload g r j := match kind g.2 with
    | .bar => barPay (decide (j = 1)) g.1.1
    | .send d p => slotAt d p g.1.1
    | .recv d q => holds d q g.1.1 (A d (2 * r + (1 - q.val)) (nbr (!d) g.1.1))
    | .credit d => creditPay d g.1.1 j
    | .none => iprop(emp)
  amount_pos g _ _ _ := by
    split
    · exact N_pos
    · exact N_pos
    · exact Nat.one_pos

instance Rd_storable (g : GSem nD τ sig) (r j : ℕ) : Storable (upEmb : UEmb _ 𝕄) ((Rd A).payload g r j) := by
  dsimp only [Rd]
  split <;> infer_instance

variable (d : Bool) (p : Fin 2) (c : Dev nD) (s r j : ℕ)

theorem par_val : (par s).val = s % 2 := rfl
theorem par_add_two : par (s + 2) = par s := Fin.ext (by simp [par])

theorem duties_bar : (Rd A).duties (barCell c) 0 = {0, 1} := by dsimp only [Rd]; rw [if_pos rfl, kind_bar]; rfl
theorem duties_send (hs : s < 31) : (Rd A).duties (sendCell d (par s) c) (s / 2) = {0} := by
  dsimp only [Rd]; rw [if_pos rfl, kind_send]; exact if_pos (by rw [par_val]; omega)
theorem duties_recv (hs : s < 31) : (Rd A).duties (recvCell d (par (s + 1)) c) (s / 2) = {0} := by
  dsimp only [Rd]; rw [if_pos rfl, kind_recv]; exact if_pos (by rw [par_val]; omega)
theorem duties_credit : (Rd A).duties (creditCell d c) 0 = Finset.range 30 := by
  dsimp only [Rd]; rw [if_pos rfl, kind_credit]; rfl

theorem later_bar : ∀ r, 1 ≤ r → (Rd A).duties (barCell c) r = ∅ := fun r hr => by
  dsimp only [Rd]; rw [if_pos rfl, kind_bar]; exact if_neg (by omega)
theorem later_credit : ∀ r, 1 ≤ r → (Rd A).duties (creditCell d c) r = ∅ := fun r hr => by
  dsimp only [Rd]; rw [if_pos rfl, kind_credit]; exact if_neg (by omega)
theorem later_send (h : 31 ≤ 2 * r + p.val) : ∀ r', r ≤ r' → (Rd A).duties (sendCell d p c) r' = ∅ := fun r' hr => by
  dsimp only [Rd]; rw [if_pos rfl, kind_send]; exact if_neg (by omega)
theorem later_recv (h : 31 ≤ 2 * r + (1 - p.val)) : ∀ r', r ≤ r' → (Rd A).duties (recvCell d p c) r' = ∅ := fun r' hr => by
  dsimp only [Rd]; rw [if_pos rfl, kind_recv]; exact if_neg (by omega)

theorem amount_bar : (Rd A).amount (barCell c) r j = 1 := by dsimp only [Rd]; rw [kind_bar]
theorem amount_send : (Rd A).amount (sendCell d p c) r j = N := by dsimp only [Rd]; rw [kind_send]
theorem amount_recv : (Rd A).amount (recvCell d p c) r j = N := by dsimp only [Rd]; rw [kind_recv]
theorem amount_credit : (Rd A).amount (creditCell d c) r j = 1 := by dsimp only [Rd]; rw [kind_credit]

theorem payload_bar : (Rd A).payload (barCell c) r j = barPay (decide (j = 1)) c := by dsimp only [Rd]; rw [kind_bar]
theorem payload_send : (Rd A).payload (sendCell d p c) r j = slotAt d p c := by dsimp only [Rd]; rw [kind_send]
theorem payload_recv : (Rd A).payload (recvCell d (par (s + 1)) c) (s / 2) j = holds d (par (s + 1)) c (A d s (nbr (!d) c)) := by
  dsimp only [Rd]; rw [kind_recv]
  show holds d _ c (A d (2 * (s / 2) + (1 - (par (s + 1)).val)) _) = _
  rw [par_val, show 2 * (s / 2) + (1 - (s + 1) % 2) = s by omega]
theorem payload_credit : (Rd A).payload (creditCell d c) r j = creditPay d c j := by dsimp only [Rd]; rw [kind_credit]

theorem expect_bar : (Rd A).expect (barCell c) 0 = 2 := by
  unfold Schedule.expect Schedule.amountOf; rw [duties_bar]; simp only [amount_bar]; rfl
theorem expect_send (hs : s < 31) : (Rd A).expect (sendCell d (par s) c) (s / 2) = N := by
  unfold Schedule.expect Schedule.amountOf; rw [duties_send A d c s hs, Finset.sum_singleton, amount_send]
theorem expect_recv (hs : s < 31) : (Rd A).expect (recvCell d (par (s + 1)) c) (s / 2) = N := by
  unfold Schedule.expect Schedule.amountOf; rw [duties_recv A d c s hs, Finset.sum_singleton, amount_recv]
theorem expect_credit : (Rd A).expect (creditCell d c) 0 = 30 := by
  unfold Schedule.expect Schedule.amountOf; rw [duties_credit]; simp only [amount_credit]; rfl

theorem rest_bar : bigSep ((Rd A).duties (barCell c) 0 \ ∅) (fun j => (Rd A).payload (barCell c) 0 j)
    = iprop(barPay false c ∗ barPay true c) := by
  rw [Finset.sdiff_empty, duties_bar, bigSep_insert (by decide), bigSep_singleton, payload_bar, payload_bar]; rfl
theorem rest_send (hs : s < 31) :
    bigSep ((Rd A).duties (sendCell d (par s) c) (s / 2) \ ∅) (fun j => (Rd A).payload (sendCell d (par s) c) (s / 2) j) = slotAt d (par s) c := by
  rw [Finset.sdiff_empty, duties_send A d c s hs, bigSep_singleton, payload_send]
theorem rest_recv (hs : s < 31) :
    bigSep ((Rd A).duties (recvCell d (par (s + 1)) c) (s / 2) \ ∅) (fun j => (Rd A).payload (recvCell d (par (s + 1)) c) (s / 2) j)
      = holds d (par (s + 1)) c (A d s (nbr (!d) c)) := by
  rw [Finset.sdiff_empty, duties_recv A d c s hs, bigSep_singleton, payload_recv]

end Sched

/-! ## Levels, and what is owed -/

/-- A wait's index is the step it belongs to. -/
def L (g : GSem nD τ sig) : Finset ℕ := if g.1.2 = .tc then Finset.range 31 else ∅
/-- The copies out lie lowest, then the barrier, then the arrivals and credits by steps. -/
def lv (g : GSem nD τ sig) (u : ℕ) : ℕ := match kind g.2 with
  | .bar => 1
  | .recv _ _ => 2 + u
  | .credit _ => 2 + u
  | _ => 0

theorem L_tc (c : Dev nD) (sm : SemLoc sig) : L ((c : Thread nD τ), sm) = Finset.range 31 := if_pos rfl
theorem L_of_ne (g : GSem nD τ sig) (h : g.1.2 ≠ .tc) : L g = ∅ := if_neg h
theorem lv_bar (c : Dev nD) (u : ℕ) : lv (barCell c) u = 1 := by dsimp only [lv]; rw [kind_bar]
theorem lv_send (d : Bool) (p : Fin 2) (c : Dev nD) (u : ℕ) : lv (sendCell d p c) u = 0 := by dsimp only [lv]; rw [kind_send]
theorem lv_recv (d : Bool) (p : Fin 2) (c : Dev nD) (u : ℕ) : lv (recvCell d p c) u = 2 + u := by dsimp only [lv]; rw [kind_recv]
theorem lv_credit (d : Bool) (c : Dev nD) (u : ℕ) : lv (creditCell d c) u = 2 + u := by dsimp only [lv]; rw [kind_credit]

/-- Everything owed lies at level `n` or above. -/
def Above (n : ℕ) (O : CellTallies nD τ sig ℕ) : Prop := ∀ g u, 0 < O g u → u ∈ L g ∧ n ≤ lv g u

theorem Above.zero (n : ℕ) : Above n 0 := fun _ _ h => absurd h (Nat.lt_irrefl 0)
theorem Above.add {n : ℕ} {O O' : CellTallies nD τ sig ℕ} (h : Above n O) (h' : Above n O') : Above n (O + O') := fun g u hg => by
  rw [Pi.add_apply, Finsupp.add_apply] at hg
  rcases Nat.eq_zero_or_pos (O g u) with h0 | h0
  · exact h' g u (by omega)
  · exact h g u h0
theorem Above.tally {n : ℕ} {g : GSem nD τ sig} {u k : ℕ} (hu : u ∈ L g) (hn : n ≤ lv g u) : Above n (tallyAt g u k) := fun g' u' hg => by
  rw [tallyAt_apply] at hg
  by_cases h : g' = g ∧ u' = u
  · obtain ⟨rfl, rfl⟩ := h; exact ⟨hu, hn⟩
  · rw [if_neg h] at hg; exact absurd hg (Nat.lt_irrefl 0)
theorem Above.mono {n n' : ℕ} {O : CellTallies nD τ sig ℕ} (h : Above n O) (hn : n' ≤ n) : Above n' O := fun g u hg =>
  ⟨(h g u hg).1, hn.trans (h g u hg).2⟩

/-- A wait below everything owed is allowed. -/
theorem mayWait_of_above {n : ℕ} {O : CellTallies nD τ sig ℕ} (c : Dev nD) (sm : SemLoc sig) (u : ℕ) (hu : u < 31)
    (hl : lv ((c : Thread nD τ), sm) u ≤ n) (h : Above (n + 1) O) :
    (levAts L lv : sProp 𝕄) ⊢ MayWait (c : Thread nD τ) sm u O :=
  MayOwe.of_cut (L := L) (lev := lv) n (fun p hp => by rw [Finset.mem_singleton.mp hp, L_tc]; exact Finset.mem_range.mpr hu)
    (fun g u hg => (h g u hg).1)
    (fun p hp => by rw [Finset.mem_singleton.mp hp]; exact hl)
    (fun g u hg => (h g u hg).2)

/-- What the copy of step `s` in direction `d` owes. -/
def oweRecv (d : Bool) (s : ℕ) (c : Dev nD) : CellTallies nD τ sig ℕ := tallyAt (recvCell d (par (s + 1)) (nbr d c)) s N
/-- What the credit of step `s` in direction `d` owes. -/
def oweCredit (d : Bool) (s : ℕ) (c : Dev nD) : CellTallies nD τ sig ℕ :=
  if s < 30 then tallyAt (creditCell d (nbr (!d) c)) s 1 else 0
/-- What one step owes. -/
def oweStep (c : Dev nD) (s : ℕ) : CellTallies nD τ sig ℕ :=
  (oweCredit true s c + oweCredit false s c) + oweRecv true s c + oweRecv false s c
/-- What is owed before step `s`. -/
def oweFrom (c : Dev nD) (s : ℕ) : CellTallies nD τ sig ℕ := ∑ j ∈ Finset.Ico s 31, oweStep c j

theorem oweFrom_succ (c : Dev nD) {s : ℕ} (hs : s < 31) : oweFrom c s = oweFrom c (s + 1) + oweStep c s := by
  have h : Finset.Ico s 31 = insert s (Finset.Ico (s + 1) 31) := by ext j; simp only [Finset.mem_Ico, Finset.mem_insert]; omega
  unfold oweFrom
  rw [h, Finset.sum_insert (by simp), add_comm]
theorem oweFrom_last (c : Dev nD) : oweFrom c 31 = 0 := by unfold oweFrom; rw [Finset.Ico_self, Finset.sum_empty]

theorem above_recv (d : Bool) (c : Dev nD) {s : ℕ} (hs : s < 31) : Above (2 + s) (oweRecv d s c) :=
  Above.tally (by rw [L_tc]; exact Finset.mem_range.mpr hs) (by rw [lv_recv])
theorem above_credit (d : Bool) (c : Dev nD) {s : ℕ} (hs : s < 31) : Above (2 + s) (oweCredit d s c) := by
  unfold oweCredit
  split
  · exact Above.tally (by rw [L_tc]; exact Finset.mem_range.mpr hs) (by rw [lv_credit])
  · exact Above.zero _
theorem above_step (c : Dev nD) {s : ℕ} (hs : s < 31) : Above (2 + s) (oweStep c s) :=
  (((above_credit true c hs).add (above_credit false c hs)).add (above_recv true c hs)).add (above_recv false c hs)
theorem above_from (c : Dev nD) (s : ℕ) : Above (2 + s) (oweFrom c s) := by
  unfold oweFrom
  refine Finset.sum_induction _ (Above (2 + s)) (fun _ _ => Above.add) (Above.zero _) fun j hj => ?_
  rw [Finset.mem_Ico] at hj
  exact (above_step c hj.2).mono (by omega)

/-! ## What every device may consult -/

/-- The cells of the protocol. -/
def cells : Finset (GSem nD τ sig) := (Finset.univ ×ˢ talkSems).map
  ⟨fun x : Dev nD × SemLoc sig => ((x.1 : Thread nD τ), x.2), fun _ _ h =>
    Prod.ext (congrArg (fun g : GSem nD τ sig => g.1.1) h) (congrArg (fun g : GSem nD τ sig => g.2) h)⟩

theorem mem_cells (c : Dev nD) (sm : SemLoc sig) (h : kind sm ≠ .none) : ((c : Thread nD τ), sm) ∈ cells :=
  Finset.mem_map.mpr ⟨(c, sm), Finset.mem_product.mpr ⟨Finset.mem_univ _, Finset.mem_filter.mpr ⟨Finset.mem_univ _, h⟩⟩, rfl⟩

variable (A : Bool → ℕ → Dev nD → FVec F S128x4096 .f32)

/-- The invariants of all cells and slots, and the levels. -/
def recs (K : GSem nD τ sig → ℕ) (ιs : Key → ℕ) : sProp 𝕄 :=
  iprop((bigSep cells fun g => cellInv ER (Rd A) (K g) g)
    ∗ (bigSep Finset.univ fun k : Key => slotInv ES (ιs k) k (slotAt k.2.1 k.2.2 k.1)) ∗ levAts L lv)

instance recs_persistent (K : GSem nD τ sig → ℕ) (ιs : Key → ℕ) : Persistent (recs A K ιs) := by unfold recs; infer_instance

variable (K : GSem nD τ sig → ℕ) (ιs : Key → ℕ)

theorem recs_cell (c : Dev nD) (sm : SemLoc sig) (h : kind sm ≠ .none) :
    recs A K ιs ⊢ cellInv ER (Rd A) (K ((c : Thread nD τ), sm)) ((c : Thread nD τ), sm) := by
  unfold recs
  iintro ⟨#H, -, -⟩
  have he : (bigSep cells fun g => (cellInv ER (Rd A) (K g) g : sProp 𝕄)) ⊢ cellInv ER (Rd A) (K ((c : Thread nD τ), sm)) ((c : Thread nD τ), sm) :=
    bigSep_elim (mem_cells c sm h)
  iapply he; iexact H
theorem recs_bar (c : Dev nD) : recs A K ιs ⊢ cellInv ER (Rd A) (K (barCell c)) (barCell c) :=
  recs_cell A K ιs c _ (by rw [kind_bar]; exact nofun)
theorem recs_send (d : Bool) (p : Fin 2) (c : Dev nD) : recs A K ιs ⊢ cellInv ER (Rd A) (K (sendCell d p c)) (sendCell d p c) :=
  recs_cell A K ιs c _ (by rw [kind_send]; exact nofun)
theorem recs_recv (d : Bool) (p : Fin 2) (c : Dev nD) : recs A K ιs ⊢ cellInv ER (Rd A) (K (recvCell d p c)) (recvCell d p c) :=
  recs_cell A K ιs c _ (by rw [kind_recv]; exact nofun)
theorem recs_credit (d : Bool) (c : Dev nD) : recs A K ιs ⊢ cellInv ER (Rd A) (K (creditCell d c)) (creditCell d c) :=
  recs_cell A K ιs c _ (by rw [kind_credit]; exact nofun)
theorem recs_slot (d : Bool) (p : Fin 2) (c : Dev nD) : recs A K ιs ⊢ slotInv ES (ιs (c, d, p)) (c, d, p) (slotAt d p c) := by
  unfold recs
  iintro ⟨-, #H, -⟩
  have he : (bigSep Finset.univ fun k : Key => (slotInv ES (ιs k) k (slotAt k.2.1 k.2.2 k.1) : sProp 𝕄))
      ⊢ slotInv ES (ιs (c, d, p)) (c, d, p) (slotAt d p c) := bigSep_elim (Finset.mem_univ _)
  iapply he; iexact H
theorem recs_lev : recs A K ιs ⊢ (levAts L lv : sProp 𝕄) := by
  unfold recs
  iintro ⟨-, -, #H⟩; iexact H

/-- The levels allow a wait below everything owed. -/
theorem recs_mayWait {n : ℕ} {O : CellTallies nD τ sig ℕ} (c : Dev nD) (sm : SemLoc sig) (u : ℕ) (hu : u < 31)
    (hl : lv ((c : Thread nD τ), sm) u ≤ n) (h : Above (n + 1) O) : recs A K ιs ⊢ (MayWait (c : Thread nD τ) sm u O : sProp 𝕄) := by
  have h1 : (levAts L lv : sProp 𝕄) ⊢ MayWait (c : Thread nD τ) sm u O := mayWait_of_above c sm u hu hl h
  exact BI.Entails.trans (@recs_lev F _ A K ιs) h1

end Cert.KernelIdeal.Ring
-- ==== Proof.Moves.lean ====
/- The moves of one step, each in one direction: a credit awaited, a half sent, a copy out and a copy in waited for, a half
   released, a credit given. -/
module

public import proofs.«01_k».proof.Proof.Proto

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal
open Facts₀ Facts

variable {F : FTy → Type} [FloatOps F]

local notation "𝕄" => MT nD τ sig ℕ (Elt F) ℕ UU ℕ

abbrev 𝒱₀ : Variants := Variants.none

/-- The kernel's program `k` on device `c` ends in `Q`. -/
abbrev WP (c : Dev nD) (k : P F) (Q : PUnit.{1} → sProp 𝕄) : sProp 𝕄 :=
  wp frame (wpE (defs₀ (F := F)) 𝒱₀ c none) Set.univ k Q

/-- The copies out of a half stand at round `r`. -/
def sendAt (d : Bool) (p : Fin 2) (r : ℕ) (c : Dev nD) : sProp 𝕄 :=
  iprop(atPos ER (sendCell d p c) r ∅ 0 ∗ reached ER (sendCell d p c) r)
/-- The copies into a half stand at round `r`. -/
def recvAt (d : Bool) (p : Fin 2) (r : ℕ) (c : Dev nD) : sProp 𝕄 :=
  iprop(atPos ER (recvCell d p c) r ∅ 0 ∗ reached ER (recvCell d p c) r)
/-- The credits at the start of step `s`: those of the steps before the last have been awaited, and what they told is known. -/
def creditAt (d : Bool) (s : ℕ) (c : Dev nD) : sProp 𝕄 :=
  if s < 31 then iprop(∃ T : Finset ℕ, atPos ER (creditCell d c) 0 T (s - 1) ∗ bigSep T (creditPay d c))
  else atPos ER (creditCell d c) 1 ∅ 0

variable (A : Bool → ℕ → Dev nD → FVec F S128x4096 .f32)
variable (K : GSem nD τ sig → ℕ) (ιs : Key → ℕ) (d : Bool) (s : ℕ) (c : Dev nD) (k : P F) (Q : PUnit.{1} → sProp (MT nD τ sig ℕ (Elt F) ℕ UU ℕ))

theorem creditPay_ready {j : ℕ} (h : s < j + 2) : creditPay d c j ⊢ (ready d (nbr d c) s : sProp 𝕄) := by
  unfold creditPay
  exact heard_elim _ (Finset.mem_range.mpr h)

/-- The last credit awaited. -/
theorem wp_lastCredit (T : Finset ℕ) (O : CellTallies nD τ sig ℕ) (hO : Above 32 O) (W : Waits sig ℕ) :
    iprop(recs A K ιs ∗ atPos ER (creditCell d c) 0 T 29 ∗ bigSep T (creditPay d c)
        ∗ cred (tallyAt (creditCell d c) 29 1) ∗ owes (c : Thread nD τ) O W)
      ⊢ iprop((iprop(atPos ER (creditCell d c) 1 ∅ 0 ∗ ready d (nbr d c) 30 ∗ ∃ W, owes (c : Thread nD τ) O W) -∗ WP c k Q)
          -∗ WP c (semWaitWord (creditA d).sem 1#32 >>= fun _ => k) Q) := by
  have e1 : bigSep ((Rd A).duties (creditCell d c) 0 \ T) (fun j => (Rd A).payload (creditCell d c) 0 j)
      = (bigSep (Finset.range 30 \ T) (creditPay d c) : sProp 𝕄) := by
    rw [duties_credit]; simp only [payload_credit]
  iintro ⟨#Hr, Hat, HT, Hc, HO⟩ Hk
  iapply (Rounds.wp_wait_rest_token 𝒱₀ ER (Rd A) (c : Thread nD τ) none (κ := K (creditCell d c))
    (wpE_semWait_eq 𝒱₀ (c : Thread nD τ) none Set.univ) (Set.mem_univ _) 29 (O := O) (W := W) (R := 0) (m := 29) (T := T)
    (expect_credit A d c).symm) $$ [Hc HO Hat]
  · isplitr; · iapply (recs_credit A K ιs d c); iexact Hr
    isplitl [Hc]; · iexact Hc
    isplitl [HO]; · iexact HO
    isplitr
    · iapply (recs_mayWait A K ιs c (n := 31) (.reg (creditA d).sem) 29 (by decide) (Nat.le_of_eq (lv_credit d c 29)) hO); iexact Hr
    iexact Hat
  rw [e1]
  iintro ⟨HO, Hat, -, Hpay⟩
  iapply Hk
  isplitl [Hat]; · iexact Hat
  isplitl [Hpay HT]
  · have he : iprop(bigSep T (creditPay d c) ∗ bigSep (Finset.range 30 \ T) (creditPay d c)) ⊢ (ready d (nbr d c) 30 : sProp 𝕄) :=
      (bigSep_sep_union T (Finset.range 30 \ T)).trans ((bigSep_elim (i := 29) (by rw [Finset.union_sdiff_self_eq_union]; exact Finset.mem_union_right _ (by decide))).trans
        (creditPay_ready d 30 c (by decide)))
    iapply he
    isplitl [HT] <;> iassumption
  iexists _; iexact HO

/-- A credit before the last awaited. -/
theorem wp_midCredit (T : Finset ℕ) (O : CellTallies nD τ sig ℕ) (hs : s < 29) (hO : Above (3 + s) O) (W : Waits sig ℕ) :
    iprop(recs A K ιs ∗ atPos ER (creditCell d c) 0 T s ∗ bigSep T (creditPay d c)
        ∗ cred (tallyAt (creditCell d c) s 1) ∗ owes (c : Thread nD τ) O W)
      ⊢ iprop((iprop((∃ S : Finset ℕ, atPos ER (creditCell d c) 0 S (s + 1) ∗ bigSep S (creditPay d c))
            ∗ ready d (nbr d c) (s + 1) ∗ ∃ W, owes (c : Thread nD τ) O W) -∗ WP c k Q)
          -∗ WP c (semWaitWord (creditA d).sem 1#32 >>= fun _ => k) Q) := by
  iintro ⟨#Hr, Hat, #HT, Hc, HO⟩ Hk
  iapply (Rounds.wp_wait 𝒱₀ ER (Rd A) (c : Thread nD τ) none (κ := K (creditCell d c))
    (wpE_semWait_eq 𝒱₀ (c : Thread nD τ) none Set.univ) (Set.mem_univ _) (cr := Finsupp.single s 1) (O := O) (W := W)
    {((.reg (creditA d).sem : SemLoc sig), s)} (R := 0) (m := s) (T := T)
    (Util.total_single _ _) (image_single_subset _ _ _)) $$ [Hc HO Hat]
  · isplitr; · iapply (recs_credit A K ιs d c); iexact Hr
    isplitl [Hc]; · iexact Hc
    isplitl [HO]; · iexact HO
    isplitr
    · iapply (recs_mayWait A K ιs c (n := 2 + s) (.reg (creditA d).sem) s (by omega) (Nat.le_of_eq (lv_credit d c s)) (hO.mono (by omega))); iexact Hr
    iexact Hat
  iintro %S ⟨%hS, HO, Hat, Hpay⟩
  obtain ⟨hTS, hSd, hcard⟩ := hS
  rw [expect_credit, duties_credit] at hcard
  rw [duties_credit] at hSd
  have hc : s + 1 ≤ S.card := by
    have := Finset.card_sdiff_of_subset hSd
    rw [Finset.card_range] at this
    have h1 := Finset.card_le_card hSd
    rw [Finset.card_range] at h1
    have h2 : s + 1 + (30 - S.card) ≤ 30 := this ▸ hcard
    omega
  obtain ⟨j, hj, hjs⟩ : ∃ j ∈ S, s ≤ j := by
    by_contra hn
    push Not at hn
    have : S ⊆ Finset.range s := fun j hj => Finset.mem_range.mpr (hn j hj)
    have := Finset.card_le_card this
    rw [Finset.card_range] at this
    omega
  have he : iprop(bigSep T (creditPay d c) ∗ bigSep (S \ T) (fun j => (Rd A).payload (creditCell d c) 0 j)) ⊢ (bigSep S (creditPay d c) : sProp 𝕄) := by
    simp only [payload_credit]
    have h := bigSep_sep_union (Φ := (creditPay d c : ℕ → sProp 𝕄)) T (S \ T)
    rw [Finset.union_sdiff_of_subset hTS] at h
    exact h
  have he' : bigSep S (creditPay d c) ⊢ (ready d (nbr d c) (s + 1) : sProp 𝕄) :=
    (bigSep_elim hj).trans (creditPay_ready d (s + 1) c (by omega))
  ihave #HS := he $$ [Hpay]
  · isplitr; · iexact HT
    iexact Hpay
  iapply Hk
  isplitl [Hat]
  · iexists S
    isplitl [Hat]; · iexact Hat
    iexact HS
  isplitr; · iapply he'; iexact HS
  iexists _; iexact HO

/-- A credit awaited: the neighbour is ready for this step. -/
theorem wp_awaitCredit (hs : s < 31) (O : CellTallies nD τ sig ℕ) (hO : Above (2 + s) O) :
    iprop(recs A K ιs ∗ creditAt d s c ∗ ready d (nbr d c) 0
        ∗ (if s = 0 then iprop(emp) else cred (tallyAt (creditCell d c) (s - 1) 1)) ∗ ∃ W, owes (c : Thread nD τ) O W)
      ⊢ iprop((iprop(creditAt d (s + 1) c ∗ ready d (nbr d c) s ∗ ∃ W, owes (c : Thread nD τ) O W) -∗ WP c k Q)
          -∗ WP c (awaitCredit s (creditA d) k) Q) := by
  unfold awaitCredit creditAt
  rcases s with _ | s
  · rw [if_pos hs, if_pos rfl, if_pos rfl, if_pos (by decide)]
    iintro ⟨-, Hat, #H0, -, HO⟩ Hk
    iapply Hk
    isplitl [Hat]; · iexact Hat
    isplitr; · iexact H0
    iexact HO
  · rw [if_pos hs, if_neg (Nat.succ_ne_zero s), if_neg (Nat.succ_ne_zero s)]
    by_cases h : s = 29
    · subst h
      rw [if_neg (by decide)]
      iintro ⟨#Hr, ⟨%T, Hat, HT⟩, -, Hc, ⟨%W, HO⟩⟩ Hk
      iapply (wp_lastCredit A K ιs d c k Q T O hO W) $$ [Hat HT Hc HO]
      · isplitr; · iexact Hr
        isplitl [Hat]; · iexact Hat
        isplitl [HT]; · iexact HT
        isplitl [Hc]; · iexact Hc
        iexact HO
      iexact Hk
    · rw [if_pos (by omega)]
      iintro ⟨#Hr, ⟨%T, Hat, HT⟩, -, Hc, ⟨%W, HO⟩⟩ Hk
      iapply (wp_midCredit A K ιs d s c k Q T O (by omega) (hO.mono (by omega)) W) $$ [Hat HT Hc HO]
      · isplitr; · iexact Hr
        isplitl [Hat]; · iexact Hat
        isplitl [HT]; · iexact HT
        isplitl [Hc]; · iexact Hc
        iexact HO
      iexact Hk

/-- A half sent to the neighbour that is ready for it. -/
theorem wp_sendHalf (hs : s < 31) (O : CellTallies nD τ sig ℕ) :
    iprop(recs A K ιs ∗ holds d (par s) c (A d s c) ∗ ready d (nbr d c) s ∗ writeTok ES (nbr d c, d, par (s + 1)) (s / 2 + 1)
        ∗ dutyTok ER (sendCell d (par s) c) (s / 2) 0 ∗ reached ER (sendCell d (par s) c) (s / 2)
        ∗ dutyTok ER (recvCell d (par (s + 1)) (nbr d c)) (s / 2) 0 ∗ ∃ W, owes (c : Thread nD τ) (O + oweRecv d s c) W)
      ⊢ iprop((iprop(cred (tallyAt (sendCell d (par s) c) 0 N) ∗ ∃ W, owes (c : Thread nD τ) O W) -∗ WP c k Q)
          -∗ WP c (sendHalf (buf d) (sendA d) (recvA d) (nbr d c) (par s) (par (s + 1)) k) Q) := by
  unfold sendHalf holds ready
  iintro ⟨#Hr, ⟨%f, %hf, Hsrc⟩, ⟨#Hrel, #Hrd⟩, Hw, HtS, HrS, HtR, ⟨%W, HO⟩⟩ Hk
  imod (slot_take ES (S := slotAt d (par (s + 1)) (nbr d c)) (ι := ιs (nbr d c, d, par (s + 1))) (Set.mem_univ _) (s / 2 + 1)) $$ [Hw] with Hslot
  · isplitr; · iapply (recs_slot A K ιs d (par (s + 1)) (nbr d c)); iexact Hr
    isplitr; · iexact Hrel
    iexact Hw
  unfold slotAt Release.slot
  icases Hslot with ⟨%fd, Hdst⟩
  iapply (Rounds.wp_send_pointsTo 𝒱₀ ER (Rd A) (c : Thread nD τ) none (c' := (nbr d c : Thread nD τ)) (src := half (buf d) (par s)) (dst := half (buf d) (par (s + 1)))
      (sS := .dma (semOf (sendA d) (par s))) (sem := .dma (semOf (recvA d) (par (s + 1)))) (q := fullShare) (fs := f)
      (κ₁ := K (sendCell d (par s) c)) (κ₂ := K (recvCell d (par (s + 1)) (nbr d c)))
      (r₁ := s / 2) (r₂ := s / 2) (d₁ := 0) (d₂ := 0) (fd := fd)
      (by rw [duties_send A d c s hs]; exact Finset.mem_singleton_self _) (by rw [duties_recv A d _ s hs]; exact Finset.mem_singleton_self _)
      s 0 N (amount_half d _ _) (amount_send A d _ c _ _) (amount_recv A d _ _ _ _) O rfl (W := W)
      (by
        rw [payload_send]; unfold slotAt Release.slot
        iintro H; iexists f; iexact H)
      (by
        rw [payload_recv, nbr_nbr]; unfold holds
        iintro H
        iexists ((half (buf d) (par (s + 1))).view.write (Elt F) fd ((half (buf d) (par s)).view.read (Elt F) f) Finset.univ)
        isplitr; · ipureintro; exact (View.read_write_univ _ _).trans hf
        iexact H)) $$ [Hsrc Hdst HO HtS HrS HtR]
  · isplitr; · iapply (recs_send A K ιs d (par s) c); iexact Hr
    isplitr; · iapply (recs_recv A K ιs d (par (s + 1)) (nbr d c)); iexact Hr
    isplitl [Hsrc]; · iexact Hsrc
    isplitl [Hdst]; · iexact Hdst
    isplitl [HO]; · iexact HO
    isplitl [HtS]; · iexact HtS
    isplitl [HrS]; · iexact HrS
    isplitl [HtR]; · iexact HtR
    iexact Hrd
  iintro ⟨Hc, HO⟩
  iapply Hk
  isplitl [Hc]; · iexact Hc
  iexists W; iexact HO

/-- The copy out waited for: the half comes back. -/
theorem wp_waitSend (hs : s < 31) (O : CellTallies nD τ sig ℕ) (hO : Above 1 O) :
    iprop(recs A K ιs ∗ cred (tallyAt (sendCell d (par s) c) 0 N) ∗ atPos ER (sendCell d (par s) c) (s / 2) ∅ 0
        ∗ ∃ W, owes (c : Thread nD τ) O W)
      ⊢ iprop((iprop(slotAt d (par s) c ∗ sendAt d (par s) (s / 2 + 1) c ∗ ∃ W, owes (c : Thread nD τ) O W) -∗ WP c k Q)
          -∗ WP c (waitHalf (buf d) (sendA d) (par s) (par (s + 1)) k) Q) := by
  unfold waitHalf sendAt
  iintro ⟨#Hr, Hc, Hat, ⟨%W, HO⟩⟩ Hk
  iapply (Rounds.wp_wait_rest_token 𝒱₀ ER (Rd A) (c : Thread nD τ) none (κ := K (sendCell d (par s) c))
      (wpE_waitDma2_eq 𝒱₀ (c : Thread nD τ) none Set.univ) (Set.mem_univ _) 0 (O := O) (W := W) (R := s / 2) (m := 0) (T := ∅)
      (by rw [expect_send A d c s hs, Nat.zero_add]; exact amount_half d _ (semOf (sendA d) (par s)))) $$ [Hc HO Hat]
  · isplitr; · iapply (recs_send A K ιs d (par s) c); iexact Hr
    isplitl [Hc]
    · have he : (half (buf d) (par s)).view.dmaCredit = N := amount_half d _ (semOf (sendA d) (par s))
      rw [he]; iexact Hc
    isplitl [HO]; · iexact HO
    isplitr; · iapply (recs_mayWait A K ιs c (n := 0) (.dma (semOf (sendA d) (par s))) 0 (by decide) (Nat.le_of_eq (lv_send d _ c 0)) (hO.mono (by omega))); iexact Hr
    iexact Hat
  rw [rest_send A d c s hs]
  iintro ⟨HO, Hat, Hre, Hpay⟩
  iapply Hk
  isplitl [Hpay]; · iexact Hpay
  isplitl [Hat Hre]; · isplitl [Hat] <;> iassumption
  iexists _; iexact HO

/-- The copy in waited for: the half holds what the neighbour sent. -/
theorem wp_waitRecv (hs : s < 31) (O : CellTallies nD τ sig ℕ) (hO : Above (2 + (s + 1)) O) :
    iprop(recs A K ιs ∗ cred (tallyAt (recvCell d (par (s + 1)) c) s N) ∗ atPos ER (recvCell d (par (s + 1)) c) (s / 2) ∅ 0
        ∗ ∃ W, owes (c : Thread nD τ) O W)
      ⊢ iprop((iprop(holds d (par (s + 1)) c (A d s (nbr (!d) c)) ∗ recvAt d (par (s + 1)) (s / 2 + 1) c ∗ ∃ W, owes (c : Thread nD τ) O W) -∗ WP c k Q)
          -∗ WP c (waitHalf (buf d) (recvA d) (par (s + 1)) (par s) k) Q) := by
  unfold waitHalf recvAt
  iintro ⟨#Hr, Hc, Hat, ⟨%W, HO⟩⟩ Hk
  iapply (Rounds.wp_wait_rest_token 𝒱₀ ER (Rd A) (c : Thread nD τ) none (κ := K (recvCell d (par (s + 1)) c))
      (wpE_waitDma2_eq 𝒱₀ (c : Thread nD τ) none Set.univ) (Set.mem_univ _) s (O := O) (W := W) (R := s / 2) (m := 0) (T := ∅)
      (by rw [expect_recv A d c s hs, Nat.zero_add]; exact amount_half d _ (semOf (sendA d) (par s)))) $$ [Hc HO Hat]
  · isplitr; · iapply (recs_recv A K ιs d (par (s + 1)) c); iexact Hr
    isplitl [Hc]
    · have he : (half (buf d) (par (s + 1))).view.dmaCredit = N := amount_half d _ (semOf (sendA d) (par s))
      rw [he]; iexact Hc
    isplitl [HO]; · iexact HO
    isplitr; · iapply (recs_mayWait A K ιs c (n := 2 + s) (.dma (semOf (recvA d) (par (s + 1)))) s hs (Nat.le_of_eq (lv_recv d _ c s)) (hO.mono (by omega))); iexact Hr
    iexact Hat
  rw [rest_recv A d c s hs]
  iintro ⟨HO, Hat, Hre, Hpay⟩
  iapply Hk
  isplitl [Hpay]; · iexact Hpay
  isplitl [Hat Hre]; · isplitl [Hat] <;> iassumption
  iexists _; iexact HO

/-- A half released after its copy out: the device is ready for one step more. -/
theorem release_step :
    iprop(recs A K ιs ∗ slotAt d (par s) c ∗ readerAt ES (c, d, par s) ((s + 1) / 2) ∗ reached ER (recvCell d (par s) c) ((s + 1) / 2)
        ∗ heard (ready d c) (Finset.range (s + 1)))
      ⊢ (|={Set.univ}=> (readerAt ES (c, d, par s) ((s + 1) / 2 + 1) ∗ heard (ready d c) (Finset.range (s + 2))) : sProp 𝕄) := by
  iintro ⟨#Hr, Hs, Hrd, #Hre, #Hh⟩
  imod (slot_release ES (S := slotAt d (par s) c) (ι := ιs (c, d, par s)) (Set.mem_univ _) (slotAt_excl d (par s) c) ((s + 1) / 2)) $$ [Hs Hrd] with ⟨Hrd, #Hrel⟩
  · isplitr; · iapply (recs_slot A K ιs d (par s) c); iexact Hr
    isplitl [Hrd]; · iexact Hrd
    iexact Hs
  imodintro
  isplitl [Hrd]; · iexact Hrd
  have he : iprop(ready d c (s + 1) ∗ heard (ready d c) (Finset.range (s + 1))) ⊢ (heard (ready d c) (Finset.range (s + 2)) : sProp 𝕄) := by
    rw [Finset.range_add_one (n := s + 1), heard, heard, bigSep_insert Finset.notMem_range_self]
    exact Entails.refl _
  iapply he
  isplitr
  · unfold ready
    rw [par_add_two]
    isplitr; · iexact Hrel
    iexact Hre
  iexact Hh

/-- A credit given to the neighbour on the other side. -/
theorem wp_giveCredit (hs : s < 30) (O : CellTallies nD τ sig ℕ) :
    iprop(recs A K ιs ∗ heard (ready d c) (Finset.range (s + 2)) ∗ reached ER (creditCell d (nbr (!d) c)) 0
        ∗ dutyTok ER (creditCell d (nbr (!d) c)) 0 s ∗ ∃ W, owes (c : Thread nD τ) (O + oweCredit d s c) W)
      ⊢ iprop((iprop(∃ W, owes (c : Thread nD τ) O W) -∗ WP c k Q)
          -∗ WP c (semSignalWord (nbr (!d) c : Dev nD) (creditA d).sem 1#32 >>= fun _ => k) Q) := by
  unfold oweCredit
  rw [if_pos hs]
  iintro ⟨#Hr, #Hh, #Hre, Ht, ⟨%W, HO⟩⟩ Hk
  iapply (Rounds.wp_signal 𝒱₀ ER (Rd A) (c : Thread nD τ) none (dst := (nbr (!d) c : Thread nD τ)) (sem := (creditA d).sem) (r := 0) (d := s)
      (κ := K (creditCell d (nbr (!d) c))) (k' := 1)
      (by rw [duties_credit]; exact Finset.mem_range.mpr hs) (amount_credit A d _ _ _) s O rfl (W := W))
    $$ [HO Ht]
  · isplitr; · iapply (recs_credit A K ιs d (nbr (!d) c)); iexact Hr
    isplitl [HO]; · iexact HO
    isplitl [Ht]; · iexact Ht
    isplitr
    · rw [payload_credit]; unfold creditPay; rw [nbr_nbr']; iexact Hh
    iexact Hre
  iintro HO
  iapply Hk
  iexists W; iexact HO

end Cert.KernelIdeal.Ring
-- ==== Proof.Step.lean ====
/- One step of the two rings, and all of them: what a device holds before a step, it holds before the next. -/
module

public import proofs.«01_k».proof.Proof.Moves

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal
open Facts₀ Facts

variable {F : FTy → Type} [FloatOps F]

local notation "𝕄" => MT nD τ sig ℕ (Elt F) ℕ UU ℕ

/-! ## The operands and the products -/

abbrev pM : Memref sig .tc .smem S1x32 .i32 := Memref.whole cc0_stg0_0
abbrev iM : Memref sig .tc .smem S1x32 .i32 := Memref.whole cc0_stg1_0
abbrev xM : Memref sig .tc .vmem S4096x128 .f32 := Memref.whole cc0_stg2_0
abbrev wM : Memref sig .tc .vmem S128x8192 .f32 := Memref.whole cc0_stg3_0
abbrev oM : Memref sig .tc .vmem S128x8192 .f32 := Memref.whole cc0_stg4_0

/-- A whole buffer of a device at contents `f`. -/
abbrev pt (c : Dev nD) (b : Ref sig .tc) (f : Buf (Elt F) ((c : Thread nD τ).loc b)) : sProp 𝕄 := ((c : Thread nD τ).loc b) ↦{fullShare} f

/-- The words of a table of devices. -/
def words (g : Dev nD → Dev nD) : Vec F S1x32 .i32 := fun i => wd (g (i 1))

/-- The rectangles the products read: the rows of the left operand for a device, and the two halves of the right one. -/
abbrev rX (v : Dev nD) : Rect S4096x128 := Rect.unit (offX (wd v)) S128x128.size (chkX_wd v)
abbrev rLo : Rect S128x8192 := Rect.unit ![0, 0] S128x4096.size inb_S128x8192_S128x4096_0_0
abbrev rHi : Rect S128x8192 := Rect.unit ![0, 4096] S128x4096.size inb_S128x8192_S128x4096_0_4096

/-- What those reads give. -/
def rowsOf (X : Vec F S4096x128 .f32) (v : Dev nD) : Vec F S128x128 .f32 := (xM.access (rX v)).read (Elt F) X
def loOf (W : Vec F S128x8192 .f32) : Vec F S128x4096 .f32 := (wM.access rLo).read (Elt F) W
def hiOf (W : Vec F S128x8192 .f32) : Vec F S128x4096 .f32 := (wM.access rHi).read (Elt F) W

/-- The product of the rows for a device and a half of the right operand's block. -/
def prod (d : Bool) (X : Vec F S4096x128 .f32) (W : Vec F S128x8192 .f32) (v : Dev nD) : FVec F S128x4096 .f32 :=
  matmul dot_S128x128_S128x4096_S128x4096_1_0_0_1_n_n none (shapeCast S128x128 (rowsOf X v) shapeCasts_S128x128_S128x128)
    (shapeCast S128x4096 (match d with | false => loOf W | true => hiOf W) shapeCasts_S128x4096_S128x4096) (constant S128x4096 .f32 0x00000000#32)

section Loads

variable (c : Dev nD) (X : Vec F S4096x128 .f32) (W : Vec F S128x8192 .f32) (v : Dev nD) (h : ChkX (wd v)) (k : FVec F S128x4096 .f32 → P F)
  (Q : PUnit.{1} → sProp (MT nD τ sig ℕ (Elt F) ℕ UU ℕ))

theorem wp_prodLo :
    iprop(pt c cc0_stg2_0 X ∗ pt c cc0_stg3_0 W)
      ⊢ iprop((iprop(pt c cc0_stg2_0 X ∗ pt c cc0_stg3_0 W) -∗ WP c (k (prod false X W v)) Q) -∗ WP c (prodLo xM wM (wd v) h k) Q) := by
  unfold prodLo
  iintro ⟨HX, HW⟩ Hk
  iapply (wp_load_rect 𝒱₀ (c : Thread nD τ) none Set.univ (m := xM) (r := rX v) (Finset.subset_univ _)) $$ HX; iintro HX
  iapply (wp_load_rect 𝒱₀ (c : Thread nD τ) none Set.univ (m := wM) (r := rLo) (Finset.subset_univ _)) $$ HW; iintro HW
  iapply Hk
  isplitl [HX]; · iexact HX
  iexact HW

theorem wp_prodHi :
    iprop(pt c cc0_stg2_0 X ∗ pt c cc0_stg3_0 W)
      ⊢ iprop((iprop(pt c cc0_stg2_0 X ∗ pt c cc0_stg3_0 W) -∗ WP c (k (prod true X W v)) Q) -∗ WP c (prodHi xM wM (wd v) h k) Q) := by
  unfold prodHi
  iintro ⟨HX, HW⟩ Hk
  iapply (wp_load_rect 𝒱₀ (c : Thread nD τ) none Set.univ (m := xM) (r := rX v) (Finset.subset_univ _)) $$ HX; iintro HX
  iapply (wp_load_rect 𝒱₀ (c : Thread nD τ) none Set.univ (m := wM) (r := rHi) (Finset.subset_univ _)) $$ HW; iintro HW
  iapply Hk
  isplitl [HX]; · iexact HX
  iexact HW

omit [FloatOps F] in
/-- A word of the ring's table. -/
theorem words_perm (g : Dev nD → Dev nD) (off : Fin 2 → ℕ) (inb : ∀ a, off a + S1x1.size a ≤ S1x32.size a) (j : Dev nD) (h : off = ![0, j.val])
    (x : S1x1.Idx) :
    ((pM : Memref sig .tc .smem S1x32 .i32).access (Rect.unit (s := S1x32) off S1x1.size inb)).read (Elt F) (words g) x = wd (g j) := by
  subst h
  show wd (g _) = wd (g j)
  congr 2
  apply Fin.ext
  have hx : (x 1).val = 0 := by have : (x 1).val < 1 := (x 1).isLt; omega
  show j.val + 1 * (x 1).val = j.val
  omega

end Loads

/-! ## The halves of the communication buffers -/

section Halves

variable (d : Bool) (p : Fin 2) (c : Dev nD) (v w : FVec F S128x4096 .f32) (k : P F)
  (Q : PUnit.{1} → sProp (MT nD τ sig ℕ (Elt F) ℕ UU ℕ))

/-- A half written over holds what was written. -/
theorem wp_storeHalf :
    slotAt d p c ⊢ iprop((holds d p c v -∗ WP c k Q) -∗ WP c (storeHalf (buf d) p v k) Q) := by
  unfold storeHalf slotAt Release.slot holds
  iintro ⟨%f, H⟩ Hk
  iapply (wp_load_rect 𝒱₀ (c : Thread nD τ) none Set.univ (m := buf d) (r := halfRect p) (half_set (buf d) p).symm.subset) $$ H; iintro H
  iapply (wp_store 𝒱₀ (c : Thread nD τ) none Set.univ (m := buf d) (r := halfRect p) (half_set (buf d) p).symm.subset) $$ H; iintro H
  iapply Hk
  iexists ((buf d).access (halfRect p)).write (Elt F) f (shapeCast S1x128x4096 v shapeCasts_S128x4096_S1x128x4096) Finset.univ
  isplitr; · ipureintro; exact half_read_write (buf d) p c f v
  iexact H

/-- A half read gives what it holds. -/
theorem wp_loadHalf (k : FVec F S128x4096 .f32 → P F) :
    holds d p c w ⊢ iprop((holds d p c w -∗ WP c (k w) Q) -∗ WP c (loadHalf (buf d) p fun a => k (shapeCast S128x4096 a shapeCasts_S1x128x4096_S128x4096)) Q) := by
  unfold loadHalf holds
  iintro ⟨%f, %hf, H⟩ Hk
  iapply (wp_load_rect 𝒱₀ (c : Thread nD τ) none Set.univ (m := buf d) (r := halfRect p) (half_set (buf d) p).symm.subset) $$ H; iintro H
  rw [half_read (buf d) p c, hf]
  iapply Hk
  iexists f
  isplitr; · ipureintro; exact hf
  iexact H

/-- A half with a product added to it. -/
theorem wp_addHalf :
    holds d p c w ⊢ iprop((holds d p c (addf w v) -∗ WP c k Q) -∗ WP c (addHalf (buf d) p v k) Q) := by
  unfold addHalf
  iintro H Hk
  iapply (wp_loadHalf d p c w Q fun a => storeHalf (buf d) p (addf a v) k) $$ H; iintro H
  ihave H := (holds_slotAt d p c w) $$ H
  iapply (wp_storeHalf d p c (addf w v) k Q) $$ H
  iexact Hk

end Halves

/-! ## What a step starts from -/

variable (A : Bool → ℕ → Dev nD → FVec F S128x4096 .f32)
variable (K : GSem nD τ sig → ℕ) (ιs : Key → ℕ) (d : Bool) (s : ℕ) (c : Dev nD) (k : P F) (Q : PUnit.{1} → sProp (MT nD τ sig ℕ (Elt F) ℕ UU ℕ))

/-- The slots as their reader: up to the last step it knows itself ready for the steps before. -/
def ownAt : sProp 𝕄 :=
  if s < 31 then iprop(readerAt ES (c, d, par s) ((s + 1) / 2) ∗ readerAt ES (c, d, par (s + 1)) (s / 2 + 1) ∗ heard (ready d c) (Finset.range (s + 1)))
  else slotAt d (par (s + 1)) c
/-- The right to give the credit of a step. -/
def creditTok : sProp 𝕄 := if s < 30 then dutyTok ER (creditCell d (nbr (!d) c)) 0 s else iprop(emp)

/-- A device in one direction before step `s`: what it has to send, and where its semaphores stand. -/
def dirSt : sProp 𝕄 :=
  iprop(holds d (par s) c (A d s c) ∗ sendAt d (par s) (s / 2) c ∗ sendAt d (par (s + 1)) ((s + 1) / 2) c
    ∗ recvAt d (par (s + 1)) (s / 2) c ∗ recvAt d (par s) ((s + 1) / 2) c ∗ creditAt d s c ∗ ownAt d s c)
/-- What step `s` spends in one direction. -/
def stepToks : sProp 𝕄 :=
  iprop(dutyTok ER (recvCell d (par (s + 1)) (nbr d c)) (s / 2) 0 ∗ dutyTok ER (sendCell d (par s) c) (s / 2) 0
    ∗ writeTok ES (nbr d c, d, par (s + 1)) (s / 2 + 1) ∗ creditTok d s c ∗ cred (tallyAt (recvCell d (par (s + 1)) c) s N)
    ∗ (if s = 0 then iprop(emp) else cred (tallyAt (creditCell d c) (s - 1) 1)))

/-- Before step `s`, but for what the steps spend. -/
def ringSt : sProp 𝕄 := iprop(dirSt A false s c ∗ dirSt A true s c ∗ ∃ W, owes (c : Thread nD τ) (oweFrom c s) W)
/-- What a device is told at the barrier. -/
def told : sProp 𝕄 := iprop(barPay false c ∗ barPay true c)
instance told_persistent : Persistent (told c : sProp 𝕄) := by unfold told; infer_instance

theorem told_ready : told c ⊢ (ready d (nbr d c) 0 : sProp 𝕄) := by
  unfold told barPay
  cases d
  · iintro ⟨⟨H, -⟩, -⟩; iexact H
  · iintro ⟨-, ⟨H, -⟩⟩; iexact H
theorem told_credit : told c ⊢ (reached ER (creditCell d (nbr (!d) c)) 0 : sProp 𝕄) := by
  unfold told barPay
  cases d
  · iintro ⟨-, ⟨-, H⟩⟩; iexact H
  · iintro ⟨⟨-, H⟩, -⟩; iexact H

/-- The half a device sent, and what it takes to release it. -/
def sentSt : sProp 𝕄 := iprop(slotAt d (par s) c ∗ ownAt d s c ∗ reached ER (recvCell d (par s) c) ((s + 1) / 2) ∗ creditTok d s c)

/-- The release of the half sent, and the credits. -/
theorem wp_giveCredits (hs : s < 31) (O : CellTallies nD τ sig ℕ) :
    iprop(recs A K ιs ∗ told c ∗ sentSt false s c ∗ sentSt true s c ∗ ∃ W, owes (c : Thread nD τ) (O + (oweCredit true s c + oweCredit false s c)) W)
      ⊢ iprop((iprop(ownAt false (s + 1) c ∗ ownAt true (s + 1) c ∗ ∃ W, owes (c : Thread nD τ) O W) -∗ WP c k Q)
          -∗ WP c (giveCredits (creditA false) (creditA true) s (nbr true c) (nbr false c) k) Q) := by
  unfold giveCredits sentSt ownAt creditTok
  by_cases h : s < 30
  · rw [if_pos h, if_pos h, if_pos h, if_pos hs, if_pos hs, if_pos (by omega), if_pos (by omega), ← add_assoc, par_add_two]
    iintro ⟨#Hr, #Ht, ⟨Hs1, ⟨Ho1, Hn1, Hh1⟩, Hre1, Hc1⟩, ⟨Hs2, ⟨Ho2, Hn2, Hh2⟩, Hre2, Hc2⟩, HO⟩ Hk
    imod (release_step A K ιs false s c) $$ [Hs1 Ho1 Hre1 Hh1] with ⟨Ho1, #Hh1⟩
    · isplitr; · iexact Hr
      isplitl [Hs1]; · iexact Hs1
      isplitl [Ho1]; · iexact Ho1
      isplitl [Hre1] <;> iassumption
    imod (release_step A K ιs true s c) $$ [Hs2 Ho2 Hre2 Hh2] with ⟨Ho2, #Hh2⟩
    · isplitr; · iexact Hr
      isplitl [Hs2]; · iexact Hs2
      isplitl [Ho2]; · iexact Ho2
      isplitl [Hre2] <;> iassumption
    iapply (wp_giveCredit A K ιs false s c _ Q h (O + oweCredit true s c)) $$ [Hc1 HO]
    · isplitr; · iexact Hr
      isplitr; · iexact Hh1
      isplitr; · iapply (told_credit false c); iexact Ht
      isplitl [Hc1]; · iexact Hc1
      iexact HO
    iintro HO
    iapply (wp_giveCredit A K ιs true s c _ Q h O) $$ [Hc2 HO]
    · isplitr; · iexact Hr
      isplitr; · iexact Hh2
      isplitr; · iapply (told_credit true c); iexact Ht
      isplitl [Hc2]; · iexact Hc2
      iexact HO
    iintro HO
    iapply Hk
    have e : (s + 1) / 2 + 1 = (s + 1 + 2) / 2 := by omega
    isplitl [Hn1 Ho1]
    · isplitl [Hn1]; · rw [show s / 2 + 1 = (s + 1 + 1) / 2 by omega]; iexact Hn1
      isplitl [Ho1]; · iexact Ho1
      iexact Hh1
    isplitl [Hn2 Ho2]
    · isplitl [Hn2]; · rw [show s / 2 + 1 = (s + 1 + 1) / 2 by omega]; iexact Hn2
      isplitl [Ho2]; · iexact Ho2
      iexact Hh2
    iexact HO
  · have h' : ¬ s + 1 < 31 := by omega
    unfold oweCredit
    simp only [if_neg h, if_neg h', if_pos hs, add_zero, par_add_two]
    iintro ⟨-, -, ⟨Hs1, -, -, -⟩, ⟨Hs2, -, -, -⟩, HO⟩ Hk
    iapply Hk
    isplitl [Hs1]; · iexact Hs1
    isplitl [Hs2]; · iexact Hs2
    iexact HO

/-! ## The products of a step -/

/-- The staged operands: the ring's table and the two blocks. -/
def opsPt (X : Vec F S4096x128 .f32) (W : Vec F S128x8192 .f32) (c : Dev nD) : sProp 𝕄 :=
  iprop(pt c cc0_stg0_0 (words (F := F) perm) ∗ pt c cc0_stg2_0 X ∗ pt c cc0_stg3_0 W)

variable (X : Vec F S4096x128 .f32) (W : Vec F S128x8192 .f32) (h4 : RowOk (wd (pos c)))

theorem wp_stepProdR (hs : s < 31) (k : FVec F S128x4096 .f32 → P F) :
    opsPt X W c ⊢ iprop((opsPt X W c -∗ WP c (k (prod false X W (dest false s c))) Q) -∗ WP c (stepProdR pM xM wM (wd (pos c)) h4 s hs k) Q) := by
  unfold stepProdR opsPt dest
  simp only [smemLoad, smemLoadElt, Prog.bind_op, Prog.bind_ret]
  iintro ⟨HP, HX, HW⟩ Hk
  iapply (wp_load_rect 𝒱₀ (c : Thread nD τ) none Set.univ (m := pM) (r := Rect.unit (s := S1x32) (offR (wd (pos c)) s) S1x1.size (h4 s hs).1) (Finset.subset_univ _)) $$ HP; iintro HP
  rw [words_perm perm _ _ ⟨((pos c).val + 62 - s) % 32, Nat.mod_lt _ (by decide)⟩ (offR_wd (pos c) s hs),
    wp_assume_of _ _ _ _ (d := ChkX.dec _) (chkX_wd _)]
  iapply (wp_prodLo c X W _ (chkX_wd _) k Q) $$ [HX HW]
  · isplitl [HX] <;> iassumption
  iintro ⟨HX, HW⟩
  iapply Hk
  isplitl [HP]; · iexact HP
  isplitl [HX] <;> iassumption

theorem wp_stepProdL (hs : s < 31) (k : FVec F S128x4096 .f32 → P F) :
    opsPt X W c ⊢ iprop((opsPt X W c -∗ WP c (k (prod true X W (dest true s c))) Q) -∗ WP c (stepProdL pM xM wM (wd (pos c)) h4 s hs k) Q) := by
  unfold stepProdL opsPt dest
  simp only [smemLoad, smemLoadElt, Prog.bind_op, Prog.bind_ret]
  iintro ⟨HP, HX, HW⟩ Hk
  iapply (wp_load_rect 𝒱₀ (c : Thread nD τ) none Set.univ (m := pM) (r := Rect.unit (s := S1x32) (offL (wd (pos c)) s) S1x1.size (h4 s hs).2) (Finset.subset_univ _)) $$ HP; iintro HP
  rw [words_perm perm _ _ ⟨((pos c).val + 2 + s) % 32, Nat.mod_lt _ (by decide)⟩ (offL_wd (pos c) s hs),
    wp_assume_of _ _ _ _ (d := ChkX.dec _) (chkX_wd _)]
  iapply (wp_prodHi c X W _ (chkX_wd _) k Q) $$ [HX HW]
  · isplitl [HX] <;> iassumption
  iintro ⟨HX, HW⟩
  iapply Hk
  isplitl [HP]; · iexact HP
  isplitl [HX] <;> iassumption

/-! ## The steps -/

/-- What a semaphore's standing consists of. -/
theorem sendAt_open (d : Bool) (p : Fin 2) (r : ℕ) (c : Dev nD) :
    sendAt d p r c ⊢ (iprop(atPos ER (sendCell d p c) r ∅ 0 ∗ reached ER (sendCell d p c) r) : sProp 𝕄) := by
  unfold sendAt; exact Entails.refl _
theorem recvAt_open (d : Bool) (p : Fin 2) (r : ℕ) (c : Dev nD) :
    recvAt d p r c ⊢ (iprop(atPos ER (recvCell d p c) r ∅ 0 ∗ reached ER (recvCell d p c) r) : sProp 𝕄) := by
  unfold recvAt; exact Entails.refl _
/-- The round reached, with the standing kept. -/
theorem recvAt_reached (d : Bool) (p : Fin 2) (r : ℕ) (c : Dev nD) :
    recvAt d p r c ⊢ (iprop(recvAt d p r c ∗ reached ER (recvCell d p c) r) : sProp 𝕄) := by
  unfold recvAt
  iintro ⟨H, #Hr⟩
  isplitl [H]
  · isplitl [H]; · iexact H
    iexact Hr
  iexact Hr

/-- One step. -/
theorem wp_step (hs : s < 31)
    (hA : ∀ d, A d (s + 1) c = addf (A d s (nbr (!d) c)) (prod d X W (dest d s c))) :
    iprop(recs A K ιs ∗ told c ∗ opsPt X W c ∗ ringSt A s c ∗ stepToks false s c ∗ stepToks true s c)
      ⊢ iprop((iprop(opsPt X W c ∗ ringSt A (s + 1) c) -∗ WP c k Q)
          -∗ WP c (step pM xM wM (buf false) (buf true) (sendA false) (recvA false) (sendA true) (recvA true) (creditA false) (creditA true)
              (wd (pos c)) h4 (nbr true c) (nbr false c) s hs k) Q) := by
  unfold step ringSt dirSt stepToks
  rw [oweFrom_succ c hs]
  unfold oweStep
  rw [← add_assoc, ← add_assoc]
  have a1 : Above (2 + (s + 1)) (oweFrom c (s + 1)) := above_from c (s + 1)
  have a2 : Above (2 + s) (oweFrom c (s + 1) + (oweCredit true s c + oweCredit false s c)) :=
    (a1.mono (by omega)).add ((above_credit true c hs).add (above_credit false c hs))
  have a3 := a2.add (above_recv true c hs)
  have a4 := a3.add (above_recv false c hs)
  iintro ⟨#Hr, #Ht, Hops, ⟨⟨Hh1, Hsa1, Hsb1, Hra1, Hrb1, Hc1, Ho1⟩, ⟨Hh2, Hsa2, Hsb2, Hra2, Hrb2, Hc2, Ho2⟩, HO⟩,
    ⟨Htr1, Hts1, Htw1, Htc1, Hcr1, Hcc1⟩, ⟨Htr2, Hts2, Htw2, Htc2, Hcr2, Hcc2⟩⟩ Hk
  ihave ⟨Hsa1, Hsr1⟩ := (sendAt_open false (par s) (s / 2) c) $$ Hsa1
  ihave ⟨Hsa2, Hsr2⟩ := (sendAt_open true (par s) (s / 2) c) $$ Hsa2
  ihave ⟨Hra1, Hrr1⟩ := (recvAt_open false (par (s + 1)) (s / 2) c) $$ Hra1
  ihave ⟨Hra2, Hrr2⟩ := (recvAt_open true (par (s + 1)) (s / 2) c) $$ Hra2
  ihave ⟨Hrb1, #Hrc1⟩ := (recvAt_reached false (par s) ((s + 1) / 2) c) $$ Hrb1
  ihave ⟨Hrb2, #Hrc2⟩ := (recvAt_reached true (par s) ((s + 1) / 2) c) $$ Hrb2
  -- the copy to the right goes out
  iapply (wp_awaitCredit A K ιs false s c _ Q hs _ a4) $$ [Hc1 Hcc1 HO]
  · isplitr; · iexact Hr
    isplitl [Hc1]; · iexact Hc1
    isplitr; · iapply (told_ready false c); iexact Ht
    isplitl [Hcc1] <;> iassumption
  iintro ⟨Hc1, #Hrd1, HO⟩
  iapply (wp_sendHalf A K ιs false s c _ Q hs _) $$ [Hh1 Htw1 Hts1 Hsr1 Htr1 HO]
  · isplitr; · iexact Hr
    isplitl [Hh1]; · iexact Hh1
    isplitr; · iexact Hrd1
    isplitl [Htw1]; · iexact Htw1
    isplitl [Hts1]; · iexact Hts1
    isplitl [Hsr1]; · iexact Hsr1
    isplitl [Htr1] <;> iassumption
  iintro ⟨Hcs1, HO⟩
  -- the copy to the left goes out
  iapply (wp_awaitCredit A K ιs true s c _ Q hs _ a3) $$ [Hc2 Hcc2 HO]
  · isplitr; · iexact Hr
    isplitl [Hc2]; · iexact Hc2
    isplitr; · iapply (told_ready true c); iexact Ht
    isplitl [Hcc2] <;> iassumption
  iintro ⟨Hc2, #Hrd2, HO⟩
  iapply (wp_sendHalf A K ιs true s c _ Q hs _) $$ [Hh2 Htw2 Hts2 Hsr2 Htr2 HO]
  · isplitr; · iexact Hr
    isplitl [Hh2]; · iexact Hh2
    isplitr; · iexact Hrd2
    isplitl [Htw2]; · iexact Htw2
    isplitl [Hts2]; · iexact Hts2
    isplitl [Hsr2]; · iexact Hsr2
    isplitl [Htr2] <;> iassumption
  iintro ⟨Hcs2, HO⟩
  -- the products
  iapply (wp_stepProdR s c Q X W h4 hs) $$ Hops
  iintro Hops
  iapply (wp_stepProdL s c Q X W h4 hs) $$ Hops
  iintro Hops
  -- the copies out are waited for
  iapply (wp_waitSend A K ιs false s c _ Q hs _ (a2.mono (by omega))) $$ [Hcs1 Hsa1 HO]
  · isplitr; · iexact Hr
    isplitl [Hcs1]; · iexact Hcs1
    isplitl [Hsa1] <;> iassumption
  iintro ⟨Hsl1, Hsa1, HO⟩
  iapply (wp_waitSend A K ιs true s c _ Q hs _ (a2.mono (by omega))) $$ [Hcs2 Hsa2 HO]
  · isplitr; · iexact Hr
    isplitl [Hcs2]; · iexact Hcs2
    isplitl [Hsa2] <;> iassumption
  iintro ⟨Hsl2, Hsa2, HO⟩
  -- the halves sent are released
  iapply (wp_giveCredits A K ιs s c _ Q hs (oweFrom c (s + 1))) $$ [Hsl1 Ho1 Htc1 Hsl2 Ho2 Htc2 HO]
  · isplitr; · iexact Hr
    isplitr; · iexact Ht
    unfold sentSt
    isplitl [Hsl1 Ho1 Htc1]
    · isplitl [Hsl1]; · iexact Hsl1
      isplitl [Ho1]; · iexact Ho1
      isplitr; · iexact Hrc1
      iexact Htc1
    isplitl [Hsl2 Ho2 Htc2]
    · isplitl [Hsl2]; · iexact Hsl2
      isplitl [Ho2]; · iexact Ho2
      isplitr; · iexact Hrc2
      iexact Htc2
    iexact HO
  iintro ⟨Ho1, Ho2, HO⟩
  -- the copies in are waited for, and the products added
  iapply (wp_waitRecv A K ιs false s c _ Q hs _ a1) $$ [Hcr1 Hra1 HO]
  · isplitr; · iexact Hr
    isplitl [Hcr1]; · iexact Hcr1
    isplitl [Hra1] <;> iassumption
  iintro ⟨Hh1, Hra1, HO⟩
  iapply (wp_addHalf false (par (s + 1)) c _ _ _ Q) $$ Hh1
  iintro Hh1
  iapply (wp_waitRecv A K ιs true s c _ Q hs _ a1) $$ [Hcr2 Hra2 HO]
  · isplitr; · iexact Hr
    isplitl [Hcr2]; · iexact Hcr2
    isplitl [Hra2] <;> iassumption
  iintro ⟨Hh2, Hra2, HO⟩
  iapply (wp_addHalf true (par (s + 1)) c _ _ _ Q) $$ Hh2
  iintro Hh2
  iapply Hk
  isplitl [Hops]; · iexact Hops
  rw [hA false, hA true, par_add_two, show (s + 1 + 1) / 2 = s / 2 + 1 by omega]
  isplitl [Hh1 Hsa1 Hsb1 Hra1 Hrb1 Hc1 Ho1]
  · isplitl [Hh1]; · iexact Hh1
    isplitl [Hsb1]; · iexact Hsb1
    isplitl [Hsa1]; · iexact Hsa1
    isplitl [Hrb1]; · iexact Hrb1
    isplitl [Hra1]; · iexact Hra1
    isplitl [Hc1]; · iexact Hc1
    iexact Ho1
  isplitl [Hh2 Hsa2 Hsb2 Hra2 Hrb2 Hc2 Ho2]
  · isplitl [Hh2]; · iexact Hh2
    isplitl [Hsb2]; · iexact Hsb2
    isplitl [Hsa2]; · iexact Hsa2
    isplitl [Hrb2]; · iexact Hrb2
    isplitl [Hra2]; · iexact Hra2
    isplitl [Hc2]; · iexact Hc2
    iexact Ho2
  iexact HO

/-- The first `n` steps: what they spend is at hand for each. -/
theorem wp_steps (n : ℕ) (hn : n ≤ 31)
    (hA : ∀ d s, s < 31 → A d (s + 1) c = addf (A d s (nbr (!d) c)) (prod d X W (dest d s c))) :
    iprop(recs A K ιs ∗ told c ∗ opsPt X W c ∗ ringSt A 0 c ∗ bigSep (Finset.range n) (fun s => iprop(stepToks false s c ∗ stepToks true s c)))
      ⊢ iprop((iprop(opsPt X W c ∗ ringSt A n c) -∗ WP c k Q)
          -∗ WP c (steps pM xM wM (buf false) (buf true) (sendA false) (recvA false) (sendA true) (recvA true) (creditA false) (creditA true)
              (wd (pos c)) h4 (nbr true c) (nbr false c) n hn k) Q) := by
  induction n generalizing k with
  | zero =>
    unfold steps
    iintro ⟨-, -, Hops, Hst, -⟩ Hk
    iapply Hk
    isplitl [Hops] <;> iassumption
  | succ n ih =>
    unfold steps
    have hb : bigSep (Finset.range (n + 1)) (fun s => iprop(stepToks false s c ∗ stepToks true s c))
        ⊢ (iprop((stepToks false n c ∗ stepToks true n c) ∗ bigSep (Finset.range n) (fun s => iprop(stepToks false s c ∗ stepToks true s c))) : sProp 𝕄) := by
      rw [Finset.range_add_one, bigSep_insert Finset.notMem_range_self]; exact Entails.refl _
    iintro ⟨#Hr, #Ht, Hops, Hst, Htks⟩ Hk
    ihave ⟨⟨Htk1, Htk2⟩, Htks⟩ := hb $$ Htks
    iapply (ih _ (Nat.le_of_succ_le hn)) $$ [Hops Hst Htks]
    · isplitr; · iexact Hr
      isplitr; · iexact Ht
      isplitl [Hops]; · iexact Hops
      isplitl [Hst] <;> iassumption
    iintro ⟨Hops, Hst⟩
    iapply (wp_step A K ιs n c k Q X W h4 hn (fun d => hA d n hn)) $$ [Hops Hst Htk1 Htk2]
    · isplitr; · iexact Hr
      isplitr; · iexact Ht
      isplitl [Hops]; · iexact Hops
      isplitl [Hst]; · iexact Hst
      isplitl [Htk1] <;> iassumption
    iexact Hk

end Cert.KernelIdeal.Ring
-- ==== Proof.Around.lean ====
/- What surrounds the steps: the words read at the entry, the barrier, the first products, and the result. -/
module

public import proofs.«01_k».proof.Proof.Step

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal
open Facts₀ Facts

variable {F : FTy → Type} [FloatOps F]

local notation "𝕄" => MT nD τ sig ℕ (Elt F) ℕ UU ℕ

variable (A : Bool → ℕ → Dev nD → FVec F S128x4096 .f32)
variable (K : GSem nD τ sig → ℕ) (ιs : Key → ℕ) (d : Bool) (c : Dev nD) (k : P F) (Q : PUnit.{1} → sProp (MT nD τ sig ℕ (Elt F) ℕ UU ℕ))
variable (X : Vec F S4096x128 .f32) (W : Vec F S128x8192 .f32)

/-! ## The entry -/

omit [FloatOps F] in
/-- A word of the inverse table. -/
theorem words_inv (g : Dev nD → Dev nD) (off : Fin 2 → ℕ) (inb : ∀ a, off a + S1x1.size a ≤ S1x32.size a) (j : Dev nD) (h : off = ![0, j.val])
    (x : S1x1.Idx) :
    ((iM : Memref sig .tc .smem S1x32 .i32).access (Rect.unit (s := S1x32) off S1x1.size inb)).read (Elt F) (words g) x = wd (g j) :=
  words_perm g off inb j h x

/-- The entry reads the device's place, and the devices a place to the left and to the right of it. -/
theorem wp_enter (k : (v4 : BitVec 32) → RowOk v4 → (v9 : BitVec 32) → k0_chk2 v9 → (v13 : BitVec 32) → k0_chk3 v13 → P F) :
    iprop(pt c cc0_stg0_0 (words (F := F) perm) ∗ pt c cc0_stg1_0 (words (F := F) pos))
      ⊢ iprop((iprop(pt c cc0_stg0_0 (words (F := F) perm) ∗ pt c cc0_stg1_0 (words (F := F) pos))
            -∗ WP c (k (wd (pos c)) (rowOk_of_chk _ (chk1_wd _)) (wd (nbr true c)) (chk2_wd _) (wd (nbr false c)) (chk3_wd _)) Q)
          -∗ WP c (enter pM iM k) Q) := by
  unfold enter
  simp only [smemLoad, smemLoadElt, Prog.bind_op, Prog.bind_ret, wp_deviceId]
  iintro ⟨HP, HI⟩ Hk
  iapply (wp_load_rect 𝒱₀ (c : Thread nD τ) none Set.univ (m := iM) (r := Rect.unit (s := S1x32) (k0_off1 c) S1x1.size (k0_off1_inb c)) (Finset.subset_univ _)) $$ HI; iintro HI
  rw [words_inv pos _ _ c (off1_eq c), wp_assume_of _ _ _ _ (d := k0_chk1.dec _) (chk1_wd _)]
  iapply (wp_load_rect 𝒱₀ (c : Thread nD τ) none Set.univ (m := pM) (r := Rect.unit (s := S1x32) (k0_off2 (wd (pos c))) S1x1.size (k0_off2_inb _ (chk1_wd _))) (Finset.subset_univ _)) $$ HP; iintro HP
  rw [words_perm perm _ _ _ (off2_wd (pos c)), wp_assume_of _ _ _ _ (d := k0_chk2.dec _) (chk2_wd _)]
  iapply (wp_load_rect 𝒱₀ (c : Thread nD τ) none Set.univ (m := pM) (r := Rect.unit (s := S1x32) (k0_off3 (wd (pos c))) S1x1.size (k0_off3_inb _ (chk1_wd _))) (Finset.subset_univ _)) $$ HP; iintro HP
  rw [words_perm perm _ _ _ (off3_wd (pos c)), wp_assume_of _ _ _ _ (d := k0_chk3.dec _) (chk3_wd _)]
  iapply Hk
  isplitl [HP] <;> iassumption

/-! ## The barrier -/

/-- One direction as the kernel begins: where the semaphores stand, and the slots as their reader. -/
def dirPre : sProp 𝕄 :=
  iprop(sendAt d 0 0 c ∗ sendAt d 1 0 c ∗ recvAt d 1 0 c ∗ recvAt d 0 0 c
    ∗ (atPos ER (creditCell d c) 0 ∅ 0 ∗ reached ER (creditCell d c) 0) ∗ readerAt ES (c, d, 0) 0 ∗ readerAt ES (c, d, 1) 0)
/-- One direction before the first step, but for what it has to send. -/
def dirMid : sProp 𝕄 :=
  iprop(sendAt d 0 0 c ∗ sendAt d 1 0 c ∗ recvAt d 1 0 c ∗ recvAt d 0 0 c ∗ creditAt d 0 c ∗ ownAt d 0 c)

/-- The second half released: the device is ready for the first copy. -/
theorem dir_open :
    iprop(recs A K ιs ∗ dirPre d c ∗ slotAt d 1 c)
      ⊢ (|={Set.univ}=> (dirMid d c ∗ ready d c 0 ∗ reached ER (creditCell d c) 0) : sProp 𝕄) := by
  unfold dirPre dirMid creditAt ownAt
  rw [if_pos (by decide), if_pos (by decide)]
  iintro ⟨#Hr, ⟨Hs0, Hs1, Hr1, Hr0, ⟨Hc, #Hcr⟩, Hq0, Hq1⟩, Hsl⟩
  ihave ⟨Hr1, #Hre⟩ := (recvAt_reached d 1 0 c) $$ Hr1
  imod (slot_release ES (S := slotAt d 1 c) (ι := ιs (c, d, 1)) (Set.mem_univ _) (slotAt_excl d 1 c) 0) $$ [Hsl Hq1] with ⟨Hq1, #Hrel⟩
  · isplitr; · iapply (recs_slot A K ιs d 1 c); iexact Hr
    isplitl [Hq1]; · iexact Hq1
    iexact Hsl
  imodintro
  have hrd : iprop(released ES (c, d, 1) (0 + 1) ∗ reached ER (recvCell d 1 c) 0) ⊢ (ready d c 0 : sProp 𝕄) := by
    unfold ready; exact Entails.refl _
  ihave #Hrdy := hrd $$ []
  · isplitr; · iexact Hrel
    iexact Hre
  isplitl
  · isplitl [Hs0]; · iexact Hs0
    isplitl [Hs1]; · iexact Hs1
    isplitl [Hr1]; · iexact Hr1
    isplitl [Hr0]; · iexact Hr0
    isplitl [Hc]
    · iexists ∅
      isplitl [Hc]; · iexact Hc
      rw [bigSep_empty]; iempintro
    isplitl [Hq0]; · iexact Hq0
    isplitl [Hq1]; · iexact Hq1
    rw [show Finset.range (0 + 1) = {0} from rfl]
    unfold heard
    rw [bigSep_singleton]
    iexact Hrdy
  isplitr; · iexact Hrdy
  iexact Hcr

/-- With what it has to send a direction is before its first step. -/
theorem dir_start : iprop(holds d 0 c (A d 0 c) ∗ dirMid d c) ⊢ (dirSt A d 0 c : sProp 𝕄) := by
  unfold dirMid dirSt; exact Entails.refl _

/-- What a device owes at the launch: the steps', and a signal on each neighbour's barrier. -/
def O₀ : CellTallies nD τ sig ℕ := oweFrom c 0 + tallyAt (barCell (nbr false c)) 0 1 + tallyAt (barCell (nbr true c)) 0 1

/-- The barrier: both neighbours are told that the device is ready, and both are heard. -/
theorem wp_barrier :
    iprop(recs A K ιs ∗ (ready false c 0 ∗ reached ER (creditCell false c) 0) ∗ (ready true c 0 ∗ reached ER (creditCell true c) 0)
        ∗ atPos ER (barCell c) 0 ∅ 0 ∗ reached ER (barCell (nbr true c)) 0 ∗ reached ER (barCell (nbr false c)) 0
        ∗ dutyTok ER (barCell (nbr true c)) 0 0 ∗ dutyTok ER (barCell (nbr false c)) 0 1
        ∗ cred (tallyAt (barCell c) 0 2) ∗ ∃ W, owes (c : Thread nD τ) (O₀ c) W)
      ⊢ iprop((iprop(told c ∗ atPos ER (barCell c) 1 ∅ 0 ∗ ∃ W, owes (c : Thread nD τ) (oweFrom c 0) W) -∗ WP c k Q)
          -∗ WP c (barrier (nbr true c) (nbr false c) k) Q) := by
  unfold barrier O₀
  iintro ⟨#Hr, ⟨#Hy1, #Hc1⟩, ⟨#Hy2, #Hc2⟩, Hat, #Hb1, #Hb2, Ht1, Ht2, Hcr, ⟨%W, HO⟩⟩ Hk
  iapply (Rounds.wp_signal 𝒱₀ ER (Rd A) (c : Thread nD τ) none (dst := (nbr true c : Thread nD τ)) (sem := barS) (r := 0) (d := 0)
      (κ := K (barCell (nbr true c))) (k' := 1)
      (by rw [duties_bar]; decide) (amount_bar A _ _ _) 0 (oweFrom c 0 + tallyAt (barCell (nbr false c)) 0 1) rfl (W := W)) $$ [HO Ht1]
  · isplitr; · iapply (recs_bar A K ιs (nbr true c)); iexact Hr
    isplitl [HO]; · iexact HO
    isplitl [Ht1]; · iexact Ht1
    isplitr
    · have hp : iprop(ready false c 0 ∗ reached ER (creditCell true c) 0) ⊢ ((Rd A).payload (barCell (nbr true c)) 0 0 : sProp 𝕄) := by
        rw [payload_bar, show decide ((0 : ℕ) = 1) = false from rfl, barPay, show nbr false (nbr true c) = c from nbr_nbr true c]
        exact Entails.refl _
      iapply hp
      isplitr; · iexact Hy1
      iexact Hc2
    iexact Hb1
  iintro HO
  iapply (Rounds.wp_signal 𝒱₀ ER (Rd A) (c : Thread nD τ) none (dst := (nbr false c : Thread nD τ)) (sem := barS) (r := 0) (d := 1)
      (κ := K (barCell (nbr false c))) (k' := 1)
      (by rw [duties_bar]; decide) (amount_bar A _ _ _) 0 (oweFrom c 0) rfl (W := W)) $$ [HO Ht2]
  · isplitr; · iapply (recs_bar A K ιs (nbr false c)); iexact Hr
    isplitl [HO]; · iexact HO
    isplitl [Ht2]; · iexact Ht2
    isplitr
    · have hp : iprop(ready true c 0 ∗ reached ER (creditCell false c) 0) ⊢ ((Rd A).payload (barCell (nbr false c)) 0 1 : sProp 𝕄) := by
        rw [payload_bar, show decide ((1 : ℕ) = 1) = true from rfl, barPay, show nbr true (nbr false c) = c from nbr_nbr false c]
        exact Entails.refl _
      iapply hp
      isplitr; · iexact Hy2
      iexact Hc1
    iexact Hb2
  iintro HO
  iapply (Rounds.wp_wait_rest_token 𝒱₀ ER (Rd A) (c : Thread nD τ) none (κ := K (barCell c))
    (wpE_semWait_eq 𝒱₀ (c : Thread nD τ) none Set.univ) (Set.mem_univ _) 0 (O := oweFrom c 0) (W := W) (R := 0) (m := 0) (T := ∅)
    ((Nat.zero_add 2).trans (expect_bar A c).symm)) $$ [Hcr HO Hat]
  · isplitr; · iapply (recs_bar A K ιs c); iexact Hr
    isplitl [Hcr]; · iexact Hcr
    isplitl [HO]; · iexact HO
    isplitr
    · iapply (recs_mayWait A K ιs c (n := 1) (.reg barS) 0 (by decide) (Nat.le_of_eq (lv_bar c 0)) (above_from c 0)); iexact Hr
    iexact Hat
  rw [rest_bar A c]
  iintro ⟨HO, Hat, -, Hpay⟩
  iapply Hk
  isplitl [Hpay]; · unfold told; iexact Hpay
  isplitl [Hat]; · iexact Hat
  iexists _; iexact HO

/-! ## The first products -/

theorem wp_begin (hl : ChkX (wd (nbr true c))) (hr : ChkX (wd (nbr false c))) :
    iprop(slotAt false 0 c ∗ slotAt true 0 c ∗ opsPt X W c)
      ⊢ iprop((iprop(holds false 0 c (prod false X W (nbr true c)) ∗ holds true 0 c (prod true X W (nbr false c)) ∗ opsPt X W c) -∗ WP c k Q)
          -∗ WP c (begin xM wM (buf false) (buf true) (wd (nbr true c)) hl (wd (nbr false c)) hr k) Q) := by
  unfold begin opsPt
  iintro ⟨H0, H1, HP, HX, HW⟩ Hk
  iapply (wp_prodLo c X W _ _ _ Q) $$ [HX HW]
  · isplitl [HX] <;> iassumption
  iintro ⟨HX, HW⟩
  iapply (wp_storeHalf false 0 c _ _ Q) $$ H0; iintro H0
  iapply (wp_prodHi c X W _ _ _ Q) $$ [HX HW]
  · isplitl [HX] <;> iassumption
  iintro ⟨HX, HW⟩
  iapply (wp_storeHalf true 0 c _ _ Q) $$ H1; iintro H1
  iapply Hk
  isplitl [H0]; · iexact H0
  isplitl [H1]; · iexact H1
  isplitl [HP]; · iexact HP
  isplitl [HX] <;> iassumption

/-! ## The semaphores at the end -/

/-- All of a direction's semaphores at zero. -/
def semsZero : sProp 𝕄 :=
  iprop(semVal (sendCell d 0 c) 0 ∗ semVal (sendCell d 1 c) 0 ∗ semVal (recvCell d 0 c) 0 ∗ semVal (recvCell d 1 c) 0 ∗ semVal (creditCell d c) 0)

/-- A semaphore that no later round uses is given back at zero. -/
theorem cell_done (sm : SemLoc sig) (h : kind sm ≠ .none) (r : ℕ) (hd : ∀ r', r ≤ r' → (Rd A).duties ((c : Thread nD τ), sm) r' = ∅) :
    iprop(recs A K ιs ∗ atPos ER ((c : Thread nD τ), sm) r ∅ 0) ⊢ (|={Set.univ}=> semVal ((c : Thread nD τ), sm) 0 : sProp 𝕄) := by
  have hc : iprop(cellInv ER (Rd A) (K ((c : Thread nD τ), sm)) ((c : Thread nD τ), sm) ∗ atPos ER ((c : Thread nD τ), sm) r ∅ 0)
      ⊢ (|={Set.univ}=> semVal ((c : Thread nD τ), sm) 0 : sProp 𝕄) :=
    Rounds.cell_close ER (Rd A) (Set.mem_univ _) id hd
  iintro ⟨#Hr, H⟩
  iapply hc
  isplitr; · iapply (recs_cell A K ιs c sm h); iexact Hr
  iexact H

/-- After the last step a direction holds its sum, its other half, and all its semaphores at zero. -/
theorem dir_close :
    iprop(recs A K ιs ∗ dirSt A d 31 c) ⊢ (|={Set.univ}=> (holds d 1 c (A d 31 c) ∗ slotAt d 0 c ∗ semsZero d c) : sProp 𝕄) := by
  unfold dirSt sendAt recvAt creditAt ownAt semsZero
  rw [if_neg (by decide), if_neg (by decide), show par 31 = 1 from rfl, show par (31 + 1) = 0 from rfl]
  iintro ⟨#Hr, Hh, ⟨Hs1, -⟩, ⟨Hs0, -⟩, ⟨Hr0, -⟩, ⟨Hr1, -⟩, Hc, Hsl⟩
  imod (cell_done A K ιs c (.dma (semOf (sendA d) 0)) (by rw [kind_send]; exact nofun) _ (later_send A d 0 c 16 (by decide))) $$ [Hs0] with Hs0
  · isplitr; · iexact Hr
    iexact Hs0
  imod (cell_done A K ιs c (.dma (semOf (sendA d) 1)) (by rw [kind_send]; exact nofun) _ (later_send A d 1 c 15 (by decide))) $$ [Hs1] with Hs1
  · isplitr; · iexact Hr
    iexact Hs1
  imod (cell_done A K ιs c (.dma (semOf (recvA d) 0)) (by rw [kind_recv]; exact nofun) _ (later_recv A d 0 c 15 (by decide))) $$ [Hr0] with Hr0
  · isplitr; · iexact Hr
    iexact Hr0
  imod (cell_done A K ιs c (.dma (semOf (recvA d) 1)) (by rw [kind_recv]; exact nofun) _ (later_recv A d 1 c 16 (by decide))) $$ [Hr1] with Hr1
  · isplitr; · iexact Hr
    iexact Hr1
  imod (cell_done A K ιs c (.reg (creditA d).sem) (by rw [kind_credit]; exact nofun) _ (later_credit A d c)) $$ [Hc] with Hc
  · isplitr; · iexact Hr
    iexact Hc
  imodintro
  isplitl [Hh]; · iexact Hh
  isplitl [Hsl]; · iexact Hsl
  isplitl [Hs0]; · iexact Hs0
  isplitl [Hs1]; · iexact Hs1
  isplitl [Hr0]; · iexact Hr0
  isplitl [Hr1]; · iexact Hr1
  iexact Hc

/-! ## The result -/

/-- The activation. -/
def act (a : FVec F S128x4096 .f32) : FVec F S128x4096 .f32 := mulf a (logistic a)

/-- An index of a half. -/
def ix (r : Fin 128) (j : Fin 4096) : S128x4096.Idx := fun a => match a with | 0 => r | 1 => j

/-- The result block: the two halves side by side. -/
def outOf (a b : FVec F S128x4096 .f32) : Vec F S128x8192 .f32 := fun i =>
  if h : (i 1).val < 4096 then a (ix (i 0) ⟨(i 1).val, h⟩)
  else b (ix (i 0) ⟨(i 1).val - 4096, by have : (i 1).val < 8192 := (i 1).isLt; omega⟩)

/-- Both halves written give the result block, whatever was there. -/
theorem write_out (f : Buf (Elt F) ((c : Thread nD τ).loc cc0_stg4_0)) (a b : FVec F S128x4096 .f32) :
    (oM.access rHi).write (Elt F) ((oM.access rLo).write (Elt F) f a Finset.univ) b Finset.univ = outOf a b := by
  funext i
  have hi0 : (i 0).val < 128 := (i 0).isLt
  have hi1 : (i 1).val < 8192 := (i 1).isLt
  by_cases h : (i 1).val < 4096
  · rw [View.write_of_not_mem]
    · have e : (oM.access rLo).emb (ix (i 0) ⟨(i 1).val, h⟩) = i := by
        funext x; apply Fin.ext
        match x with
        | 0 => show 0 + 1 * (i 0).val = (i 0).val; omega
        | 1 => show 0 + 1 * (i 1).val = (i 1).val; omega
      conv_lhs => rw [← e]
      rw [View.write_emb_of_mem _ _ (Finset.mem_univ _)]
      rw [cast_eq]; unfold outOf; rw [dif_pos h]
    · intro hm
      obtain ⟨x, -, hx⟩ := Finset.mem_map.mp hm
      have : (i 1).val = 4096 + 1 * (x 1).val := by rw [← hx]; rfl
      omega
  · have e : (oM.access rHi).emb (ix (i 0) ⟨(i 1).val - 4096, by omega⟩) = i := by
      funext x; apply Fin.ext
      match x with
      | 0 => show 0 + 1 * (i 0).val = (i 0).val; omega
      | 1 => show 4096 + 1 * ((i 1).val - 4096) = (i 1).val; omega
    conv_lhs => rw [← e]
    rw [View.write_emb_of_mem _ _ (Finset.mem_univ _)]
    rw [cast_eq]; unfold outOf; rw [dif_neg h]

/-- The end: both sums are read, and the activated halves are written. -/
theorem wp_finish (a b : FVec F S128x4096 .f32) :
    iprop(holds false 1 c a ∗ holds true 1 c b ∗ ∃ f, pt c cc0_stg4_0 f)
      ⊢ iprop((iprop(holds false 1 c a ∗ holds true 1 c b ∗ pt c cc0_stg4_0 (outOf (act a) (act b))) -∗ |={Set.univ}=> Q ⟨⟩)
          -∗ WP c (finish oM (buf false) (buf true)) Q) := by
  unfold finish
  iintro ⟨Ha, Hb, ⟨%f, Ho⟩⟩ Hk
  iapply (wp_loadHalf false 1 c a Q fun a => loadHalf (buf true) 1 fun b =>
    Prog.op (.load oM rLo.toLoadRect (View.loadsAt_vmem h_S128x4096)) fun _ =>
    Prog.op (.store oM rLo (act a) Finset.univ (View.stores_vmem_bits_univ h_S128x4096 rfl) (.inl rfl)) fun _ =>
    Prog.op (.load oM rHi.toLoadRect (View.loadsAt_vmem h_S128x4096)) fun _ =>
    Prog.op (.store oM rHi (act (shapeCast S128x4096 b shapeCasts_S1x128x4096_S128x4096)) Finset.univ (View.stores_vmem_bits_univ h_S128x4096 rfl) (.inl rfl)) fun _ => .ret ⟨⟩) $$ Ha
  iintro Ha
  iapply (wp_loadHalf true 1 c b Q fun b =>
    Prog.op (.load oM rLo.toLoadRect (View.loadsAt_vmem h_S128x4096)) fun _ =>
    Prog.op (.store oM rLo (act a) Finset.univ (View.stores_vmem_bits_univ h_S128x4096 rfl) (.inl rfl)) fun _ =>
    Prog.op (.load oM rHi.toLoadRect (View.loadsAt_vmem h_S128x4096)) fun _ =>
    Prog.op (.store oM rHi (act b) Finset.univ (View.stores_vmem_bits_univ h_S128x4096 rfl) (.inl rfl)) fun _ => .ret ⟨⟩) $$ Hb
  iintro Hb
  iapply (wp_load_rect 𝒱₀ (c : Thread nD τ) none Set.univ (m := oM) (r := rLo) (Finset.subset_univ _)) $$ Ho; iintro Ho
  iapply (wp_store 𝒱₀ (c : Thread nD τ) none Set.univ (m := oM) (r := rLo) (Finset.subset_univ _)) $$ Ho; iintro Ho
  iapply (wp_load_rect 𝒱₀ (c : Thread nD τ) none Set.univ (m := oM) (r := rHi) (Finset.subset_univ _)) $$ Ho; iintro Ho
  iapply (wp_store 𝒱₀ (c : Thread nD τ) none Set.univ (m := oM) (r := rHi) (Finset.subset_univ _)) $$ Ho; iintro Ho
  rw [write_out c f (act a) (act b), wp_ret]
  iapply Hk
  isplitl [Ha]; · iexact Ha
  isplitl [Hb]; · iexact Hb
  iexact Ho

end Cert.KernelIdeal.Ring
-- ==== Proof.Run.lean ====
/- The whole kernel on one device: what it starts from, and what it leaves. -/
module

public import proofs.«01_k».proof.Proof.Around

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal
open Facts₀ Facts

variable {F : FTy → Type} [FloatOps F]

local notation "𝕄" => MT nD τ sig ℕ (Elt F) ℕ UU ℕ

/-! ## What a device has summed -/

/-- What device `c` sends at step `s` in direction `d`, from the operands' blocks on every device. -/
def acc (X : Dev nD → Vec F S4096x128 .f32) (W : Dev nD → Vec F S128x8192 .f32) (d : Bool) : ℕ → Dev nD → FVec F S128x4096 .f32
  | 0, c => prod d (X c) (W c) (nbr (!d) c)
  | s + 1, c => addf (acc X W d s (nbr (!d) c)) (prod d (X c) (W c) (dest d s c))

/-! ## The two halves of a communication buffer -/

/-- A whole communication buffer, at contents not chosen. -/
def scrAny (d : Bool) (c : Dev nD) : sProp 𝕄 := iprop(∃ f, ((half (buf d) 0).view.loc (c : Thread nD τ)) ↦{fullShare} f)

omit [FloatOps F] in
/-- The halves cover the buffer. -/
theorem half_cover (d : Bool) : (half (buf d) 0).view.set ∪ (half (buf d) 1).view.set = Finset.univ := by
  rw [half_union]
  cases d <;> exact View.set_whole _

/-- A whole communication buffer is its two halves, -/
theorem scr_split (d : Bool) (c : Dev nD) : scrAny d c ⊢ (iprop(slotAt d 0 c ∗ slotAt d 1 c) : sProp 𝕄) := by
  unfold scrAny
  iintro ⟨%f, H⟩
  have h : (((half (buf d) 0).view.loc (c : Thread nD τ)) ↦{fullShare} f : sProp 𝕄)
      ⊢ iprop((((half (buf d) 0).view.loc (c : Thread nD τ)) ↦[(half (buf d) 0).view.set]{fullShare} f)
        ∗ (((half (buf d) 0).view.loc (c : Thread nD τ)) ↦[(half (buf d) 1).view.set]{fullShare} f)) := by
    have h := (pointsTo_union (Ix := ℕ) (Name := ℕ) (U := UU) (Lvl := ℕ) (ℓ := (half (buf d) 0).view.loc (c : Thread nD τ)) (q := fullShare) (f := f) (half_disjoint (buf d))).1
    rw [half_cover] at h
    exact h
  ihave ⟨H0, H1⟩ := h $$ H
  unfold slotAt Release.slot
  isplitl [H0]
  · iexists f; iexact H0
  iexists f; iexact H1
/-- and the halves are the buffer. -/
theorem scr_join (d : Bool) (c : Dev nD) : iprop(slotAt d 0 c ∗ slotAt d 1 c) ⊢ (scrAny d c : sProp 𝕄) := by
  unfold scrAny slotAt Release.slot
  iintro ⟨⟨%f, H0⟩, ⟨%g, H1⟩⟩
  have h : iprop((((half (buf d) 0).view.loc (c : Thread nD τ)) ↦[(half (buf d) 0).view.set]{fullShare} f)
        ∗ (((half (buf d) 0).view.loc (c : Thread nD τ)) ↦[(half (buf d) 1).view.set]{fullShare} g))
      ⊢ (((half (buf d) 0).view.loc (c : Thread nD τ)) ↦{fullShare} ((half (buf d) 1).view.set.piecewise g f) : sProp 𝕄) := by
    have h := pointsTo_join (Ix := ℕ) (Name := ℕ) (U := UU) (Lvl := ℕ) (ℓ := (half (buf d) 0).view.loc (c : Thread nD τ)) (q := fullShare) (f := f) (g := g) (half_disjoint (buf d))
    rw [half_cover] at h
    exact h
  iexists _
  iapply h
  isplitl [H0] <;> iassumption

/-! ## The kernel -/

section

variable (A : Bool → ℕ → Dev nD → FVec F S128x4096 .f32)
variable (K : GSem nD τ sig → ℕ) (ιs : Key → ℕ) (c : Dev nD) (Q : PUnit.{1} → sProp (MT nD τ sig ℕ (Elt F) ℕ UU ℕ))
variable (X : Vec F S4096x128 .f32) (W : Vec F S128x8192 .f32)

/-- What a device spends at the barrier and in the steps. -/
def spend : sProp 𝕄 :=
  iprop((atPos ER (barCell c) 0 ∅ 0 ∗ reached ER (barCell (nbr true c)) 0 ∗ reached ER (barCell (nbr false c)) 0
      ∗ dutyTok ER (barCell (nbr true c)) 0 0 ∗ dutyTok ER (barCell (nbr false c)) 0 1 ∗ cred (tallyAt (barCell c) 0 2))
    ∗ bigSep (Finset.range 31) (fun s => iprop(stepToks false s c ∗ stepToks true s c)))
/-- What the protocol gives a device. -/
def begun : sProp 𝕄 := iprop(recs A K ιs ∗ dirPre false c ∗ dirPre true c ∗ spend c)
/-- All the semaphores of a device at zero. -/
def ended : sProp 𝕄 := iprop(semVal (barCell c) 0 ∗ semsZero false c ∗ semsZero true c)
/-- The staged inputs. -/
def inputs : sProp 𝕄 :=
  iprop(pt c cc0_stg0_0 (words (F := F) perm) ∗ pt c cc0_stg1_0 (words (F := F) pos) ∗ pt c cc0_stg2_0 X ∗ pt c cc0_stg3_0 W)

/-- A half that holds a sum, and the other one, are the buffer. -/
theorem scr_holds (d : Bool) (v : FVec F S128x4096 .f32) : iprop(holds d 1 c v ∗ slotAt d 0 c) ⊢ (scrAny d c : sProp 𝕄) := by
  iintro ⟨H, H0⟩
  iapply (scr_join d c)
  isplitl [H0]; · iexact H0
  iapply (holds_slotAt d 1 c v); iexact H

/-- The kernel on one device: it leaves the activated sums in its result, and every semaphore at zero. -/
theorem wp_body (hA0 : A false 0 c = prod false X W (nbr true c)) (hA0' : A true 0 c = prod true X W (nbr false c))
    (hA : ∀ d s, s < 31 → A d (s + 1) c = addf (A d s (nbr (!d) c)) (prod d X W (dest d s c))) :
    iprop(begun A K ιs c ∗ scrAny false c ∗ scrAny true c ∗ inputs c X W ∗ (∃ f, pt c cc0_stg4_0 f) ∗ ∃ V, owes (c : Thread nD τ) (O₀ c) V)
      ⊢ iprop((iprop(ended c ∗ scrAny false c ∗ scrAny true c ∗ inputs c X W ∗ pt c cc0_stg4_0 (outOf (act (A false 31 c)) (act (A true 31 c)))
            ∗ ∃ V, owes (c : Thread nD τ) (0 : CellTallies nD τ sig ℕ) V) -∗ Q ⟨⟩)
          -∗ WP c (body pM iM xM wM oM (buf false) (buf true) (sendA false) (recvA false) (sendA true) (recvA true) (creditA false) (creditA true)) Q) := by
  have e1 : (⟨devNat (wd (nbr true c)), k0_dev1_lt _ (chk2_wd (nbr true c))⟩ : Dev nD) = nbr true c := Fin.ext (devNat_wd _)
  have e2 : (⟨devNat (wd (nbr false c)), k0_dev2_lt _ (chk3_wd (nbr false c))⟩ : Dev nD) = nbr false c := Fin.ext (devNat_wd _)
  unfold begun spend inputs body
  iintro ⟨⟨#Hr, Hd1, Hd2, ⟨Hat, #Hb1, #Hb2, Ht1, Ht2, Hcr⟩, Htk⟩, Hs1, Hs2, ⟨HP, HI, HX, HW⟩, Ho, HO⟩ Hk
  ihave ⟨Hs10, Hs11⟩ := (scr_split false c) $$ Hs1
  ihave ⟨Hs20, Hs21⟩ := (scr_split true c) $$ Hs2
  iapply (wp_enter c Q) $$ [HP HI]
  · isplitl [HP] <;> iassumption
  iintro ⟨HP, HI⟩
  rw [e1, e2]
  imod (dir_open A K ιs false c) $$ [Hd1 Hs11] with ⟨Hm1, #Hy1, #Hc1⟩
  · isplitr; · iexact Hr
    isplitl [Hd1] <;> iassumption
  imod (dir_open A K ιs true c) $$ [Hd2 Hs21] with ⟨Hm2, #Hy2, #Hc2⟩
  · isplitr; · iexact Hr
    isplitl [Hd2] <;> iassumption
  iapply (wp_barrier A K ιs c _ Q) $$ [Hat Ht1 Ht2 Hcr HO]
  · isplitr; · iexact Hr
    isplitr
    · isplitr; · iexact Hy1
      iexact Hc1
    isplitr
    · isplitr; · iexact Hy2
      iexact Hc2
    isplitl [Hat]; · iexact Hat
    isplitr; · iexact Hb1
    isplitr; · iexact Hb2
    isplitl [Ht1]; · iexact Ht1
    isplitl [Ht2]; · iexact Ht2
    isplitl [Hcr]; · iexact Hcr
    iexact HO
  iintro ⟨#Htold, Hat, HO⟩
  have ho : iprop(pt c cc0_stg0_0 (words (F := F) perm) ∗ pt c cc0_stg2_0 X ∗ pt c cc0_stg3_0 W) ⊢ (opsPt X W c : sProp 𝕄) := by
    unfold opsPt; exact Entails.refl _
  have ho' : (opsPt X W c : sProp 𝕄) ⊢ iprop(pt c cc0_stg0_0 (words (F := F) perm) ∗ pt c cc0_stg2_0 X ∗ pt c cc0_stg3_0 W) := by
    unfold opsPt; exact Entails.refl _
  ihave Hops := ho $$ [HP HX HW]
  · isplitl [HP]; · iexact HP
    isplitl [HX] <;> iassumption
  iapply (wp_begin c _ Q X W) $$ [Hs10 Hs20 Hops]
  · isplitl [Hs10]; · iexact Hs10
    isplitl [Hs20] <;> iassumption
  rw [← hA0, ← hA0']
  iintro ⟨Hh1, Hh2, Hops⟩
  ihave Hg1 := (dir_start A false c) $$ [Hh1 Hm1]
  · isplitl [Hh1] <;> iassumption
  ihave Hg2 := (dir_start A true c) $$ [Hh2 Hm2]
  · isplitl [Hh2] <;> iassumption
  have hs : iprop(dirSt A false 0 c ∗ dirSt A true 0 c ∗ ∃ V, owes (c : Thread nD τ) (oweFrom c 0) V) ⊢ (ringSt A 0 c : sProp 𝕄) := by
    unfold ringSt; exact Entails.refl _
  have hs' : (ringSt A 31 c : sProp 𝕄) ⊢ iprop(dirSt A false 31 c ∗ dirSt A true 31 c ∗ ∃ V, owes (c : Thread nD τ) (0 : CellTallies nD τ sig ℕ) V) := by
    unfold ringSt; rw [oweFrom_last]
  ihave Hst := hs $$ [Hg1 Hg2 HO]
  · isplitl [Hg1]; · iexact Hg1
    isplitl [Hg2] <;> iassumption
  iapply (wp_steps A K ιs c _ Q X W _ 31 _ hA) $$ [Hops Hst Htk]
  · isplitr; · iexact Hr
    isplitr; · iexact Htold
    isplitl [Hops]; · iexact Hops
    isplitl [Hst] <;> iassumption
  iintro ⟨Hops, Hst⟩
  ihave ⟨Hg1, Hg2, HO⟩ := hs' $$ Hst
  imod (dir_close A K ιs false c) $$ [Hg1] with ⟨Hh1, Hsl1, Hz1⟩
  · isplitr; · iexact Hr
    iexact Hg1
  imod (dir_close A K ιs true c) $$ [Hg2] with ⟨Hh2, Hsl2, Hz2⟩
  · isplitr; · iexact Hr
    iexact Hg2
  imod (cell_done A K ιs c (.reg barS) (by rw [kind_bar]; exact nofun) 1 (later_bar A c)) $$ [Hat] with Hz
  · isplitr; · iexact Hr
    iexact Hat
  iapply (wp_finish c Q _ _) $$ [Hh1 Hh2 Ho]
  · isplitl [Hh1]; · iexact Hh1
    isplitl [Hh2] <;> iassumption
  iintro ⟨Hh1, Hh2, Ho⟩
  imodintro
  iapply Hk
  unfold ended
  ihave ⟨HP, HX, HW⟩ := ho' $$ Hops
  isplitl [Hz Hz1 Hz2]
  · isplitl [Hz]; · iexact Hz
    isplitl [Hz1] <;> iassumption
  isplitl [Hh1 Hsl1]
  · iapply (scr_holds c false _)
    isplitl [Hh1] <;> iassumption
  isplitl [Hh2 Hsl2]
  · iapply (scr_holds c true _)
    isplitl [Hh2] <;> iassumption
  isplitl [HP HI HX HW]
  · isplitl [HP]; · iexact HP
    isplitl [HI]; · iexact HI
    isplitl [HX] <;> iassumption
  isplitl [Ho]; · iexact Ho
  iexact HO

end

end Cert.KernelIdeal.Ring
-- ==== Proof.Tables.lean ====
/- The two tables the host makes before the kernel starts: the ring's order, and its inverse. -/
module

public import proofs.«01_k».proof.Proof.Run
public import proofs.«01_k».proof.Proof.Gen.KernelIdeal.Launch
public import Idealize.ShloMosaic.Lib.StableHlo
public import Idealize.ShloMosaic.Lib.StableHlo.Run
public import Idealize.ShloMosaic.PureOps

@[expose] public section

noncomputable section

namespace Cert.KernelIdeal.Ring

open Idealize.ShloMosaic Idealize.ShloMosaic.TcCoe
open Idealize.SL.Sem
open Cert.KernelIdeal
open Facts₀ Facts

/-- The index words of the scatter: the ring's order, a negative word counted from the end. -/
def scatterAt : IVec S32x1 32 :=
  broadcastInDim S32x1 ![0] bcast_S32_S32x1_0
    (select (cmpi .slt (fun i => lit1 (S32.rowMajor i) : IVec S32 32) (broadcastInDim S32 ![] bcast_S_S32 (constantI S_ 32 0#32)))
      (addi (fun i => lit1 (S32.rowMajor i) : IVec S32 32) (broadcastInDim S32 ![] bcast_S_S32 (constantI S_ 32 32#32)))
      (fun i => lit1 (S32.rowMajor i) : IVec S32 32))
/-- The scatter of the places by the ring's order. -/
def scattered : IVec S32 32 :=
  Host.scatter scatter_S32_S32x1_S32_n_0_0_1 (fun _ b => b) (broadcastInDim S32 ![] bcast_S_S32 (constantI S_ 32 0#32) : IVec S32 32) scatterAt (iotaInDim S32 32 0)

/-- The first table is the ring's order. -/
theorem table_perm : ∀ j : Dev nD, (shapeCast S1x32 (fun i => lit0 (S32.rowMajor i) : IVec S32 32) shapeCasts_S32_S1x32 : IVec S1x32 32) (fun | 0 => (0 : Fin 1) | 1 => j) = wd (perm j) := by
  decide +kernel

/-- The second table is its inverse. -/
theorem table_pos : ∀ j : Dev nD, (shapeCast S1x32 scattered shapeCasts_S32_S1x32 : IVec S1x32 32) (fun | 0 => (0 : Fin 1) | 1 => j) = wd (pos j) := by
  decide +kernel

/-! ## What the region finds -/

section

variable {F : FTy → Type} [FloatOps F] (m : (ℓ : Loc nD τ sig) → Buf (Elt F) ℓ) (c : Dev nD)

/-- A device's buffers at the launch, and when the region is entered. -/
abbrev V₀ : Valuation τ sig (Elt F) := fun b => m (c, b)
abbrev V₁ : Valuation τ sig (Elt F) := StableHlo.after Gen.hostOps0 (V₀ m c)

/-- An index of a one-row table is its column. -/
theorem row_ix (i : S1x32.Idx) : i = (fun | 0 => (0 : Fin 1) | 1 => i 1 : S1x32.Idx) := by
  funext a
  match a with
  | 0 => exact Subsingleton.elim (α := Fin 1) _ _
  | 1 => rfl

/-- The kernel's first operand is the ring's order. -/
theorem V₁_perm : V₁ m c (main_v1 : DevRef τ sig) = words (F := F) perm := by
  after_results
  funext i
  rw [row_ix i]
  exact table_perm (i 1)

/-- The second one is its inverse. -/
theorem V₁_pos : V₁ m c (main_v11 : DevRef τ sig) = words (F := F) pos := by
  after_results
  funext i
  rw [row_ix i]
  exact table_pos (i 1)

/-- The other two are the arguments, as they were. -/
theorem V₁_arg0 : V₁ m c (main_arg0 : DevRef τ sig) = m ((c : Thread nD τ).loc main_arg0) := by after_results
theorem V₁_arg1 : V₁ m c (main_arg1 : DevRef τ sig) = m ((c : Thread nD τ).loc main_arg1) := by after_results

end

end Cert.KernelIdeal.Ring
-- ==== Proof.Region.lean ====
/- The kernel as the region runs it: what its windows hold before and after, and that the body keeps to it. -/
module

public import proofs.«01_k».proof.Proof.Tables
public import proofs.«01_k».proof.Proof.Gen.KernelIdeal.Points
public import Idealize.ShloMosaic.Lib.Pipeline.Value

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg BodyObligation cellOf)
open Cert.KernelIdeal
open Facts₀ Facts

variable {F : FTy → Type} [FloatOps F]

local notation "𝕄" => MT nD τ sig ℕ (Elt F) ℕ UU ℕ

variable (m : (ℓ : Loc nD τ sig) → Buf (Elt F) ℓ) (c : Dev nD)

/-- The operands' blocks on a device. -/
def argX : Dev nD → Vec F S4096x128 .f32 := fun c => m ((c : Thread nD τ).loc main_arg0)
def argW : Dev nD → Vec F S128x8192 .f32 := fun c => m ((c : Thread nD τ).loc main_arg1)
/-- What the devices send each other, of this memory. -/
def sums : Bool → ℕ → Dev nD → FVec F S128x4096 .f32 := acc (argX m) (argW m)
/-- A device's result. -/
def res : Vec F S128x8192 .f32 := outOf (act (sums m false 31 c)) (act (sums m true 31 c))

/-- What the body's invariant holds at its start, and at its end. -/
def before : sProp 𝕄 := iprop((∃ K ιs, begun (sums m) K ιs c) ∗ scrAny false c ∗ scrAny true c ∗ ∃ r, prngReg c r)
def after : sProp 𝕄 := iprop(ended c ∗ scrAny false c ∗ scrAny true c ∗ ∃ r, prngReg c r)

/-- The region's proof data: the four inputs are left as they were fetched, the result is the device's. -/
def dat : Dat τ (Elt F) ℕ ℕ UU ℕ cfg0 c where
  A w := V₁ m c (Proc.devRef .tc (Pipeline.arrRef spec0 w))
  after w _ := match w with
    | ⟨0, _⟩ => words (F := F) perm
    | ⟨1, _⟩ => words (F := F) pos
    | ⟨2, _⟩ => argX m c
    | ⟨3, _⟩ => argW m c
    | ⟨4, _⟩ => res m c
    | ⟨_ + 5, h⟩ => absurd h (Nat.not_lt.2 (Nat.le_add_left _ _))
  Φ t := if t.val = 0 then before m c else after c
  q _ := fullShare
  owed t := if t.val = 0 then O₀ c else 0

theorem owed_start : (dat m c).owed Gen.t0_0.castSucc = O₀ c := by
  show (if (Gen.t0_0.castSucc : Fin (cfg0.N + 1)).val = 0 then O₀ c else 0) = O₀ c; exact if_pos rfl
theorem owed_end : (dat m c).owed Gen.t0_0.succ = 0 := by
  show (if (Gen.t0_0.succ : Fin (cfg0.N + 1)).val = 0 then O₀ c else 0) = 0; exact if_neg (Nat.succ_ne_zero _)
theorem inv_start : (dat m c).Φ Gen.t0_0.castSucc = before m c := by
  show (if (Gen.t0_0.castSucc : Fin (cfg0.N + 1)).val = 0 then before m c else after c) = before m c; exact if_pos rfl
theorem inv_end : (dat m c).Φ Gen.t0_0.succ = after c := by
  show (if (Gen.t0_0.succ : Fin (cfg0.N + 1)).val = 0 then before m c else after c) = after c; exact if_neg (Nat.succ_ne_zero _)

/-- A whole buffer owned is the buffer at its contents. -/
theorem owns_whole_eq (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the fetch of each input leaves in its staging buffer. -/
theorem before_0 (d) : (dat m c).before (0 : Fin 5) Gen.t0_0 d = words (F := F) perm := by
  rw [← V₁_perm m c]
  unfold Dat.before; rw [if_pos (Gen.fetch0_0 _)]
  funext i
  show V₁ m c (main_v1 : DevRef τ sig) _ = V₁ m c (main_v1 : DevRef τ sig) _
  congr 1
  funext a
  apply Fin.ext
  match a with
  | 0 => show 0 * 1 + 1 * (i 0).val = (i 0).val; omega
  | 1 => show 0 * 32 + 1 * (i 1).val = (i 1).val; omega
theorem before_1 (d) : (dat m c).before (1 : Fin 5) Gen.t0_0 d = words (F := F) pos := by
  rw [← V₁_pos m c]
  unfold Dat.before; rw [if_pos (Gen.fetch0_1 _)]
  funext i
  show V₁ m c (main_v11 : DevRef τ sig) _ = V₁ m c (main_v11 : DevRef τ sig) _
  congr 1
  funext a
  apply Fin.ext
  match a with
  | 0 => show 0 * 1 + 1 * (i 0).val = (i 0).val; omega
  | 1 => show 0 * 32 + 1 * (i 1).val = (i 1).val; omega
theorem before_2 (d) : (dat m c).before (2 : Fin 5) Gen.t0_0 d = argX m c := by
  unfold argX
  rw [← V₁_arg0 m c]
  unfold Dat.before; rw [if_pos (Gen.fetch0_2 _)]
  funext i
  show V₁ m c (main_arg0 : DevRef τ sig) _ = V₁ m c (main_arg0 : DevRef τ sig) _
  congr 1
  funext a
  apply Fin.ext
  match a with
  | 0 => show 0 * 4096 + 1 * (i 0).val = (i 0).val; omega
  | 1 => show 0 * 128 + 1 * (i 1).val = (i 1).val; omega
theorem before_3 (d) : (dat m c).before (3 : Fin 5) Gen.t0_0 d = argW m c := by
  unfold argW
  rw [← V₁_arg1 m c]
  unfold Dat.before; rw [if_pos (Gen.fetch0_3 _)]
  funext i
  show V₁ m c (main_arg1 : DevRef τ sig) _ = V₁ m c (main_arg1 : DevRef τ sig) _
  congr 1
  funext a
  apply Fin.ext
  match a with
  | 0 => show 0 * 128 + 1 * (i 0).val = (i 0).val; omega
  | 1 => show 0 * 8192 + 1 * (i 1).val = (i 1).val; omega

/-- A region's tallies, from what the core owes and back. -/
theorem owesAt_intro (t : Fin (cfg0.N + 1)) (O : CellTallies nD τ sig ℕ) (h0 : (dat m c).owed t = O) (W : Waits sig ℕ) :
    (owes (c : Thread nD τ) O W : sProp 𝕄) ⊢ ((dat m c).owesAt 0 t : sProp 𝕄) := by
  unfold Dat.owesAt Pipeline.owesWithin Dat.bound; rw [h0]
  iintro HO; iexists W; isplitr; · ipureintro; exact fun _ _ => Or.inl trivial
  iexact HO
theorem owesAt_elim (t : Fin (cfg0.N + 1)) (O : CellTallies nD τ sig ℕ) (h0 : (dat m c).owed t = O) :
    ((dat m c).owesAt 0 t : sProp 𝕄) ⊢ iprop(∃ W, owes (c : Thread nD τ) O W) := by
  unfold Dat.owesAt Pipeline.owesWithin; rw [h0]
  iintro ⟨%W, -, HO⟩; iexists W; iexact HO

/-- The body's state before it runs, and after. -/
def bodyPre : sProp 𝕄 :=
  iprop(before m c ∗ (dat m c).owesAt 0 Gen.t0_0.castSucc
    ∗ (∃ d, stg c cc0_stg0_0 ((dat m c).before (0 : Fin 5) Gen.t0_0 d))
    ∗ (∃ d, stg c cc0_stg1_0 ((dat m c).before (1 : Fin 5) Gen.t0_0 d))
    ∗ (∃ d, stg c cc0_stg2_0 ((dat m c).before (2 : Fin 5) Gen.t0_0 d))
    ∗ (∃ d, stg c cc0_stg3_0 ((dat m c).before (3 : Fin 5) Gen.t0_0 d))
    ∗ (∃ d, stg c cc0_stg4_0 ((dat m c).before (4 : Fin 5) Gen.t0_0 d)))
def bodyPost : sProp 𝕄 :=
  iprop(after c ∗ (dat m c).owesAt 0 Gen.t0_0.succ
    ∗ stg c cc0_stg0_0 (words (F := F) perm) ∗ stg c cc0_stg1_0 (words (F := F) pos) ∗ stg c cc0_stg2_0 (argX m c) ∗ stg c cc0_stg3_0 (argW m c)
    ∗ stg c cc0_stg4_0 (res m c))

/-- The body takes the one to the other. -/
theorem body_run :
    bodyPre m c ⊢ WP c (body pM iM xM wM oM (buf false) (buf true) (sendA false) (recvA false) (sendA true) (recvA true) (creditA false) (creditA true))
      fun _ => bodyPost m c := by
  unfold bodyPre before
  simp only [before_0, before_1, before_2, before_3]
  iintro ⟨⟨⟨%K, %ιs, Hb⟩, Hs1, Hs2, Hp⟩, Ho, ⟨%d0, %g0, %h0, H0⟩, ⟨%d1, %g1, %h1, H1⟩, ⟨%d2, %g2, %h2, H2⟩, ⟨%d3, %g3, %h3, H3⟩, ⟨%d4, %g4, -, H4⟩⟩
  subst h0 h1 h2 h3
  ihave HO := (owesAt_elim m c _ (O₀ c) (owed_start m c)) $$ Ho
  iapply (wp_body (sums m) K ιs c _ (argX m c) (argW m c) rfl rfl (fun d s _ => rfl)) $$ [Hb Hs1 Hs2 H0 H1 H2 H3 H4 HO]
  · isplitl [Hb]; · iexact Hb
    isplitl [Hs1]; · iexact Hs1
    isplitl [Hs2]; · iexact Hs2
    isplitl [H0 H1 H2 H3]
    · unfold inputs
      isplitl [H0]; · iexact H0
      isplitl [H1]; · iexact H1
      isplitl [H2] <;> iassumption
    isplitl [H4]; · iexists g4; iexact H4
    iexact HO
  unfold inputs bodyPost after
  iintro ⟨He, Hs1, Hs2, ⟨H0, H1, H2, H3⟩, H4, ⟨%V, HO⟩⟩
  isplitl [He Hs1 Hs2 Hp]
  · isplitl [He]; · iexact He
    isplitl [Hs1]; · iexact Hs1
    isplitl [Hs2] <;> iassumption
  isplitl [HO]; · iapply (owesAt_intro m c _ 0 (owed_end m c) V); iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact H4

set_option maxRecDepth 100000 in
/-- The region's obligation on the body. -/
theorem body_obligation : BodyObligation (dat m c) (defs₀ (F := F)) 𝒱₀ 0 Set.univ := fun t => by
  rw [Gen.fin_N0 t]
  rw [Gen.bigSep_W0, Gen.bigSep_W0]
  simp only [owns_whole_eq]
  rw [inv_start, inv_end]
  show bodyPre m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _) (Memref.whole cc0_stg4_0) (Memref.isWhole_whole _)
      (Memref.whole cc0_scratch0) (Memref.isWhole_whole _) (Memref.whole cc0_scratch1) (Memref.isWhole_whole _)
      cc0_scratch2 cc0_scratch3 cc0_scratch4 cc0_scratch5 cc0_scratch6 cc0_scratch7) (fun _ => bodyPost m c)
  rw [body_eq]
  exact body_run m c

end Cert.KernelIdeal.Ring
-- ==== Proof.Deal.lean ====
/- What the launch has to hand out for the two rings, and its dealing: who gets which token and which credit. -/
module

public import proofs.«01_k».proof.Proof.Region
public import Idealize.ShloMosaic.Lib.Pipeline.RegionTalk

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal
open Facts₀ Facts

variable {F : FTy → Type} [FloatOps F]

local notation "𝕄" => MT nD τ sig ℕ (Elt F) ℕ UU ℕ

/-! ## Finite products -/

theorem bigSep_bool (Φ : Bool → sProp (MT nD τ sig ℕ (Elt F) ℕ UU ℕ)) : bigSep Finset.univ Φ = iprop(Φ false ∗ Φ true) :=
  bigSep_univ_eq_bigSepL [false, true] (by decide) (by decide) Φ
theorem bigSep_four (Φ : Fin 4 → sProp (MT nD τ sig ℕ (Elt F) ℕ UU ℕ)) : bigSep Finset.univ Φ = iprop(Φ 0 ∗ Φ 1 ∗ Φ 2 ∗ Φ 3) :=
  bigSep_univ_eq_bigSepL [0, 1, 2, 3] (by decide) (by decide) Φ
theorem bigSep_five (Φ : Fin 5 → sProp (MT nD τ sig ℕ (Elt F) ℕ UU ℕ)) : bigSep Finset.univ Φ = iprop(Φ 0 ∗ Φ 1 ∗ Φ 2 ∗ Φ 3 ∗ Φ 4) :=
  bigSep_univ_eq_bigSepL [0, 1, 2, 3, 4] (by decide) (by decide) Φ
/-- Two full products may be swapped. -/
theorem bigSep_swap {I J : Type} [Fintype I] [Fintype J] (Φ : I → J → sProp (MT nD τ sig ℕ (Elt F) ℕ UU ℕ)) :
    (bigSep Finset.univ fun i => bigSep Finset.univ fun j => Φ i j) = bigSep Finset.univ fun j => bigSep Finset.univ fun i => Φ i j := by
  rw [← bigSep_univ_prod (fun x : I × J => Φ x.1 x.2), bigSep_univ_equiv (Equiv.prodComm J I), bigSep_univ_prod]
  rfl
/-- Over the first steps, by their numbers. -/
theorem bigSep_steps (Φ : ℕ → sProp (MT nD τ sig ℕ (Elt F) ℕ UU ℕ)) :
    bigSep Finset.univ (fun s : Fin 31 => Φ s.val) = bigSep (Finset.range 31) Φ := by
  rw [show Finset.range 31 = (Finset.univ : Finset (Fin 31)).map Fin.valEmbedding from by decide, bigSep_map]; rfl
/-- A row over all steps but the last is a row over all steps but the first, moved on by one. -/
theorem bigSep_shift (Φ : ℕ → sProp (MT nD τ sig ℕ (Elt F) ℕ UU ℕ)) :
    bigSep (Finset.range 31) (fun s => if s < 30 then Φ s else iprop(emp)) ⊢ bigSep (Finset.range 31) (fun s => if s = 0 then iprop(emp) else Φ (s - 1)) := by
  have h1 : bigSep (Finset.range 31) (fun s => if s < 30 then Φ s else iprop(emp)) ⊢ bigSep (Finset.range 30) Φ := by
    exact (bigSep_subset (s := Finset.range 31) (t := Finset.range 30) (by decide)).trans
      (bigSep_mono fun s hs => by rw [if_pos (Finset.mem_range.mp hs)]; exact BI.Entails.refl _)
  have h2 : bigSep (Finset.range 30) Φ ⊢ bigSep (Finset.range 31) (fun s => if s = 0 then iprop(emp) else Φ (s - 1)) := by
    rw [show Finset.range 31 = insert 0 ((Finset.range 30).map ⟨Nat.succ, Nat.succ_injective⟩) from by decide, bigSep_insert (by decide), bigSep_map]
    show _ ⊢ iprop((if 0 = 0 then iprop(emp) else Φ (0 - 1)) ∗ bigSep (Finset.range 30) fun s => if s + 1 = 0 then iprop(emp) else Φ (s + 1 - 1))
    simp only [if_pos, Nat.succ_ne_zero, if_false, Nat.add_sub_cancel]
    iintro H
    isplitr
    · iempintro
    iexact H
  exact h1.trans h2

/-! ## Cells -/

/-- The semaphores the kernel's scope brings, by direction. -/
def osem : Bool × Fin 5 → SemLoc sig
  | (d, 0) => .dma (semOf (sendA d) 0)
  | (d, 1) => .dma (semOf (sendA d) 1)
  | (d, 2) => .dma (semOf (recvA d) 0)
  | (d, 3) => .dma (semOf (recvA d) 1)
  | (d, 4) => .reg (creditA d).sem

theorem osem_inj : Function.Injective osem := by decide
theorem osem_ne_bar : ∀ k, osem k ≠ .reg barS := by decide
theorem ownSemFacts : Pipeline.OwnSemFacts spec0 osem := by decide

theorem ownSems0_eq (c : Dev nD) : (Pipeline.ownSems0 osem c : sProp 𝕄) = iprop(semsZero false c ∗ semsZero true c) := by
  unfold Pipeline.ownSems0
  rw [bigSep_univ_prod, bigSep_bool, bigSep_five, bigSep_five]
  rfl

def barEmb : Dev nD ↪ GSem nD τ sig := ⟨fun c => barCell c, fun _ _ h => congrArg (fun g : GSem nD τ sig => g.1.1) h⟩
def scopedEmb : Dev nD × Bool × Fin 5 ↪ GSem nD τ sig :=
  ⟨fun x => ((x.1 : Thread nD τ), osem x.2), fun _ _ h =>
    Prod.ext (congrArg (fun g : GSem nD τ sig => g.1.1) h) (osem_inj (congrArg Prod.snd h))⟩
/-- The barrier's cells, there from the start. -/
def barCells : Finset (GSem nD τ sig) := Finset.univ.map barEmb
/-- The cells that the kernel's scope opens. -/
def scopedCells : Finset (GSem nD τ sig) := Finset.univ.map scopedEmb

theorem disjoint_cells : Disjoint barCells scopedCells := by
  rw [Finset.disjoint_left]
  rintro g h₁ h₂
  obtain ⟨c, -, rfl⟩ := Finset.mem_map.mp h₁
  obtain ⟨x, -, h⟩ := Finset.mem_map.mp h₂
  exact osem_ne_bar x.2 (congrArg Prod.snd h)

theorem talk_cases : ∀ sm ∈ talkSems, sm = .reg barS ∨ ∃ k, osem k = sm := by decide
theorem cells_sub : cells ⊆ barCells ∪ scopedCells := by
  intro g hg
  obtain ⟨⟨c, sm⟩, hx, rfl⟩ := Finset.mem_map.mp hg
  rcases talk_cases sm (Finset.mem_product.mp hx).2 with h | ⟨k, h⟩
  · subst h; exact Finset.mem_union_left _ (Finset.mem_map.mpr ⟨c, Finset.mem_univ _, rfl⟩)
  · subst h; exact Finset.mem_union_right _ (Finset.mem_map.mpr ⟨(c, k), Finset.mem_univ _, rfl⟩)

/-- The rights to open a device's cells of one direction. -/
def opens (d : Bool) (c : Dev nD) : sProp 𝕄 :=
  iprop(openTok ER (sendCell d 0 c) ∗ openTok ER (sendCell d 1 c) ∗ openTok ER (recvCell d 0 c) ∗ openTok ER (recvCell d 1 c) ∗ openTok ER (creditCell d c))

theorem opens_eq : bigSep scopedCells (fun g => (openTok ER g : sProp 𝕄)) = bigSep Finset.univ fun c : Dev nD => iprop(opens false c ∗ opens true c) := by
  unfold scopedCells
  rw [bigSep_map, bigSep_univ_prod]
  refine bigSep_congr fun c _ => ?_
  rw [bigSep_univ_prod, bigSep_bool, bigSep_five, bigSep_five]
  rfl

/-! ## Tokens -/

/-- Direction and step. -/
abbrev DS : Type := Bool × Fin 31

/-- The duties a device's cells know for a direction and a step: of the copy out, of the copy in, of the credit, of the
    barrier (only its round of step zero is used). -/
def tokSem (d : Bool) (s : Fin 31) : Fin 4 → SemLoc sig
  | 0 => .dma (semOf (sendA d) (par s.val))
  | 1 => .dma (semOf (recvA d) (par (s.val + 1)))
  | 2 => .reg (creditA d).sem
  | 3 => .reg barS
def tokRound (s : Fin 31) : Fin 4 → ℕ
  | 0 => s.val / 2
  | 1 => s.val / 2
  | 2 => 0
  | 3 => s.val
/-- The barrier's duty of a direction. -/
def side (d : Bool) : ℕ := match d with | false => 0 | true => 1
def tokDuty (d : Bool) (s : Fin 31) : Fin 4 → ℕ
  | 0 => 0
  | 1 => 0
  | 2 => s.val
  | 3 => side d

theorem tok_inj : ∀ (d d' : Bool) (s s' : Fin 31) (k k' : Fin 4), tokSem d s k = tokSem d' s' k' → tokRound s k = tokRound s' k' →
    tokDuty d s k = tokDuty d' s' k' → d = d' ∧ s = s' ∧ k = k' := by
  have par_eq (a b : ℕ) (h : par a = par b) : a % 2 = b % 2 := congrArg Fin.val h
  intro d d' s s' k k' h1 h2 h3
  have h1' := congrArg kind h1
  match k, k' with
  | 0, 0 => simp only [tokSem, kind_send, Kind.send.injEq] at h1'; simp only [tokRound] at h2
            have := par_eq _ _ h1'.2; exact ⟨h1'.1, Fin.ext (by omega), rfl⟩
  | 1, 1 => simp only [tokSem, kind_recv, Kind.recv.injEq] at h1'; simp only [tokRound] at h2
            have := par_eq _ _ h1'.2; exact ⟨h1'.1, Fin.ext (by omega), rfl⟩
  | 2, 2 => simp only [tokSem, kind_credit, Kind.credit.injEq] at h1'; exact ⟨h1', Fin.ext h3, rfl⟩
  | 3, 3 => refine ⟨?_, Fin.ext h2, rfl⟩; revert h3; cases d <;> cases d' <;> simp [tokDuty, side]
  | 0, 1 => simp [tokSem, kind_send, kind_recv] at h1'
  | 0, 2 => simp [tokSem] at h1
  | 0, 3 => simp [tokSem] at h1
  | 1, 0 => simp [tokSem, kind_send, kind_recv] at h1'
  | 1, 2 => simp [tokSem] at h1
  | 1, 3 => simp [tokSem] at h1
  | 2, 0 => simp [tokSem] at h1
  | 2, 1 => simp [tokSem] at h1
  | 2, 3 => simp only [tokSem, kind_credit, kind_bar] at h1'; exact absurd h1' nofun
  | 3, 0 => simp [tokSem] at h1
  | 3, 1 => simp [tokSem] at h1
  | 3, 2 => simp only [tokSem, kind_credit, kind_bar] at h1'; exact absurd h1' nofun

def tokEmb : DS × Dev nD × Fin 4 ↪ GSem nD τ sig × ℕ × ℕ :=
  ⟨fun x => (((x.2.1 : Thread nD τ), tokSem x.1.1 x.1.2 x.2.2), tokRound x.1.2 x.2.2, tokDuty x.1.1 x.1.2 x.2.2), by
    rintro ⟨⟨d, s⟩, c, k⟩ ⟨⟨d', s'⟩, c', k'⟩ h
    have hc : c = c' := congrArg (fun t : GSem nD τ sig × ℕ × ℕ => t.1.1.1) h
    obtain ⟨rfl, rfl, rfl⟩ := tok_inj d d' s s' k k' (congrArg (fun t : GSem nD τ sig × ℕ × ℕ => t.1.2) h)
      (congrArg (fun t : GSem nD τ sig × ℕ × ℕ => t.2.1) h) (congrArg (fun t : GSem nD τ sig × ℕ × ℕ => t.2.2) h)
    rw [hc]⟩
/-- All duties' tokens. -/
def toks : Finset (GSem nD τ sig × ℕ × ℕ) := Finset.univ.map tokEmb

/-- The tokens a device pays with in a direction and a step: for its own copy out, its neighbours' for the rest. -/
def paid (d : Bool) (s : ℕ) (c : Dev nD) : sProp 𝕄 :=
  iprop(dutyTok ER (sendCell d (par s) c) (s / 2) 0 ∗ dutyTok ER (recvCell d (par (s + 1)) (nbr d c)) (s / 2) 0
    ∗ dutyTok ER (creditCell d (nbr (!d) c)) 0 s ∗ dutyTok ER (barCell (nbr (!d) c)) s (side d))

theorem paid_eq : bigSep toks (fun x => (dutyTok ER x.1 x.2.1 x.2.2 : sProp 𝕄))
    = bigSep Finset.univ fun c : Dev nD => bigSep Finset.univ fun x : DS => paid x.1 x.2.val c := by
  unfold toks
  rw [bigSep_map, bigSep_univ_prod, bigSep_swap (fun (c : Dev nD) (x : DS) => (paid x.1 x.2.val c : sProp 𝕄))]
  refine bigSep_congr fun x _ => ?_
  obtain ⟨d, s⟩ := x
  rw [bigSep_univ_prod]
  have e : (fun c : Dev nD => bigSep Finset.univ fun k : Fin 4 => (dutyTok ER (tokEmb ((d, s), c, k)).1 (tokEmb ((d, s), c, k)).2.1 (tokEmb ((d, s), c, k)).2.2 : sProp 𝕄))
      = fun c => iprop(dutyTok ER (sendCell d (par s.val) c) (s.val / 2) 0 ∗ dutyTok ER (recvCell d (par (s.val + 1)) c) (s.val / 2) 0
        ∗ dutyTok ER (creditCell d c) 0 s.val ∗ dutyTok ER (barCell c) s.val (side d)) :=
    funext fun c => bigSep_four _
  rw [e]
  unfold paid
  simp only [bigSep_sep']
  rw [bigSep_univ_equiv (nbrEquiv d) (fun c : Dev nD => (dutyTok ER (recvCell d (par (s.val + 1)) c) (s.val / 2) 0 : sProp 𝕄)),
    bigSep_univ_equiv (nbrEquiv (!d)) (fun c : Dev nD => (dutyTok ER (creditCell d c) 0 s.val : sProp 𝕄)),
    bigSep_univ_equiv (nbrEquiv (!d)) (fun c : Dev nD => (dutyTok ER (barCell c) s.val (side d) : sProp 𝕄))]
  rfl

/-- The rights to write into a neighbour's halves, by direction and step. -/
def wrEmb : DS × Dev nD ↪ Key × ℕ :=
  ⟨fun x => ((x.2, x.1.1, par (x.1.2.val + 1)), x.1.2.val / 2), by
    rintro ⟨⟨d, s⟩, c⟩ ⟨⟨d', s'⟩, c'⟩ h
    have hc : c = c' := congrArg (fun t : Key × ℕ => t.1.1) h
    have hd : d = d' := congrArg (fun t : Key × ℕ => t.1.2.1) h
    have hp : (s.val + 1) % 2 = (s'.val + 1) % 2 := congrArg (fun t : Key × ℕ => t.1.2.2.val) h
    have hr : s.val / 2 = s'.val / 2 := congrArg (fun t : Key × ℕ => t.2) h
    rw [hc, hd, show s = s' from Fin.ext (by omega)]⟩

theorem written : bigSep (Finset.univ ×ˢ Finset.range 16) (fun x : Key × ℕ => (writeTok ES x.1 (x.2 + 1) : sProp 𝕄))
    ⊢ bigSep Finset.univ fun c : Dev nD => bigSep Finset.univ fun x : DS => writeTok ES (nbr x.1 c, x.1, par (x.2.val + 1)) (x.2.val / 2 + 1) := by
  have hs : Finset.univ.map wrEmb ⊆ (Finset.univ ×ˢ Finset.range 16 : Finset (Key × ℕ)) := by
    intro y hy
    obtain ⟨⟨⟨d, s⟩, c⟩, -, rfl⟩ := Finset.mem_map.mp hy
    exact Finset.mem_product.mpr ⟨Finset.mem_univ _, Finset.mem_range.mpr (show s.val / 2 < 16 by omega)⟩
  refine BI.Entails.trans (bigSep_subset hs) (Entails.of_eq (PROP := sProp 𝕄) ?_)
  rw [bigSep_map, bigSep_univ_prod,
    bigSep_swap (fun (c : Dev nD) (x : DS) => (writeTok ES (nbr x.1 c, x.1, par (x.2.val + 1)) (x.2.val / 2 + 1) : sProp 𝕄))]
  refine bigSep_congr fun x _ => ?_
  exact bigSep_univ_equiv (nbrEquiv x.1) (fun c : Dev nD => (writeTok ES (c, x.1, par (x.2.val + 1)) (x.2.val / 2 + 1) : sProp 𝕄))

/-! ## Credits -/

/-- What a device may wait for, in a direction, at a step. -/
def credStep (d : Bool) (s : ℕ) (c : Dev nD) : sProp 𝕄 :=
  iprop(cred (tallyAt (recvCell d (par (s + 1)) c) s N) ∗ (if s = 0 then iprop(emp) else cred (tallyAt (creditCell d c) (s - 1) 1)))

theorem launched_recv (d : Bool) (s : ℕ) (c : Dev nD) :
    (Pipeline.launchCred (oweRecv d s) c : sProp 𝕄) ⊢ cred (tallyAt (recvCell d (par (s + 1)) c) s N) :=
  Pipeline.launchCred_tallyAt _ (nbr d) (nbr (!d)) (nbr_nbr' d) (nbr_nbr d) s N c
theorem launched_credit (d : Bool) (s : ℕ) (c : Dev nD) :
    (Pipeline.launchCred (oweCredit d s) c : sProp 𝕄) ⊢ if s < 30 then cred (tallyAt (creditCell d c) s 1) else iprop(emp) := by
  by_cases h : s < 30
  · rw [if_pos h, show oweCredit d s = fun e => tallyAt (creditCell d (nbr (!d) e)) s 1 from funext fun e => if_pos h]
    exact Pipeline.launchCred_tallyAt _ (nbr (!d)) (nbr d) (nbr_nbr d) (nbr_nbr' d) s 1 c
  · rw [if_neg h]; iintro -; iempintro
theorem launched_bar (d : Bool) (c : Dev nD) :
    (Pipeline.launchCred (fun e => tallyAt (barCell (nbr d e)) 0 1) c : sProp 𝕄) ⊢ cred (tallyAt (barCell c) 0 1) :=
  Pipeline.launchCred_tallyAt _ (nbr d) (nbr (!d)) (nbr_nbr' d) (nbr_nbr d) 0 1 c

theorem launched_step (s : ℕ) (c : Dev nD) : (Pipeline.launchCred (fun e => oweStep e s) c : sProp 𝕄)
    ⊢ iprop((cred (tallyAt (recvCell false (par (s + 1)) c) s N) ∗ cred (tallyAt (recvCell true (par (s + 1)) c) s N))
      ∗ (if s < 30 then cred (tallyAt (creditCell false c) s 1) else iprop(emp)) ∗ (if s < 30 then cred (tallyAt (creditCell true c) s 1) else iprop(emp))) := by
  have e : (fun e => oweStep e s) = fun e : Dev nD => ((oweCredit true s e + oweCredit false s e) + oweRecv true s e) + oweRecv false s e := rfl
  rw [e, Pipeline.launchCred_add, Pipeline.launchCred_add, Pipeline.launchCred_add]
  iintro ⟨⟨⟨H1, H2⟩, H3⟩, H4⟩
  ihave H1 := (launched_credit (F := F) true s c) $$ H1
  ihave H2 := (launched_credit (F := F) false s c) $$ H2
  ihave H3 := (launched_recv (F := F) true s c) $$ H3
  ihave H4 := (launched_recv (F := F) false s c) $$ H4
  isplitl [H3 H4]
  · isplitl [H4] <;> iassumption
  isplitl [H2] <;> iassumption

/-- The launch's credit, as the steps spend it. -/
theorem creds (c : Dev nD) : (Pipeline.launchCred O₀ c : sProp 𝕄)
    ⊢ iprop(cred (tallyAt (barCell c) 0 2) ∗ bigSep (Finset.range 31) fun s => iprop(credStep false s c ∗ credStep true s c)) := by
  have e : (O₀ : Dev nD → CellTallies nD τ sig ℕ)
      = fun e => ((∑ s ∈ Finset.range 31, oweStep e s) + tallyAt (barCell (nbr false e)) 0 1) + tallyAt (barCell (nbr true e)) 0 1 := by
    funext e; unfold O₀ oweFrom; rw [Finset.range_eq_Ico]
  rw [e, Pipeline.launchCred_add, Pipeline.launchCred_add, Pipeline.launchCred_sum]
  have hs : (bigSep (Finset.range 31) fun s => (Pipeline.launchCred (fun e => oweStep e s) c : sProp 𝕄))
      ⊢ bigSep (Finset.range 31) fun s => iprop(credStep false s c ∗ credStep true s c) := by
    refine BI.Entails.trans (bigSep_mono fun s _ => launched_step s c) (show _ ⊢ (_ : sProp 𝕄) from ?_)
    have h (d : Bool) := bigSep_shift (F := F) (fun s => cred (tallyAt (creditCell d c) s 1))
    unfold credStep
    simp only [bigSep_sep']
    iintro ⟨⟨H1, H2⟩, H3, H4⟩
    ihave H3 := (h false) $$ H3
    ihave H4 := (h true) $$ H4
    isplitl [H1 H3]
    · isplitl [H1] <;> iassumption
    isplitl [H2] <;> iassumption
  have h2 : iprop(cred (tallyAt (barCell c) 0 1) ∗ cred (tallyAt (barCell c) 0 1)) ⊢ (cred (tallyAt (barCell c) 0 2) : sProp 𝕄) := by
    rw [show 2 = 1 + 1 from rfl, ← tallyAt_add]; exact (cred_add _ _).2
  iintro ⟨⟨H1, H2⟩, H3⟩
  ihave H2 := (launched_bar (F := F) false c) $$ H2
  ihave H3 := (launched_bar (F := F) true c) $$ H3
  isplitl [H2 H3]
  · iapply h2
    isplitl [H2] <;> iassumption
  iapply hs; iexact H1

/-! ## All of it, device by device -/

/-- Tokens, rights to write and credits of a device are what its steps spend. -/
theorem spend_intro (c : Dev nD) :
    iprop((atPos ER (barCell c) 0 ∅ 0 ∗ reached ER (barCell (nbr true c)) 0 ∗ reached ER (barCell (nbr false c)) 0)
      ∗ (bigSep Finset.univ fun x : DS => paid x.1 x.2.val c)
      ∗ (bigSep Finset.univ fun x : DS => writeTok ES (nbr x.1 c, x.1, par (x.2.val + 1)) (x.2.val / 2 + 1))
      ∗ cred (tallyAt (barCell c) 0 2) ∗ bigSep (Finset.range 31) fun s => iprop(credStep false s c ∗ credStep true s c))
      ⊢ (spend c : sProp 𝕄) := by
  have hp : (bigSep Finset.univ fun x : DS => (paid x.1 x.2.val c : sProp 𝕄))
      = iprop(bigSep (Finset.range 31) (fun s => paid false s c) ∗ bigSep (Finset.range 31) (fun s => paid true s c)) := by
    rw [bigSep_univ_prod, bigSep_bool]
    exact congrArg₂ (fun a b => iprop(a ∗ b)) (bigSep_steps fun s => paid false s c) (bigSep_steps fun s => paid true s c)
  have hw : (bigSep Finset.univ fun x : DS => (writeTok ES (nbr x.1 c, x.1, par (x.2.val + 1)) (x.2.val / 2 + 1) : sProp 𝕄))
      = iprop(bigSep (Finset.range 31) (fun s => writeTok ES (nbr false c, false, par (s + 1)) (s / 2 + 1))
        ∗ bigSep (Finset.range 31) (fun s => writeTok ES (nbr true c, true, par (s + 1)) (s / 2 + 1))) := by
    rw [bigSep_univ_prod, bigSep_bool]
    exact congrArg₂ (fun a b => iprop(a ∗ b)) (bigSep_steps fun s => writeTok ES (nbr false c, false, par (s + 1)) (s / 2 + 1))
      (bigSep_steps fun s => writeTok ES (nbr true c, true, par (s + 1)) (s / 2 + 1))
  have hb (e : Dev nD) (j : ℕ) : (bigSep (Finset.range 31) fun s => (dutyTok ER (barCell e) s j : sProp 𝕄))
      ⊢ dutyTok ER (barCell e) 0 j := bigSep_elim (Finset.mem_range.mpr (by decide))
  have hc (d : Bool) : (bigSep (Finset.range 31) fun s => (dutyTok ER (creditCell d (nbr (!d) c)) 0 s : sProp 𝕄))
      ⊢ bigSep (Finset.range 31) fun s => creditTok d s c := bigSep_mono fun s _ => show _ ⊢ (_ : sProp 𝕄) from by
    unfold creditTok
    by_cases h : s < 30
    · rw [if_pos h]
    · rw [if_neg h]; iintro -; iempintro
  rw [hp, hw]
  unfold spend stepToks paid credStep
  simp only [bigSep_sep']
  iintro ⟨⟨Ha, Hr1, Hr2⟩, ⟨⟨Hs1, Hv1, Hc1, Hb1⟩, ⟨Hs2, Hv2, Hc2, Hb2⟩⟩, ⟨Hw1, Hw2⟩, Hcb, ⟨⟨Hx1, Hy1⟩, ⟨Hx2, Hy2⟩⟩⟩
  ihave Hb1 := (show _ ⊢ (dutyTok ER (barCell (nbr true c)) 0 0 : sProp 𝕄) from hb (nbr (!false) c) (side false)) $$ Hb1
  ihave Hb2 := (show _ ⊢ (dutyTok ER (barCell (nbr false c)) 0 1 : sProp 𝕄) from hb (nbr (!true) c) (side true)) $$ Hb2
  ihave Hc1 := (hc false) $$ Hc1
  ihave Hc2 := (hc true) $$ Hc2
  isplitl [Ha Hr1 Hr2 Hb1 Hb2 Hcb]
  · isplitl [Ha]; · iexact Ha
    isplitl [Hr1]; · iexact Hr1
    isplitl [Hr2]; · iexact Hr2
    isplitl [Hb1]; · iexact Hb1
    isplitl [Hb2]; · iexact Hb2
    iexact Hcb
  isplitl [Hs1 Hv1 Hc1 Hw1 Hx1 Hy1]
  · isplitl [Hv1]; · iexact Hv1
    isplitl [Hs1]; · iexact Hs1
    isplitl [Hw1]; · iexact Hw1
    isplitl [Hc1]; · iexact Hc1
    isplitl [Hx1] <;> iassumption
  isplitl [Hv2]; · iexact Hv2
  isplitl [Hs2]; · iexact Hs2
  isplitl [Hw2]; · iexact Hw2
  isplitl [Hc2]; · iexact Hc2
  isplitl [Hx2] <;> iassumption

end Cert.KernelIdeal.Ring
-- ==== Proof.Launch.lean ====
/- The run of the whole program, from the launch to the end: what is handed out, the host's operations, the kernel. -/
module

public import proofs.«01_k».proof.Proof.Deal
public import proofs.«01_k».proof.Proof.Gen.KernelIdeal.Frame

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg BodyObligation cellOf ucRefs)
open Cert.KernelIdeal
open Facts₀ Facts

variable {F : FTy → Type} [FloatOps F]

local notation "𝕄" => MT nD τ sig ℕ (Elt F) ℕ UU ℕ

variable (m : (ℓ : Loc nD τ sig) → Buf (Elt F) ℓ) (ρ : Dev nD → PrngReg)

/-! ## The region -/

abbrev adm : (p : Fin 1) → (pcfgs (F := F) p).Adm := fun p => (cfgs p).toPCfg_adm
def pdats : (p : Fin 1) → (c : Dev nD) → Pipeline.Dat τ (Elt F) ℕ ℕ UU ℕ (Pipeline.pin (pcfgs (F := F)) adm p) c
  | 0 => dat m

/-- What every buffer of a device holds after the kernel. -/
def V₂ (c : Dev nD) : Valuation τ sig (Elt F) := Function.update (V₁ m c) (main_v12 : DevRef τ sig) (res m c)

/-- The slots' readers on a device. -/
def readers (d : Bool) (c : Dev nD) : sProp 𝕄 := iprop(readerAt ES (c, d, 0) 0 ∗ readerAt ES (c, d, 1) 0)

/-- What is kept for the kernel from the launch on. -/
def Tk (c : Dev nD) : sProp 𝕄 :=
  iprop(∃ K ιs, recs (sums m) K ιs ∗ (opens false c ∗ opens true c) ∗ (readers false c ∗ readers true c) ∗ spend c)
/-- The same once the scoped semaphores are there. -/
def Xk (c : Dev nD) : sProp 𝕄 := iprop(∃ K ιs, begun (sums m) K ιs c)
def Yk (c : Dev nD) : sProp 𝕄 := semVal (barCell c) 0

/-- A scoped semaphore enters the protocol. -/
theorem open_one (A : Bool → ℕ → Dev nD → FVec F S128x4096 .f32) (K : GSem nD τ sig → ℕ) (ιs : Key → ℕ) (c : Dev nD) (sm : SemLoc sig) (h : kind sm ≠ .none) :
    iprop(recs A K ιs ∗ openTok ER ((c : Thread nD τ), sm) ∗ semVal ((c : Thread nD τ), sm) 0)
      ⊢ (|={Set.univ}=> iprop(atPos ER ((c : Thread nD τ), sm) 0 ∅ 0 ∗ reached ER ((c : Thread nD τ), sm) 0) : sProp 𝕄) := by
  have ho : iprop(cellInv ER (Rd A) (K ((c : Thread nD τ), sm)) ((c : Thread nD τ), sm) ∗ openTok ER ((c : Thread nD τ), sm) ∗ semVal ((c : Thread nD τ), sm) 0)
      ⊢ (|={Set.univ}=> iprop(atPos ER ((c : Thread nD τ), sm) 0 ∅ 0 ∗ reached ER ((c : Thread nD τ), sm) 0) : sProp 𝕄) :=
    Rounds.cell_open ER (Rd A) (Set.mem_univ _)
  iintro ⟨#Hr, Ho, Hv⟩
  iapply ho
  isplitr; · iapply (recs_cell A K ιs c sm h); iexact Hr
  isplitl [Ho] <;> iassumption

/-- All of a direction's. -/
theorem open_dir (A : Bool → ℕ → Dev nD → FVec F S128x4096 .f32) (K : GSem nD τ sig → ℕ) (ιs : Key → ℕ) (d : Bool) (c : Dev nD) :
    iprop(recs A K ιs ∗ opens d c ∗ semsZero d c ∗ readers d c) ⊢ (|={Set.univ}=> dirPre d c : sProp 𝕄) := by
  have hs (p : Fin 2) := open_one A K ιs c (.dma (semOf (sendA d) p)) (by rw [kind_send]; exact nofun)
  have hv (p : Fin 2) := open_one A K ιs c (.dma (semOf (recvA d) p)) (by rw [kind_recv]; exact nofun)
  have hc := open_one A K ιs c (.reg (creditA d).sem) (by rw [kind_credit]; exact nofun)
  unfold opens semsZero readers dirPre sendAt recvAt
  iintro ⟨#Hr, ⟨Ho1, Ho2, Ho3, Ho4, Ho5⟩, ⟨Hv1, Hv2, Hv3, Hv4, Hv5⟩, Hrd⟩
  imod (hs 0) $$ [Ho1 Hv1] with H1
  · isplitr; · iexact Hr
    isplitl [Ho1] <;> iassumption
  imod (hs 1) $$ [Ho2 Hv2] with H2
  · isplitr; · iexact Hr
    isplitl [Ho2] <;> iassumption
  imod (hv 0) $$ [Ho3 Hv3] with H3
  · isplitr; · iexact Hr
    isplitl [Ho3] <;> iassumption
  imod (hv 1) $$ [Ho4 Hv4] with H4
  · isplitr; · iexact Hr
    isplitl [Ho4] <;> iassumption
  imod hc $$ [Ho5 Hv5] with H5
  · isplitr; · iexact Hr
    isplitl [Ho5] <;> iassumption
  imodintro
  isplitl [H1]; · iexact H1
  isplitl [H2]; · iexact H2
  isplitl [H4]; · iexact H4
  isplitl [H3]; · iexact H3
  isplitl [H5]; · iexact H5
  iexact Hrd

theorem hopen (c : Dev nD) : iprop(Tk m c ∗ Pipeline.ownSems0 osem c ∗ levAts L lv) ⊢ (|={Set.univ}=> Xk m c : sProp 𝕄) := by
  rw [ownSems0_eq]
  unfold Tk Xk
  iintro ⟨⟨%K, %ιs, #Hr, ⟨Ho1, Ho2⟩, ⟨Hrd1, Hrd2⟩, Hsp⟩, ⟨Hz1, Hz2⟩, -⟩
  imod (open_dir (sums m) K ιs false c) $$ [Ho1 Hrd1 Hz1] with H1
  · isplitr; · iexact Hr
    isplitl [Ho1]; · iexact Ho1
    isplitl [Hz1] <;> iassumption
  imod (open_dir (sums m) K ιs true c) $$ [Ho2 Hrd2 Hz2] with H2
  · isplitr; · iexact Hr
    isplitl [Ho2]; · iexact Ho2
    isplitl [Hz2] <;> iassumption
  imodintro
  iexists K; iexists ιs
  unfold begun
  isplitr; · iexact Hr
  isplitl [H1]; · iexact H1
  isplitl [H2] <;> iassumption

theorem kitP : Pipeline.PLaunchFacts (nD := nD) (τ := τ) (pcfgs (F := F)) 0 := Pipeline.LaunchFacts.toP Gen.launch0

/-- Everything owed lies above the staging. -/
theorem above_start (c : Dev nD) : Above 1 (O₀ c) := by
  have hb (e : Dev nD) : Above 1 (tallyAt (barCell e) 0 1) :=
    Above.tally (by rw [L_tc]; exact Finset.mem_range.mpr (by decide)) (by rw [lv_bar])
  exact (((above_from c 0).mono (by omega)).add (hb _)).add (hb _)

theorem staging_kind : ∀ (w : Fin 5) (s : Fin ((spec0 w).nbuf)), kind (.dma ((spec0 w).sem s)) = .none := by decide

theorem cut (c : Dev nD) (t : Fin ((Pipeline.pin (pcfgs (F := F)) adm 0).N + 1)) (g : GSem nD τ sig) (i : ℕ) (h : 0 < (pdats (F := F) m 0 c).owed t g i) :
    i ∈ L g ∧ (0 : ℕ) < lv g i := by
  have e : (pdats (F := F) m 0 c).owed t = if t.val = 0 then O₀ c else 0 := rfl
  rw [e] at h
  split at h
  · exact above_start c g i h
  · exact absurd h (Nat.lt_irrefl 0)

theorem owed_zero (c : Dev nD) : (pdats (F := F) m 0 c).owed 0 = O₀ c := by
  show (if ((0 : Fin (cfg0.N + 1)).val = 0) then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from Gen.N_0]; decide)]
theorem inv_zero (c : Dev nD) : (pdats (F := F) m 0 c).Φ 0 = before m c := by
  show (if ((0 : Fin (cfg0.N + 1)).val = 0) then before m c else after c) = before m c; exact if_pos rfl
theorem inv_last (c : Dev nD) : (pdats (F := F) m 0 c).Φ (Fin.last _) = after c := by
  show (if (Fin.last cfg0.N).val = 0 then before m c else after c) = after c
  rw [Fin.val_last, if_neg (by rw [show cfg0.N = 1 from Gen.N_0]; decide)]

theorem scoped_eq (c : Dev nD) :
    (Pipeline.scopedRest (Ix := ℕ) (Name := ℕ) (U := UU) (Lvl := ℕ) (Val := Elt F) spec0 c : sProp 𝕄) = iprop(scrAny false c ∗ scrAny true c) :=
  Gen.scopedRest0_eq c
theorem held_none (c : Dev nD) (W : Valuation τ sig (Elt F)) : (StableHlo.held (c : Thread nD τ) ∅ W : sProp 𝕄) = BI.emp := by
  unfold StableHlo.held; exact BI.bigSep_empty

theorem hin (c : Dev nD) : iprop(Pipeline.scopedRest (Pipeline.pin (pcfgs (F := F)) adm 0).spec c ∗ (∃ r, prngReg c r) ∗ StableHlo.held (c.tc : Thread nD τ) ∅ (V₁ m c) ∗ Xk m c)
    ⊢ (pdats m 0 c).Φ 0 := by
  rw [inv_zero, held_none]
  show iprop(Pipeline.scopedRest spec0 c ∗ (∃ r, prngReg c r) ∗ emp ∗ Xk m c) ⊢ before m c
  rw [scoped_eq]
  unfold before Xk
  iintro ⟨⟨Hs1, Hs2⟩, Hp, -, Hb⟩
  isplitl [Hb]; · iexact Hb
  isplitl [Hs1]; · iexact Hs1
  isplitl [Hs2] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c) ∗ Pipeline.ownSems0 osem c ∗ Yk c) := by
  rw [inv_last, held_none, ownSems0_eq]
  show after c ⊢ iprop(Pipeline.scopedRest spec0 c ∗ (∃ r, prngReg c r) ∗ emp ∗ (semsZero false c ∗ semsZero true c) ∗ Yk c)
  rw [scoped_eq]
  unfold after ended Yk
  iintro ⟨⟨Hb, Hz1, Hz2⟩, Hs1, Hs2, Hp⟩
  isplitl [Hs1 Hs2]; · isplitl [Hs1] <;> iassumption
  isplitl [Hp]; · iexact Hp
  isplitr; · iempintro
  isplitl [Hz1 Hz2]; · isplitl [Hz1] <;> iassumption
  iexact Hb

theorem share_eq (c : Dev nD) (w : Fin cfg0.W) : (dat m c).share w = fullShare := by unfold Dat.share; split <;> rfl

/-- The result's buffer, its one block, all of it, read back is what the body left in the staging buffer. -/
theorem out_read (c : Dev nD) : (win0_4.blk (0 : Fin 1)).view.read (Elt F) ((dat m c).arrAt (4 : Fin 5) cfg0.N) = res m c := by
  rw [show cfg0.N = ((0 : Fin 1) : Fin cfg0.N).val + 1 from rfl, (dat m c).arrAt_succ (4 : Fin 5) (0 : Fin 1)]
  rw [show (cfg0.win (4 : Fin 5)).flush (0 : Fin 1) = true from by decide, if_pos rfl]
  exact View.read_write_univ _ _
theorem out_eq (c : Dev nD) : (dat m c).arrAt (4 : Fin 5) cfg0.N = res m c := by
  have hz : (fun a => (win0_4.index (0 : Fin 1)) a * main_v12.ty.shape.size a) = fun _ => 0 :=
    funext fun a => by fin_cases a <;> decide
  have hr := fun f => Memref.read_access_unit_zero (Elt F) main_v12 hz (fun a => by fin_cases a <;> decide) f
  have ho := out_read m c
  rw [hr] at ho
  exact ho

theorem V₂_out (c : Dev nD) : V₂ m c (main_v12 : DevRef τ sig) = res m c := Function.update_self ..
theorem V₂_of_ne (c : Dev nD) (b : DevRef τ sig) (h : b ≠ (main_v12 : DevRef τ sig)) : V₂ m c b = V₁ m c b := Function.update_of_ne h ..

/-- What the arrays hold after the kernel. -/
theorem hW' (c : Dev nD) (w : Fin 5) : (dat m c).arrAt w cfg0.N = V₂ m c (Proc.devRef .tc (Pipeline.arrRef spec0 w)) := by
  match w with
  | 0 => exact ((dat m c).arrAt_in (0 : Fin 5) rfl _).trans (V₂_of_ne m c (main_v1 : DevRef τ sig) (by decide)).symm
  | 1 => exact ((dat m c).arrAt_in (1 : Fin 5) rfl _).trans (V₂_of_ne m c (main_v11 : DevRef τ sig) (by decide)).symm
  | 2 => exact ((dat m c).arrAt_in (2 : Fin 5) rfl _).trans (V₂_of_ne m c (main_arg0 : DevRef τ sig) (by decide)).symm
  | 3 => exact ((dat m c).arrAt_in (3 : Fin 5) rfl _).trans (V₂_of_ne m c (main_arg1 : DevRef τ sig) (by decide)).symm
  | 4 => exact (out_eq m c).trans (V₂_out m c).symm

theorem out_mem : (main_v12 : DevRef τ sig) ∈ Pipeline.arrRefs (τ := τ) spec0 :=
  Finset.mem_map.mpr ⟨main_v12, Finset.mem_image.mpr ⟨(4 : Fin 5), Finset.mem_univ _, rfl⟩, rfl⟩

/-- A device's buffers other than the arrays. -/
abbrev others : Finset (DevRef τ sig) := ucRefs τ sig \ Pipeline.arrRefs (τ := τ) spec0

set_option backward.isDefEq.respectTransparency.types false in
def reg : Pipeline.RegionSeg (pcfgs (F := F)) adm (pdats m) 0 defs₀ 𝒱₀ L lv 0 :=
  Pipeline.RegionSeg.ofTalk (pcfgs (F := F)) adm (pdats m) 0 defs₀ 𝒱₀ L lv 0 osem ownSemFacts
    ∅ others (Finset.empty_subset _) kitP rfl (fun c => (body_obligation m c).loose)
    (fun _ => 0) O₀ (fun c => (owed_zero m c).trans (zero_add _).symm) (owed_last m) (fun _ => rfl) (share_eq m)
    (V₁ m) (V₂ m) (fun c b hb => V₂_of_ne m c b fun h => (Finset.mem_sdiff.mp (Finset.mem_sdiff.mp hb).1).2 (h ▸ out_mem))
    (Tk m) Yk (Xk m) Yk (hopen m) (hin m) (hout m)
    (fun c => by iintro H; imodintro; iexact H)
    (fun _ => 0)
    ⟨fun c w s => by rw [L_tc]; exact Finset.mem_range.mpr (by decide),
      fun c w s => by
        show lv ((c : Thread nD τ), .dma ((spec0 w).sem s)) 0 ≤ 0
        dsimp only [lv]; rw [staging_kind w s],
      fun c t g i h => cut m c t g i h⟩
    (fun _ => iprop(emp))
    (fun _ _ => rfl) (hW' m)

/-! ## The segments -/

/-- What rides beside the buffers up to the kernel. -/
def R (c : Dev nD) : sProp 𝕄 := iprop(Tk m c ∗ (∃ r, prngReg c r) ∗ ∃ W, owes (c : Thread nD τ) (O₀ c) W)

def seg0 : Pipeline.HostSeg (Name := ℕ) (U := UU) (pcfgs (F := F)) defs₀ 𝒱₀ L lv :=
  Pipeline.HostSeg.ofOps _ _ _ _ _ (ucRefs τ sig) Gen.hostOps0
    (fun op h => Pipeline.sub_ucRefs op ((List.forall_iff_forall_mem.mp Gen.hostOps0_sub) op h))
    (fun op h => (List.forall_iff_forall_mem.mp Gen.hostOps0_fresh) op h) (V₀ m) (R m)

theorem arrs_sub : Pipeline.arrRefs (τ := τ) spec0 ⊆ ucRefs τ sig := Pipeline.arrRefs_sub_ucRefs spec0 (by decide)

theorem reg_pre (c : Dev nD) : iprop(StableHlo.held (c : Thread nD τ) (ucRefs τ sig) (V₁ m c) ∗ R m c) ⊢ (reg m).pre c := by
  show _ ⊢ iprop(StableHlo.held (c.tc : Thread nD τ) (Pipeline.arrRefs (τ := τ) spec0) (V₁ m c) ∗ (∃ r, prngReg c r)
    ∗ (StableHlo.held (c.tc : Thread nD τ) others (V₁ m c) ∗ emp) ∗ Tk m c ∗ ∃ Wd, owes (c : Thread nD τ) (0 + O₀ c) Wd)
  rw [zero_add, StableHlo.held_sub_split (c.tc : Thread nD τ) arrs_sub (V₁ m c)]
  unfold R
  iintro ⟨⟨Ha, Hh⟩, HT, Hp, HO⟩
  isplitl [Ha]; · iexact Ha
  isplitl [Hp]; · iexact Hp
  isplitl [Hh]
  · isplitl [Hh]; · iexact Hh
    iempintro
  isplitl [HT] <;> iassumption

/-- What a device ends with. -/
abbrev Tₙ (c : Dev nD) : sProp 𝕄 := iprop(StableHlo.held (c : Thread nD τ) (ucRefs τ sig) (V₂ m c) ∗ semVal (barCell c) 0)
/-- What it starts with. -/
abbrev T₀ (c : Dev nD) : sProp 𝕄 := iprop(StableHlo.held (c : Thread nD τ) (ucRefs τ sig) (V₀ m c) ∗ R m c)

theorem reg_post (c : Dev nD) : (reg m).post c ⊢ iprop(Tₙ m c ∗ ∃ W, owes (c : Thread nD τ) (0 : CellTallies nD τ sig ℕ) W) := by
  show iprop(StableHlo.held (c.tc : Thread nD τ) (Pipeline.arrRefs (τ := τ) spec0) (V₂ m c) ∗ (∃ r, prngReg c r)
    ∗ (StableHlo.held (c.tc : Thread nD τ) others (V₂ m c) ∗ emp) ∗ Yk c ∗ ∃ Wd, owes (c : Thread nD τ) (0 : CellTallies nD τ sig ℕ) Wd) ⊢ _
  unfold Tₙ Yk
  rw [StableHlo.held_sub_split (c.tc : Thread nD τ) arrs_sub (V₂ m c)]
  iintro ⟨Ha, -, ⟨Hh, -⟩, Hb, HO⟩
  isplitl [Ha Hh Hb]
  · isplitl [Ha Hh]; · isplitl [Ha] <;> iassumption
    iexact Hb
  iexact HO

def segs : List (Pipeline.Seg (pcfgs (F := F)) adm (pdats m) 0 defs₀ 𝒱₀ L lv) := [.host (seg0 m), .region (reg m)]

theorem main_eq (c : Dev nD) : main (F := F) c = Pipeline.Seg.run (segs m) :=
  Gen.main_segs adm (pdats m) 0 𝒱₀ L lv (seg0 m) (reg m) rfl c

end Cert.KernelIdeal.Ring
-- ==== Proof.Start.lean ====
/- What every device is handed when the program is launched, and the run of the program from any memory. -/
module

public import proofs.«01_k».proof.Proof.Launch
public import Idealize.ShloMosaic.Harness.Basic

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg BodyObligation cellOf ucRefs)
open Cert.KernelIdeal
open Facts₀ Facts

variable {F : FTy → Type} [FloatOps F]

local notation "𝕄" => MT nD τ sig ℕ (Elt F) ℕ UU ℕ

variable (m : (ℓ : Loc nD τ sig) → Buf (Elt F) ℓ) (ρ : Dev nD → PrngReg)

/-- Different staging semaphores name different cells. -/
theorem stage_inj : Function.Injective (cellOf (nD := nD) (τ := τ) (Pipeline.pin (pcfgs (F := F)) adm)) := Gen.cellOf_inj

/-- The rings' part of the launch element: the rounds of every cell with their tokens, the slots with their permissions. -/
def rings₀ : UB := ((launchOf barCells scopedCells toks, initSlots (Finset.univ : Finset Key) 16) : URounds (GSem nD τ sig) ℕ × USlots Key)
/-- The launch element. -/
def u₀ : UU :=
  (initOf (Pipeline.cells (Pipeline.pin (pcfgs (F := F)) adm) stage_inj) (Pipeline.launchToks (Pipeline.pin (pcfgs (F := F)) adm) stage_inj), rings₀)

/-- The device that holds the rings' part until it is dealt out. -/
abbrev dealer : Dev nD := ⟨0, by decide⟩
/-- The rings' part, on the dealer alone. -/
def held₀ (c : Dev nD) : sProp 𝕄 := if c = dealer then BI.own ((embR : Emb UB (MT nD τ sig ℕ (Elt F) ℕ UU ℕ)) rings₀) else iprop(emp)
theorem held₀_eq : bigSep Finset.univ (held₀ (F := F)) = BI.own ((embR : Emb UB (MT nD τ sig ℕ (Elt F) ℕ UU ℕ)) rings₀) := by
  rw [bigSep_univ_at _ dealer, bigSep_congr (s := Finset.univ.erase dealer) (Ψ := fun _ => (BI.emp : sProp 𝕄))
    (fun c hc => by unfold held₀; rw [if_neg (Finset.ne_of_mem_erase hc)]; rfl), BI.bigSep_emp_const]
  unfold held₀; rw [if_pos rfl]
  exact BI.equiv_iff.mp sep_emp

theorem split₀ : (BI.own ((embR : Emb UB (MT nD τ sig ℕ (Elt F) ℕ UU ℕ)) rings₀) : sProp 𝕄)
    ⊢ iprop(BI.own ((ER : Emb _ (MT nD τ sig ℕ (Elt F) ℕ UU ℕ)) (launchOf barCells scopedCells toks))
      ∗ BI.own ((ES : Emb _ (MT nD τ sig ℕ (Elt F) ℕ UU ℕ)) (initSlots (Finset.univ : Finset Key) 16))) :=
  own_pair_emb (F := (embR : Emb UB (MT nD τ sig ℕ (Elt F) ℕ UU ℕ))) (launchOf barCells scopedCells toks) (initSlots (Finset.univ : Finset Key) 16)

/-- What every device may consult: the invariants, and that the barriers' cells stand at their first round. -/
def shared (κ : GSem nD τ sig → ℕ) (ιs : Key → ℕ) : sProp 𝕄 :=
  iprop(recs (sums m) κ ιs ∗ bigSep barCells fun g => reached ER g 0)
instance shared_persistent (κ : GSem nD τ sig → ℕ) (ιs : Key → ℕ) : BI.Persistent (shared m κ ιs) := by unfold shared; infer_instance

theorem bar_reached (c : Dev nD) : (bigSep barCells fun g => (reached ER g 0 : sProp 𝕄)) ⊢ reached ER (barCell c) 0 :=
  bigSep_elim (Finset.mem_map_of_mem barEmb (Finset.mem_univ c))

/-- What a device alone holds of the rings' part. -/
def dealt (c : Dev nD) : sProp 𝕄 :=
  iprop(atPos ER (barCell c) 0 ∅ 0 ∗ (opens false c ∗ opens true c) ∗ (readers false c ∗ readers true c)
    ∗ (bigSep Finset.univ fun x : DS => paid x.1 x.2.val c)
    ∗ bigSep Finset.univ fun x : DS => writeTok ES (nbr x.1 c, x.1, par (x.2.val + 1)) (x.2.val / 2 + 1))
/-- What a device holds besides. -/
def bundle (c : Dev nD) : sProp 𝕄 :=
  iprop(StableHlo.held (c : Thread nD τ) (ucRefs τ sig) (V₀ m c)
    ∗ (cred (tallyAt (barCell c) 0 2) ∗ bigSep (Finset.range 31) fun s => iprop(credStep false s c ∗ credStep true s c))
    ∗ owes (c : Thread nD τ) (O₀ c) ∅ ∗ ∃ r, prngReg c r)

theorem T₀_intro (κ : GSem nD τ sig → ℕ) (ιs : Key → ℕ) (c : Dev nD) : iprop(shared m κ ιs ∗ (dealt c ∗ bundle m c)) ⊢ T₀ m c := by
  unfold shared dealt bundle T₀ R Tk
  iintro ⟨⟨#Hr, #Hb⟩, ⟨Ha, Ho, Hrd, Hp, Hw⟩, Hh, Hc, HO, Hg⟩
  isplitl [Hh]; · iexact Hh
  isplitl [Ha Ho Hrd Hp Hw Hc]
  · iexists κ; iexists ιs
    isplitr; · iexact Hr
    isplitl [Ho]; · iexact Ho
    isplitl [Hrd]; · iexact Hrd
    iapply (spend_intro c)
    isplitl [Ha]
    · isplitl [Ha]; · iexact Ha
      isplitr
      · iapply (bar_reached (F := F) (nbr true c)); iexact Hb
      · iapply (bar_reached (F := F) (nbr false c)); iexact Hb
    isplitl [Hp]; · iexact Hp
    isplitl [Hw] <;> iassumption
  isplitl [Hg]; · iexact Hg
  iexists ∅; iexact HO

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem readers_eq : bigSep Finset.univ (fun k : Key => (readerAt ES k 0 : sProp 𝕄))
    = bigSep Finset.univ fun c : Dev nD => iprop(readers false c ∗ readers true c) := by
  rw [bigSep_univ_prod]
  refine bigSep_congr fun c _ => ?_
  rw [bigSep_univ_prod, bigSep_bool, BI.bigSep_fin_two, BI.bigSep_fin_two]
  rfl

/-- What the launch gives a device, but for the rings' part. -/
theorem core_intro (c : Dev nD) :
    iprop(unscopedBufs c (fun b => m ((c : Thread nD τ).loc b)) ∗ unscopedSems0 c
        ∗ owes (c : Thread nD τ) (O₀ c) ∅ ∗ Pipeline.launchCred O₀ c ∗ prngReg c (ρ c) ∗ held₀ c)
      ⊢ (iprop(bundle m c ∗ (semVal (barCell c) 0 ∗ held₀ c)) : sProp 𝕄) := by
  rw [show unscopedBufs c (fun b => m ((c : Thread nD τ).loc b)) = StableHlo.held (c : Thread nD τ) (ucRefs τ sig) (V₀ m c)
      from Pipeline.unscopedBufs_held c (V₀ m c), unscopedSems0_eq]
  unfold bundle
  iintro ⟨Hh, Hus, HO, Hcr, Hp, HG⟩
  ihave Hc := (creds (F := F) c) $$ Hcr
  isplitr [Hus HG]
  · isplitl [Hh]; · iexact Hh
    isplitl [Hc]; · iexact Hc
    isplitl [HO]; · iexact HO
    iexists (ρ c); iexact Hp
  isplitl [Hus] <;> iassumption

/-- Everything is dealt out. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ held₀ c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hsub (κ : GSem nD τ sig → ℕ) : bigSep (barCells ∪ scopedCells) (fun g => (cellInv ER (Rd (sums m)) (κ g) g : sProp 𝕄))
      ⊢ bigSep cells (fun g => (cellInv ER (Rd (sums m)) (κ g) g : sProp 𝕄)) := bigSep_subset cells_sub
  have hslots : (BI.own ((ES : Emb _ (MT nD τ sig ℕ (Elt F) ℕ UU ℕ)) (initSlots (Finset.univ : Finset Key) 16)) : sProp 𝕄)
      ⊢ (|={Set.univ}=> ∃ ιs : Key → ℕ, ⌜Set.InjOn ιs (Finset.univ : Finset Key) ∧ ∀ k ∈ (Finset.univ : Finset Key), ιs k ∉ (∅ : Finset ℕ)⌝
          ∗ bigSep Finset.univ (fun k : Key => slotInv ES (ιs k) k (slotAt k.2.1 k.2.2 k.1))
          ∗ bigSep Finset.univ (fun k : Key => readerAt ES k 0)
          ∗ bigSep (Finset.univ ×ˢ Finset.range 16) (fun x : Key × ℕ => writeTok ES x.1 (x.2 + 1)) : sProp 𝕄) :=
    Release.slots_init ES Finset.univ 16 (fun k : Key => slotAt k.2.1 k.2.2 k.1)
  iintro ⟨H, #HL⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ held₀ c))
      ⊢ (bigSep Finset.univ fun c : Dev nD => iprop(bundle m c ∗ (semVal (barCell c) 0 ∗ held₀ c)) : sProp 𝕄)
      from bigSep_mono fun c _ => core_intro m ρ c) $$ H
  ihave H2 := Smoke.bigSep_unpair $$ H'; icases H2 with ⟨HB, H3⟩
  ihave H4 := Smoke.bigSep_unpair $$ H3; icases H4 with ⟨Hv, HG⟩
  ihave Hu := (show bigSep Finset.univ (held₀ (F := F)) ⊢ BI.own ((embR : Emb UB (MT nD τ sig ℕ (Elt F) ℕ UU ℕ)) rings₀) from
    Entails.of_eq (held₀_eq (F := F))) $$ HG
  ihave Hu2 := (split₀ (F := F)) $$ Hu
  icases Hu2 with ⟨HuR, HuS⟩
  imod (Rounds.fund_launch ER (Rd (sums m)) disjoint_cells (fun g _ h => h) toks) $$ [Hv HuR] with ⟨%κ, -, #Hinv, #Hr, Hat, Hopen, Htok⟩
  · isplitl [Hv]
    · iapply hv $$ Hv
    · iexact HuR
  imod hslots $$ HuS with ⟨%ιs, -, #Hsl, Hrd, Hwr⟩
  imodintro
  iapply (bigSep_with_persistent (R := shared m κ ιs) (Φ := fun c => iprop(dealt c ∗ bundle m c)) fun c _ => T₀_intro m κ ιs c)
  isplitr
  · unfold shared recs
    isplitr
    · isplitr; · iapply (hsub κ); iexact Hinv
      isplitr; · iexact Hsl
      iexact HL
    iexact Hr
  iapply Smoke.bigSep_pair
  isplitr [HB]
  · unfold dealt
    iapply Smoke.bigSep_pair; isplitl [Hat]; · iapply hat $$ Hat
    iapply Smoke.bigSep_pair; isplitl [Hopen]; · iapply (Entails.of_eq (opens_eq (F := F))) $$ Hopen
    iapply Smoke.bigSep_pair; isplitl [Hrd]; · iapply (Entails.of_eq (readers_eq (F := F))) $$ Hrd
    iapply Smoke.bigSep_pair; isplitl [Htok]; · iapply (Entails.of_eq (paid_eq (F := F))) $$ Htok
    iapply (written (F := F)) $$ Hwr
  · iexact HB

theorem unscoped_eq : ∀ sm : SemLoc sig, sm.isScoped .tc = false → sm = .reg barS := by decide

theorem mem_uc (b : Ref sig .tc) (hb : b.isScoped = false) : (b : DevRef τ sig) ∈ ucRefs τ sig :=
  Finset.mem_filter.mpr ⟨StableHlo.devRef_mem_tcRefs b, by rw [Proc.isScoped_devRef, hb]; exact Bool.false_ne_true⟩

set_option backward.isDefEq.respectTransparency.types false in
/-- From any memory with all counters at zero, every fair execution ends; at its end a device's arguments are unchanged,
its result is `res`, and every counter is at zero. -/
theorem run_main : θ_run defs (onTc (τ := τ) (main (F := F))) ⟨m, fun _ => 0, ρ⟩
    (fun r => (∀ c : Dev nD, r.2.mem ((c : Thread nD τ).loc main_v12) = res m c
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  Pipeline.θ_run_regions_kit_sems (pcfgs (F := F)) adm (pdats m) 0 stage_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := held₀) (u₀ := u₀ (F := F))
    (hu₀ := by
      unfold u₀
      iintro Hu
      ihave H := (ownU_pair _ _) $$ Hu
      icases H with ⟨HP, HX⟩
      imodintro
      isplitl [HP]; · iexact HP
      rw [held₀_eq (F := F)]; iexact HX)
    (T₀ := T₀ m) (Tₙ := Tₙ m)
    (hch := ⟨fun c => .rfl, fun c => reg_pre m c, fun c => reg_post m c⟩)
    (hinit := init m ρ)
    (QY := fun c s => (∀ b ∈ ucRefs τ sig, s.mem ((c : Dev nD), b) = V₂ m c b) ∧ s.sem (barCell c) = 0)
    (hfin := fun c s' => by
      dsimp only [Tₙ]; unfold StableHlo.held
      iintro ⟨⟨Hh, Hb0⟩, HSI⟩
      icombine HSI Hb0 gives %hb
      ihave Hr := (pointsTo_read_all (ucRefs τ sig) (fun b => ((c : Dev nD), b)) (fun b => V₂ m c b) s') $$ [Hh HSI]
      · isplitl [Hh] <;> iassumption
      icases Hr with ⟨%h, HSI⟩
      imodintro
      isplitr
      · ipureintro; exact ⟨h, by simpa using hb⟩
      iexact HSI)
    (hQ := fun s h hs => ⟨fun c => by
        obtain ⟨hm, -⟩ := h c
        exact ⟨(hm (main_v12 : DevRef τ sig) (mem_uc _ rfl)).trans (V₂_out m c),
          (hm (main_arg0 : DevRef τ sig) (mem_uc _ rfl)).trans ((V₂_of_ne m c _ (by decide)).trans (V₁_arg0 m c)),
          (hm (main_arg1 : DevRef τ sig) (mem_uc _ rfl)).trans ((V₂_of_ne m c _ (by decide)).trans (V₁_arg1 m c))⟩,
      sem_eq_zero hs fun c sm hsm => by
        obtain rfl := unscoped_eq sm hsm
        exact (h c).2⟩)

end Cert.KernelIdeal.Ring
-- ==== Proof.Frames.lean ====
/- The programs run, keep their arguments and end with every counter at zero. -/
module

public import proofs.«01_k».proof.Defs
public import proofs.«01_k».proof.Proof.Start
public import proofs.«01_k».proof.Proof.Gen.Kernel
public import proofs.«01_k».proof.Proof.Gen.ReferenceIdeal.Run

@[expose] public section

noncomputable section

namespace Cert.Proof

open Idealize.ShloMosaic Idealize.ShloMosaic.TcCoe Idealize.SL.Sem

/-- Over any float values: the kernel runs, keeps its arguments and leaves every counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (Cert.KernelIdeal.Ring.run_main (F := F) m ρ)

section Same

set_option maxHeartbeats 40000000
set_option maxRecDepth 1000000

/-- The two programs' bodies have the same text. -/
theorem body_same : @Cert.Kernel.cc0_body Bits _ _ = @Cert.KernelIdeal.cc0_body Bits _ _ := rfl

/-- And so have their tables of bodies, -/
theorem bodies_same : Cert.Kernel.defs₀ (F := Bits) = Cert.KernelIdeal.defs₀ (F := Bits) := by
  funext p l
  match p, l with
  | .tc, ⟨0, _⟩ =>
    funext ⟨t, s⟩
    show @Cert.Kernel.cc0_body Bits _ _ _ _ _ _ _ _ _ _ _ _ _ _ _ _ _ _ _ _ _ _ = @Cert.KernelIdeal.cc0_body Bits _ _ _ _ _ _ _ _ _ _ _ _ _ _ _ _ _ _ _ _ _ _
    rw [body_same]
  | .scScalar _, ⟨0, _⟩ => rfl
  | .scVector _ _, ⟨0, _⟩ => rfl

theorem defs_same : Cert.Kernel.defs (F := Bits) = Cert.KernelIdeal.defs (F := Bits) := by
  show Pipeline.defs Cert.Kernel.pcfgs Cert.Kernel.defs₀ = Pipeline.defs Cert.KernelIdeal.pcfgs Cert.KernelIdeal.defs₀
  rw [bodies_same]
  rfl

/-- and their main functions. -/
theorem main_same : Cert.Kernel.main (F := Bits) = Cert.KernelIdeal.main (F := Bits) := rfl

/-- The kernel at the bits of the machine's floats. -/
theorem frame_kernel : Cert.quiescent_Kernel := fun m ρ _ => by
  rw [defs_same, main_same]
  exact frame_any (F := Bits) m ρ

end Same

/-- The kernel in exact arithmetic. -/
theorem frame_kernelIdeal : Cert.quiescent_KernelIdeal := fun m ρ _ => frame_any (F := Ideal) m ρ

/-- The reference: host operations only, and no semaphore declared. -/
theorem frame_referenceIdeal : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

end Cert.Proof

end
-- ==== Proof.Sums.lean ====
/- What arrives at a device at the end, over the extended reals: the sum over all devices of their products for it. -/
module

public import proofs.«01_k».proof.Proof.Region
public import Idealize.ShloMosaic.Lib.Pointwise
public import Idealize.ShloMosaic.PureOps.Ideal.Laws

@[expose] public section

noncomputable section

namespace Cert.KernelIdeal.Ring

open Idealize.ShloMosaic Idealize.ShloMosaic.TcCoe
open Cert.KernelIdeal
open Facts₀ Facts

/-! ## One product -/

/-- The first column of a direction's half. -/
def col (d : Bool) : ℕ := match d with | false => 0 | true => 4096

/-- A device's part of the product of the arrays, at a row and a column. -/
def part (X : Vec Ideal S4096x128 .f32) (W : Vec Ideal S128x8192 .f32) (r : Fin 4096) (j : Fin 8192) : EReal :=
  ∑ k : Fin 128, X (ix2 r k) * W (ix2 k j)

/-- Where a rectangle without strides puts an index. -/
theorem unit_place {s : Shape} (off size : Fin s.rank → ℕ) (h : ∀ a, off a + size a ≤ s.size a) (j : (Rect.unit off size h).shape.Idx) (a : Fin s.rank) :
    ((Rect.unit off size h).emb j a).val = off a + (j a).val := by
  show off a + 1 * (j a).val = _
  rw [Nat.one_mul]

/-- The rows a device's product for another one takes. -/
theorem rowsOf_apply (X : Vec Ideal S4096x128 .f32) (v : Dev nD) (a : Fin 128) (k : Fin 128) (r : Fin 4096) (hr : r.val = v.val * 128 + a.val) :
    rowsOf X v (ix2 a k) = X (ix2 r k) := by
  show X ((rX v).emb (ix2 a k)) = X (ix2 r k)
  congr 1
  funext b
  apply Fin.ext
  refine (unit_place (s := S4096x128) (offX (wd v)) S128x128.size (chkX_wd v) (ix2 a k) b).trans ?_
  match b with
  | ⟨0, _⟩ => exact (congrArg (· + a.val) (congrFun (offX_wd v) 0)).trans hr.symm
  | ⟨1, _⟩ => exact (congrArg (· + k.val) (congrFun (offX_wd v) 1)).trans (Nat.zero_add _)

/-- The left half of the right operand's block, -/
theorem loOf_apply (W : Vec Ideal S128x8192 .f32) (k : Fin 128) (b : Fin 4096) (j : Fin 8192) (hj : j.val = 0 + b.val) :
    loOf W (ix2 k b) = W (ix2 k j) := by
  show W (rLo.emb (ix2 k b)) = W (ix2 k j)
  congr 1
  funext a
  apply Fin.ext
  refine (unit_place (s := S128x8192) ![0, 0] S128x4096.size inb_S128x8192_S128x4096_0_0 (ix2 k b) a).trans ?_
  match a with
  | ⟨0, _⟩ => exact Nat.zero_add _
  | ⟨1, _⟩ => exact hj.symm

/-- and the right one. -/
theorem hiOf_apply (W : Vec Ideal S128x8192 .f32) (k : Fin 128) (b : Fin 4096) (j : Fin 8192) (hj : j.val = 4096 + b.val) :
    hiOf W (ix2 k b) = W (ix2 k j) := by
  show W (rHi.emb (ix2 k b)) = W (ix2 k j)
  congr 1
  funext a
  apply Fin.ext
  refine (unit_place (s := S128x8192) ![0, 4096] S128x4096.size inb_S128x8192_S128x4096_0_4096 (ix2 k b) a).trans ?_
  match a with
  | ⟨0, _⟩ => exact Nat.zero_add _
  | ⟨1, _⟩ => exact hj.symm

/-- A device's product for another one, at an element. -/
theorem prod_apply (d : Bool) (X : Vec Ideal S4096x128 .f32) (W : Vec Ideal S128x8192 .f32) (v : Dev nD) (a : Fin 128) (b : Fin 4096) (r : Fin 4096) (j : Fin 8192)
    (hr : r.val = v.val * 128 + a.val) (hj : j.val = col d + b.val) :
    prod (F := Ideal) d X W v (ix2 a b) = part X W r j := by
  unfold prod part
  cases d
  · pointwise
    exact Finset.sum_congr rfl fun k _ => congrArg₂ (· * ·) (rowsOf_apply X v a k r hr) (loOf_apply W k b j hj)
  · pointwise
    exact Finset.sum_congr rfl fun k _ => congrArg₂ (· * ·) (rowsOf_apply X v a k r hr) (hiOf_apply W k b j hj)

/-! ## The sum along the ring -/

/-- The device that what a device sends at a step is meant for. -/
def goal (d : Bool) : ℕ → Dev nD → Dev nD
  | 0, c => nbr (!d) c
  | s + 1, c => dest d s c

/-- What a device receives is meant for the one it sends to. -/
theorem goal_back (d : Bool) (s : ℕ) (hs : s ≤ 30) (c : Dev nD) : goal d s (nbr (!d) c) = dest d s c := by
  have h : ∀ (d : Bool) (s : Fin 31) (c : Dev nD), goal d s.val (nbr (!d) c) = dest d s.val c := by decide +kernel
  exact h d ⟨s, by omega⟩ c

/-- At the end a device has what is meant for itself. -/
theorem goal_last (d : Bool) (c : Dev nD) : goal d 31 c = c := by revert d c; decide

/-- What a device sends is the sum of the products of the devices it came by, for the device it is meant for. -/
theorem acc_apply (X : Dev nD → Vec Ideal S4096x128 .f32) (W : Dev nD → Vec Ideal S128x8192 .f32) (d : Bool) (i : S128x4096.Idx) :
    ∀ (s : ℕ) (_ : s ≤ 31) (c : Dev nD), acc (F := Ideal) X W d s c i
      = (∑ t ∈ Finset.range (s + 1), prod (F := Ideal) d (X ((nbr (!d))^[t] c)) (W ((nbr (!d))^[t] c)) (goal d s c) i : EReal)
  | 0, _, c => by
    rw [Finset.sum_range_one]; rfl
  | s + 1, hs, c => by
    rw [Finset.sum_range_succ', show acc (F := Ideal) X W d (s + 1) c i
        = (acc (F := Ideal) X W d s (nbr (!d) c) i + prod (F := Ideal) d (X c) (W c) (dest d s c) i : EReal) from rfl,
      acc_apply X W d i s (by omega) (nbr (!d) c), goal_back d s (by omega) c]
    rfl

/-- Going along the ring comes by every device once. -/
theorem hops_bijective (d : Bool) (c : Dev nD) : Function.Bijective fun t : Fin 32 => (nbr (!d))^[t.val] c := by
  refine (Fintype.bijective_iff_injective_and_card _).mpr ⟨?_, rfl⟩
  have hp : ∀ t : ℕ, (pos ((nbr (!d))^[t] c)).val = ((pos c).val + (match d with | false => 31 | true => 1) * t) % 32 := by
    intro t
    induction t with
    | zero =>
      have := (pos c).isLt
      simp only [Function.iterate_zero, id_eq, Nat.mul_zero, Nat.add_zero]
      exact (Nat.mod_eq_of_lt this).symm
    | succ t ih =>
      rw [Function.iterate_succ_apply']
      cases d
      · show (pos (perm (pos _ + 31))).val = _
        rw [pos_perm, Fin.val_add, ih]
        show _ % 32 = _ % 32
        simp only [show ((31 : Fin nD) : ℕ) = 31 from rfl]
        omega
      · show (pos (perm (pos _ + 1))).val = _
        rw [pos_perm, Fin.val_add, ih]
        show _ % 32 = _ % 32
        simp only [show ((1 : Fin nD) : ℕ) = 1 from rfl]
        omega
  intro t t' h
  have h1 := hp t.val
  rw [show (nbr (!d))^[t.val] c = (nbr (!d))^[t'.val] c from h, hp t'.val] at h1
  have := t.isLt; have := t'.isLt
  apply Fin.ext
  cases d <;> simp only at h1 <;> omega

/-- What arrives at a device at the end is the sum of all devices' products for it. -/
theorem acc_all (X : Dev nD → Vec Ideal S4096x128 .f32) (W : Dev nD → Vec Ideal S128x8192 .f32) (d : Bool) (c : Dev nD) (i : S128x4096.Idx) :
    acc (F := Ideal) X W d 31 c i = (∑ e : Dev nD, prod (F := Ideal) d (X e) (W e) c i : EReal) := by
  rw [acc_apply X W d i 31 (by omega) c, goal_last, Finset.sum_range]
  exact (hops_bijective d c).sum_comp fun e => (prod (F := Ideal) d (X e) (W e) c i : EReal)

/-- The same by the rows and columns of the arrays. -/
theorem acc_parts (X : Dev nD → Vec Ideal S4096x128 .f32) (W : Dev nD → Vec Ideal S128x8192 .f32) (d : Bool) (c : Dev nD) (a : Fin 128) (b : Fin 4096)
    (r : Fin 4096) (j : Fin 8192) (hr : r.val = c.val * 128 + a.val) (hj : j.val = col d + b.val) :
    acc (F := Ideal) X W d 31 c (ix2 a b) = (∑ e : Dev nD, part (X e) (W e) r j : EReal) := by
  rw [acc_all]
  exact Finset.sum_congr rfl fun e _ => prod_apply d (X e) (W e) c a b r j hr hj

end Cert.KernelIdeal.Ring
-- ==== Proof.Clip.lean ====
/- Where the reference's clipping of the exponent changes nothing, its quotient is the kernel's product. -/
module

public import Idealize.ShloMosaic.Lib.Pointwise
public import Idealize.ShloMosaic.PureOps.Ideal.Laws

@[expose] public section

noncomputable section

namespace Cert.KernelIdeal.Ring

open Idealize.ShloMosaic

/-- The constants of the programs. -/
theorem sixty : Ideal.ofBits .f32 0x42700000#32 = ((60 : ℝ) : EReal) := by
  simp [Ideal.ofBits, Ideal.ieee]
  rw [← EReal.coe_mul]
  norm_num
theorem neg_sixty : Ideal.ofBits .f32 0xC2700000#32 = ((-60 : ℝ) : EReal) := by
  simp [Ideal.ofBits, Ideal.ieee]
  rw [← EReal.coe_mul]
  norm_num
theorem one_bits : Ideal.ofBits .f32 0x3F800000#32 = ((1 : ℝ) : EReal) := by
  simp [Ideal.ofBits, Ideal.ieee]
  rw [← EReal.coe_mul]
  norm_num
theorem bound_bits : Ideal.ofBits .f32 0x3FF00000#32 = ((1.875 : ℝ) : EReal) := by
  simp [Ideal.ofBits, Ideal.ieee]
  rw [← EReal.coe_mul]
  norm_num

/-- What is bounded is a real. -/
theorem real_of_abs_le {y : EReal} {q : ℝ} (h : max y (-y) ≤ (q : EReal)) : ∃ r : ℝ, y = (r : EReal) ∧ |r| ≤ q := by
  have h1 : y ≤ (q : EReal) := le_trans (le_max_left _ _) h
  have h2 : -y ≤ (q : EReal) := le_trans (le_max_right _ _) h
  induction y with
  | bot => exact absurd h2 (by simp)
  | top => exact absurd h1 (by simp)
  | coe r =>
    rw [← EReal.coe_neg] at h2
    exact ⟨r, rfl, abs_le.mpr ⟨by have := EReal.coe_le_coe_iff.mp h2; linarith, EReal.coe_le_coe_iff.mp h1⟩⟩

/-- A sum of reals is real, and bounded by the sum of the bounds. -/
theorem sum_abs_le {n : ℕ} (f : Fin n → EReal) (q : ℝ) (h : ∀ e, max (f e) (-f e) ≤ (q : EReal)) :
    max (∑ e, f e) (-∑ e, f e) ≤ ((n * q : ℝ) : EReal) := by
  choose g hg hq using fun e => real_of_abs_le (h e)
  have hs : ∑ e, f e = ((∑ e, g e : ℝ) : EReal) := by
    simp only [hg]
    induction (Finset.univ : Finset (Fin n)) using Finset.induction_on with
    | empty => simp
    | insert a s ha ih => rw [Finset.sum_insert ha, Finset.sum_insert ha, EReal.coe_add, ih]
  have hb : |∑ e, g e| ≤ n * q := by
    refine le_trans (Finset.abs_sum_le_sum_abs _ _) (le_trans (Finset.sum_le_sum fun e _ => hq e) ?_)
    simp
  rw [hs, ← EReal.coe_neg]
  exact max_le (EReal.coe_le_coe_iff.mpr (le_trans (le_abs_self _) hb)) (EReal.coe_le_coe_iff.mpr (le_trans (neg_le_abs _) hb))

/-- The reference's quotient. -/
def clipped (y : EReal) : EReal :=
  Ideal.div y (((1 : ℝ) : EReal) + Ideal.exp (-(min ((60 : ℝ) : EReal) (max ((-60 : ℝ) : EReal) y))))

/-- The kernel's product. -/
def gated (y : EReal) : EReal := y * Ideal.logistic y

/-- Within the clipping bounds the two agree. -/
theorem clipped_eq (y : EReal) (h : max y (-y) ≤ ((60 : ℝ) : EReal)) : clipped y = gated y := by
  obtain ⟨r, rfl, hr⟩ := real_of_abs_le h
  obtain ⟨h1, h2⟩ := abs_le.mp hr
  have hm : min ((60 : ℝ) : EReal) (max ((-60 : ℝ) : EReal) (r : EReal)) = (r : EReal) := by
    rw [max_eq_right (EReal.coe_le_coe_iff.mpr h1), min_eq_right (EReal.coe_le_coe_iff.mpr h2)]
  unfold clipped gated
  rw [hm, Ideal.logistic_coe, ← EReal.coe_neg, Ideal.exp_coe, ← EReal.coe_add, Ideal.div, if_neg, ← EReal.coe_inv]
  have := Real.exp_pos (-r)
  rw [← EReal.coe_zero, EReal.coe_eq_coe_iff]
  positivity

end Cert.KernelIdeal.Ring
-- ==== Proof.Values.lean ====
/- The kernel's result block on a device, by the elements of the product of the whole arrays. -/
module

public import proofs.«01_k».proof.Proof.Sums
public import proofs.«01_k».proof.Proof.Clip

@[expose] public section

noncomputable section

namespace Cert.KernelIdeal.Ring

open Idealize.ShloMosaic Idealize.ShloMosaic.TcCoe
open Cert.KernelIdeal
open Facts₀ Facts

/-- A device's result, from the devices' parts of the product. -/
theorem res_apply (m : (ℓ : Loc nD τ sig) → Buf (Elt Ideal) ℓ) (c : Dev nD) (i : S128x8192.Idx) (r : Fin 4096) (j : Fin 8192)
    (hr : r.val = c.val * 128 + (i 0).val) (hj : j.val = (i 1).val) :
    res (F := Ideal) m c i = gated (∑ e : Dev nD, part (argX m e) (argW m e) r j) := by
  have hi : (i 1).val < 8192 := (i 1).isLt
  have e2 (a : Fin 128) (b : Fin 4096) : ix a b = ix2 a b := by
    funext k; match k with | ⟨0, _⟩ => rfl | ⟨1, _⟩ => rfl
  unfold res outOf
  split
  · next h =>
    refine (congrArg (act (sums m false 31 c)) (e2 (i 0) ⟨(i 1).val, h⟩)).trans ?_
    show gated (acc (F := Ideal) (argX m) (argW m) false 31 c (ix2 (i 0) ⟨(i 1).val, h⟩)) = _
    rw [acc_parts (argX m) (argW m) false c (i 0) ⟨(i 1).val, h⟩ r j hr (by show j.val = 0 + (i 1).val; omega)]
  · next h =>
    refine (congrArg (act (sums m true 31 c)) (e2 (i 0) ⟨(i 1).val - 4096, by omega⟩)).trans ?_
    show gated (acc (F := Ideal) (argX m) (argW m) true 31 c (ix2 (i 0) ⟨(i 1).val - 4096, _⟩)) = _
    rw [acc_parts (argX m) (argW m) true c (i 0) ⟨(i 1).val - 4096, _⟩ r j hr (by show j.val = 4096 + ((i 1).val - 4096); omega)]

/-- An element of the product of the whole arrays. -/
def full (x : Vec Ideal ⟨2, ![4096, 4096]⟩ .f32) (w : Vec Ideal ⟨2, ![4096, 8192]⟩ .f32) (r : Fin 4096) (j : Fin 8192) : EReal :=
  ∑ k : Fin 4096, x (ix2 r k) * w (ix2 k j)

/-- The devices' parts, each of its columns of the left operand and its rows of the right one, make up the product. -/
theorem sum_parts (X : Dev nD → Vec Ideal S4096x128 .f32) (W : Dev nD → Vec Ideal S128x8192 .f32)
    (x : Vec Ideal ⟨2, ![4096, 4096]⟩ .f32) (w : Vec Ideal ⟨2, ![4096, 8192]⟩ .f32)
    (hX : ∀ e, X e = Layout.block ⟨2, ![4096, 128]⟩ ⟨2, ![4096, 4096]⟩ 1 32 e x)
    (hW : ∀ e, W e = Layout.block ⟨2, ![128, 8192]⟩ ⟨2, ![4096, 8192]⟩ 0 32 e w) (r : Fin 4096) (j : Fin 8192) :
    ∑ e : Dev nD, part (X e) (W e) r j = full x w r j := by
  have hx (e : Dev nD) (k : Fin 128) : X e (ix2 r k) = x (ix2 r (finProdFinEquiv (e, k))) := by
    rw [hX, Layout.block_apply]
    congr 1
    funext b
    apply Fin.ext
    match b with
    | ⟨0, _⟩ => rfl
    | ⟨1, _⟩ => show e.val * 128 + k.val = k.val + 128 * e.val; omega
  have hw (e : Dev nD) (k : Fin 128) : W e (ix2 k j) = w (ix2 (finProdFinEquiv (e, k)) j) := by
    rw [hW, Layout.block_apply]
    congr 1
    funext b
    apply Fin.ext
    match b with
    | ⟨0, _⟩ => show e.val * 128 + k.val = k.val + 128 * e.val; omega
    | ⟨1, _⟩ => rfl
  unfold part full
  simp only [hx, hw]
  rw [← Fintype.sum_prod_type' fun (e : Fin 32) (k : Fin 128) => (x (ix2 r (finProdFinEquiv (e, k))) * w (ix2 (finProdFinEquiv (e, k)) j) : EReal)]
  exact finProdFinEquiv.sum_comp fun k : Fin (32 * 128) => (x (ix2 r k) * w (ix2 k j) : EReal)

/-- A device's result, when the operands are the blocks of two arrays: the elements of the arrays' product in the device's rows, gated. -/
theorem res_full (m : (ℓ : Loc nD τ sig) → Buf (Elt Ideal) ℓ) (x : Vec Ideal ⟨2, ![4096, 4096]⟩ .f32) (w : Vec Ideal ⟨2, ![4096, 8192]⟩ .f32)
    (hX : ∀ e, argX m e = Layout.block ⟨2, ![4096, 128]⟩ ⟨2, ![4096, 4096]⟩ 1 32 e x)
    (hW : ∀ e, argW m e = Layout.block ⟨2, ![128, 8192]⟩ ⟨2, ![4096, 8192]⟩ 0 32 e w)
    (c : Dev nD) (i : S128x8192.Idx) (r : Fin 4096) (j : Fin 8192) (hr : r.val = c.val * 128 + (i 0).val) (hj : j.val = (i 1).val) :
    res (F := Ideal) m c i = gated (full x w r j) := by
  rw [res_apply m c i r j hr hj, sum_parts (argX m) (argW m) x w hX hW r j]

end Cert.KernelIdeal.Ring
-- ==== Proof.Reference.lean ====
/- The reference's result, and the two conditions of the claims, by the elements of the product of the arrays. -/
module

public import proofs.«01_k».proof.Proof.Values
public import proofs.«01_k».proof.Defs
public import proofs.«01_k».proof.Proof.Gen.ReferenceIdeal.Run

@[expose] public section

noncomputable section

namespace Cert.Proof

open Idealize.ShloMosaic Idealize.ShloMosaic.TcCoe
open Cert.KernelIdeal.Ring

/-! ## The reference -/

/-- What the reference computes of its operands. -/
def refVal (x : Vec Ideal ⟨2, ![4096, 4096]⟩ .f32) (w : Vec Ideal ⟨2, ![4096, 8192]⟩ .f32) : Vec Ideal ⟨2, ![4096, 8192]⟩ .f32 := fun i =>
  clipped (full x w (i 0) (i 1))

section Ref

open Cert.ReferenceIdeal
open Cert.ReferenceIdeal.Facts₀ Cert.ReferenceIdeal.Facts

/-- The reference's operations, at an element. -/
theorem ref_value (x : FVec Ideal S4096x4096 .f32) (w : FVec Ideal S4096x8192 .f32) :
    Host.divf (F := Ideal) (Host.dotGeneral dot_S4096x4096_S4096x8192_S4096x8192_1_0_0_1_n_n none x w)
      (addf (broadcastInDim S4096x8192 ![] bcast_S_S4096x8192 (constant S_ .f32 0x3F800000#32))
        (Host.exp (Host.negf (minimumf (broadcastInDim S4096x8192 ![] bcast_S_S4096x8192 (id (constant S_ .f32 0x42700000#32)))
          (maximumf (broadcastInDim S4096x8192 ![] bcast_S_S4096x8192 (id (constant S_ .f32 0xC2700000#32)))
            (Host.dotGeneral dot_S4096x4096_S4096x8192_S4096x8192_1_0_0_1_n_n none x w))))))
      = refVal x w := by
  funext i
  rw [eq_ix2 i]
  unfold dot_S4096x4096_S4096x8192_S4096x8192_1_0_0_1_n_n refVal clipped full
  rw [← one_bits, ← sixty, ← neg_sixty]
  simp only [id_eq]
  pointwise

/-- From any memory the reference runs, its result is that, and its operands are kept. -/
theorem ref_run (m : (ℓ : Loc nD τ sig) → Buf (Elt Ideal) ℓ) (g : Dev nD → PrngReg) :
    θ_run (defs (F := Ideal)) (onTc (τ := τ) (main (F := Ideal))) ⟨m, fun _ => 0, g⟩ (fun r =>
      r.2.mem (((0 : Dev nD).tc : Thread nD τ).loc main_v6) = refVal (m (((0 : Dev nD).tc : Thread nD τ).loc main_arg0)) (m (((0 : Dev nD).tc : Thread nD τ).loc main_arg1))
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1)) :=
  (θ_run _ _ _).mono (fun _ h => ⟨(h 0).1.trans (ref_value _ _), (h 0).2.1, (h 0).2.2⟩) (Cert.ReferenceIdeal.Value.run m g)

end Ref

/-! ## The conditions -/

/-- A bound on an absolute value, from the word of the comparison. -/
theorem le_of_word {a q : EReal} (h : BitVec.ofBool (decide (max a (-a) ≤ q)) = 1#1) : max a (-a) ≤ q := by
  by_contra hn
  rw [decide_eq_false hn] at h
  exact absurd h (by decide)

/-- The condition on a device's part, at an element. -/
theorem unclipped_apply [Cert.Pre_unclipped_KernelIdeal.Facts] (X : Vec Ideal Cert.KernelIdeal.S4096x128 .f32) (W : Vec Ideal Cert.KernelIdeal.S128x8192 .f32)
    (r : Fin 4096) (j : Fin 8192) (h : Cert.Pre_unclipped_KernelIdeal.fn (F := Ideal) X W (ix2 r j) = 1#1) :
    max (part X W r j) (-part X W r j) ≤ ((1.875 : ℝ) : EReal) := by
  unfold Cert.Pre_unclipped_KernelIdeal.fn Cert.Pre_unclipped_KernelIdeal.dot_S4096x128_S128x8192_S4096x8192_1_0_0_1_n_n at h
  pointwise at h
  rw [← bound_bits]
  exact le_of_word h

/-- The condition on the product, at an element. -/
theorem linear_apply [Cert.On_linear.Facts] (x : Vec Ideal ⟨2, ![4096, 4096]⟩ .f32) (w : Vec Ideal ⟨2, ![4096, 8192]⟩ .f32)
    (r : Fin 4096) (j : Fin 8192) (h : Cert.On_linear.fn (F := Ideal) x w (ix2 r j) = 1#1) :
    max (full x w r j) (-full x w r j) ≤ ((60 : ℝ) : EReal) := by
  unfold Cert.On_linear.fn Cert.On_linear.dot_S4096x4096_S4096x8192_S4096x8192_1_0_0_1_n_n at h
  pointwise at h
  rw [← sixty]
  exact le_of_word h

end Cert.Proof
-- ==== Proof.Equal.lean ====
/- The kernel's results and the reference's: equal where the product stays within the bounds of the clipping. -/
module

public import proofs.«01_k».proof.Proof.Start
public import proofs.«01_k».proof.Proof.Reference

@[expose] public section

noncomputable section

namespace Cert.Proof

open Idealize.ShloMosaic Idealize.ShloMosaic.TcCoe
open Cert.KernelIdeal.Ring

/-- The devices' operands are the blocks of two arrays. -/
abbrev Cut (m : (ℓ : Loc Cert.KernelIdeal.nD Cert.KernelIdeal.τ Cert.KernelIdeal.sig) → Buf (Elt Ideal) ℓ)
    (x : Vec Ideal ⟨2, ![4096, 4096]⟩ .f32) (w : Vec Ideal ⟨2, ![4096, 8192]⟩ .f32) : Prop :=
  ∀ c : Dev Cert.KernelIdeal.nD,
    m ((c.tc : Thread Cert.KernelIdeal.nD Cert.KernelIdeal.τ).loc Cert.KernelIdeal.main_arg0) = Layout.block ⟨2, ![4096, 128]⟩ ⟨2, ![4096, 4096]⟩ 1 32 c x
    ∧ m ((c.tc : Thread Cert.KernelIdeal.nD Cert.KernelIdeal.τ).loc Cert.KernelIdeal.main_arg1) = Layout.block ⟨2, ![128, 8192]⟩ ⟨2, ![4096, 8192]⟩ 0 32 c w

section

variable (m : (ℓ : Loc Cert.KernelIdeal.nD Cert.KernelIdeal.τ Cert.KernelIdeal.sig) → Buf (Elt Ideal) ℓ)
  (x : Vec Ideal ⟨2, ![4096, 4096]⟩ .f32) (w : Vec Ideal ⟨2, ![4096, 8192]⟩ .f32)

/-- Where the product is within the bounds, a device's result is its block's element of the reference's. -/
theorem res_eq_ref (hc : Cut m x w) (c : Dev Cert.KernelIdeal.nD) (h : Layout.Tiles ⟨2, ![128, 8192]⟩ ⟨2, ![4096, 8192]⟩ 0 32)
    (i : (⟨2, ![128, 8192]⟩ : Shape).Idx)
    (hb : max (full x w (h.idx c i 0) (h.idx c i 1)) (-full x w (h.idx c i 0) (h.idx c i 1)) ≤ ((60 : ℝ) : EReal)) :
    res (F := Ideal) m c i = refVal x w (h.idx c i) := by
  rw [res_full m x w (fun e => (hc e).1) (fun e => (hc e).2) c i (h.idx c i 0) (h.idx c i 1) rfl rfl]
  exact (clipped_eq _ hb).symm

/-- If no device's part exceeds its bound, no element of the product exceeds the clipping's. -/
theorem bounded [Cert.Pre_unclipped_KernelIdeal.Facts] (hp : Cert.Pre_KernelIdeal_unclipped_KernelIdeal m) (hc : Cut m x w) (r : Fin 4096) (j : Fin 8192) :
    max (full x w r j) (-full x w r j) ≤ ((60 : ℝ) : EReal) := by
  rw [← sum_parts (argX m) (argW m) x w (fun e => (hc e).1) (fun e => (hc e).2) r j]
  refine (sum_abs_le (fun e : Fin 32 => part (argX m e) (argW m e) r j) 1.875 fun e =>
    unclipped_apply (argX m e) (argW m e) r j (congrFun (hp e) (ix2 r j))).trans ?_
  rw [EReal.coe_le_coe_iff]
  norm_num

end

/-- The value claim of inputs that the clipping does not touch. -/
theorem algebraic_unclipped [Cert.Pre_unclipped_KernelIdeal.Facts] : Cert.algebraic_KernelIdeal_ReferenceIdeal_pre_unclipped_KernelIdeal :=
  fun m g m' g' hp hc =>
    ⟨refVal (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1)),
      (θ_run Cert.KernelIdeal.defs _ _).mono
        (fun _ h c => ⟨(h.1 c).1.trans (funext fun i => res_eq_ref m _ _ hc c (by decide) i (bounded m _ _ hp hc _ _)), (h.1 c).2⟩)
        (run_main (F := Ideal) m g),
      ref_run m' g'⟩

/-- The value claim of any inputs, at the elements that the clipping does not touch. -/
theorem algebraic_linear [Cert.On_linear.Facts] : Cert.algebraic_KernelIdeal_ReferenceIdeal_on_linear :=
  fun m g m' g' _ hc =>
    ⟨refVal (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1)),
      (θ_run Cert.KernelIdeal.defs _ _).mono
        (fun _ h c => ⟨fun i hi => (congrFun (h.1 c).1 i).trans (res_eq_ref m _ _ hc c (by decide) i
          (linear_apply _ _ _ _ (by rw [← eq_ix2]; exact hi))), (h.1 c).2⟩)
        (run_main (F := Ideal) m g),
      (θ_run Cert.ReferenceIdeal.defs _ _).mono (fun _ h => ⟨fun i _ => congrFun h.1 i, h.2⟩) (ref_run m' g')⟩

end Cert.Proof
-- ==== Proof.lean ====
module

public import proofs.«01_k».proof.Proof.Frames
public import proofs.«01_k».proof.Proof.Equal
public import proofs.«01_k».proof.Proof.Gen.ReferenceIdeal.Run

@[expose] public section

noncomputable section

namespace Cert.Proof

/-- The side conditions of the predicates. -/
theorem facts_unclipped : Cert.Pre_unclipped_KernelIdeal.Facts := ⟨by decide, by decide⟩
theorem facts_unclipped_reference : Cert.Pre_unclipped_ReferenceIdeal.Facts := ⟨by decide, by decide⟩
theorem facts_linear : Cert.On_linear.Facts := ⟨by decide, by decide⟩

/-- Everything the certificate claims. -/
theorem claim : Cert.Claim := ⟨Cert.Kernel.Gen.facts, Cert.KernelIdeal.Gen.facts, Cert.ReferenceIdeal.Gen.facts,
  facts_unclipped, facts_unclipped_reference, facts_linear,
  frame_kernel, frame_kernelIdeal, fun m g _ => frame_kernelIdeal m g trivial,
  frame_referenceIdeal, fun m g _ => frame_referenceIdeal m g trivial, trivial,
  @algebraic_unclipped facts_unclipped, @algebraic_linear facts_linear⟩

end Cert.Proof

end
